-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "floor" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x256 : Shape := ⟨3, ![2, 256, 256]⟩
abbrev S2x16x256 : Shape := ⟨3, ![2, 16, 256]⟩
abbrev S2x256x16 : Shape := ⟨3, ![2, 256, 16]⟩
abbrev S256x128 : Shape := ⟨2, ![256, 128]⟩
abbrev S128 : Shape := ⟨1, ![128]⟩
abbrev S128x128 : Shape := ⟨2, ![128, 128]⟩
abbrev S2x272x256 : Shape := ⟨3, ![2, 272, 256]⟩
abbrev S1x128 : Shape := ⟨2, ![1, 128]⟩
abbrev S256x256 : Shape := ⟨2, ![256, 256]⟩
abbrev S1x272x256 : Shape := ⟨3, ![1, 272, 256]⟩
abbrev S272x256 : Shape := ⟨2, ![272, 256]⟩
abbrev S272x128 : Shape := ⟨2, ![272, 128]⟩
abbrev S272x32 : Shape := ⟨2, ![272, 32]⟩
abbrev S272x272 : Shape := ⟨2, ![272, 272]⟩
abbrev S272 : Shape := ⟨1, ![272]⟩
abbrev S272x1 : Shape := ⟨2, ![272, 1]⟩
abbrev S256x384 : Shape := ⟨2, ![256, 384]⟩
abbrev S16x128 : Shape := ⟨2, ![16, 128]⟩
abbrev S16x256 : Shape := ⟨2, ![16, 256]⟩
abbrev S16x384 : Shape := ⟨2, ![16, 384]⟩
abbrev S256x1x384 : Shape := ⟨3, ![256, 1, 384]⟩
abbrev S1x16x384 : Shape := ⟨3, ![1, 16, 384]⟩
abbrev S256x16x384 : Shape := ⟨3, ![256, 16, 384]⟩
abbrev S256x16 : Shape := ⟨2, ![256, 16]⟩
abbrev S240x384 : Shape := ⟨2, ![240, 384]⟩
abbrev S240x1x384 : Shape := ⟨3, ![240, 1, 384]⟩
abbrev S240x16x384 : Shape := ⟨3, ![240, 16, 384]⟩
abbrev S240x16 : Shape := ⟨2, ![240, 16]⟩
abbrev S16x16 : Shape := ⟨2, ![16, 16]⟩
abbrev S224x384 : Shape := ⟨2, ![224, 384]⟩
abbrev S224x1x384 : Shape := ⟨3, ![224, 1, 384]⟩
abbrev S224x16x384 : Shape := ⟨3, ![224, 16, 384]⟩
abbrev S224x16 : Shape := ⟨2, ![224, 16]⟩
abbrev S32x16 : Shape := ⟨2, ![32, 16]⟩
abbrev S208x384 : Shape := ⟨2, ![208, 384]⟩
abbrev S208x1x384 : Shape := ⟨3, ![208, 1, 384]⟩
abbrev S208x16x384 : Shape := ⟨3, ![208, 16, 384]⟩
abbrev S208x16 : Shape := ⟨2, ![208, 16]⟩
abbrev S48x16 : Shape := ⟨2, ![48, 16]⟩
abbrev S192x384 : Shape := ⟨2, ![192, 384]⟩
abbrev S192x1x384 : Shape := ⟨3, ![192, 1, 384]⟩
abbrev S192x16x384 : Shape := ⟨3, ![192, 16, 384]⟩
abbrev S192x16 : Shape := ⟨2, ![192, 16]⟩
abbrev S64x16 : Shape := ⟨2, ![64, 16]⟩
abbrev S176x384 : Shape := ⟨2, ![176, 384]⟩
abbrev S176x1x384 : Shape := ⟨3, ![176, 1, 384]⟩
abbrev S176x16x384 : Shape := ⟨3, ![176, 16, 384]⟩
abbrev S176x16 : Shape := ⟨2, ![176, 16]⟩
abbrev S80x16 : Shape := ⟨2, ![80, 16]⟩
abbrev S160x384 : Shape := ⟨2, ![160, 384]⟩
abbrev S160x1x384 : Shape := ⟨3, ![160, 1, 384]⟩
abbrev S160x16x384 : Shape := ⟨3, ![160, 16, 384]⟩
abbrev S160x16 : Shape := ⟨2, ![160, 16]⟩
abbrev S96x16 : Shape := ⟨2, ![96, 16]⟩
abbrev S144x384 : Shape := ⟨2, ![144, 384]⟩
abbrev S144x1x384 : Shape := ⟨3, ![144, 1, 384]⟩
abbrev S144x16x384 : Shape := ⟨3, ![144, 16, 384]⟩
abbrev S144x16 : Shape := ⟨2, ![144, 16]⟩
abbrev S112x16 : Shape := ⟨2, ![112, 16]⟩
abbrev S128x384 : Shape := ⟨2, ![128, 384]⟩
abbrev S128x1x384 : Shape := ⟨3, ![128, 1, 384]⟩
abbrev S128x16x384 : Shape := ⟨3, ![128, 16, 384]⟩
abbrev S128x16 : Shape := ⟨2, ![128, 16]⟩
abbrev S112x384 : Shape := ⟨2, ![112, 384]⟩
abbrev S112x1x384 : Shape := ⟨3, ![112, 1, 384]⟩
abbrev S112x16x384 : Shape := ⟨3, ![112, 16, 384]⟩
abbrev S96x384 : Shape := ⟨2, ![96, 384]⟩
abbrev S96x1x384 : Shape := ⟨3, ![96, 1, 384]⟩
abbrev S96x16x384 : Shape := ⟨3, ![96, 16, 384]⟩
abbrev S80x384 : Shape := ⟨2, ![80, 384]⟩
abbrev S80x1x384 : Shape := ⟨3, ![80, 1, 384]⟩
abbrev S80x16x384 : Shape := ⟨3, ![80, 16, 384]⟩
abbrev S64x384 : Shape := ⟨2, ![64, 384]⟩
abbrev S64x1x384 : Shape := ⟨3, ![64, 1, 384]⟩
abbrev S64x16x384 : Shape := ⟨3, ![64, 16, 384]⟩
abbrev S48x384 : Shape := ⟨2, ![48, 384]⟩
abbrev S48x1x384 : Shape := ⟨3, ![48, 1, 384]⟩
abbrev S48x16x384 : Shape := ⟨3, ![48, 16, 384]⟩
abbrev S32x384 : Shape := ⟨2, ![32, 384]⟩
abbrev S32x1x384 : Shape := ⟨3, ![32, 1, 384]⟩
abbrev S32x16x384 : Shape := ⟨3, ![32, 16, 384]⟩
abbrev S16x1x384 : Shape := ⟨3, ![16, 1, 384]⟩
abbrev S16x16x384 : Shape := ⟨3, ![16, 16, 384]⟩
abbrev S1x256x16 : Shape := ⟨3, ![1, 256, 16]⟩
abbrev S1x16x256 : Shape := ⟨3, ![1, 16, 256]⟩
abbrev S256 : Shape := ⟨1, ![256]⟩
abbrev S1x256 : Shape := ⟨2, ![1, 256]⟩
abbrev S16 : Shape := ⟨1, ![16]⟩
abbrev S16x1 : Shape := ⟨2, ![16, 1]⟩
abbrev S32x256 : Shape := ⟨2, ![32, 256]⟩
abbrev S32x1 : Shape := ⟨2, ![32, 1]⟩
abbrev S32 : Shape := ⟨1, ![32]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 18
  | .vmem => 12
  | .smem => 0
  | _ => 0

abbrev bufTy : (tb : Table) → Fin (tcTables nBuf tb) → BufTy
  | .hbm, ⟨0, _⟩ => ⟨S2x256x256, .f32⟩
  | .hbm, ⟨1, _⟩ => ⟨S2x16x256, .f32⟩
  | .hbm, ⟨2, _⟩ => ⟨S2x256x16, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x272x256, .f32⟩
  | .hbm, ⟨12, _⟩ => ⟨S2x16x256, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S2x256x16, .f32⟩
  | .local _ .vmem, ⟨0, _⟩ => ⟨S2x272x256, .f32⟩
  | .local _ .vmem, ⟨1, _⟩ => ⟨S2x256x16, .f32⟩
  | .local _ .vmem, ⟨2, _⟩ => ⟨S2x16x256, .f32⟩
  | .local _ .vmem, ⟨3, _⟩ => ⟨S256x128, .f32⟩
  | .local _ .vmem, ⟨4, _⟩ => ⟨S1x128, .f32⟩
  | .local _ .vmem, ⟨5, _⟩ => ⟨S256x128, .f32⟩
  | .local _ .vmem, ⟨6, _⟩ => ⟨S1x128, .f32⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S2x256x16, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x272x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "floor" => some ⊥
  | _ => none
-- ==== ReferenceIdeal.lean ====
abbrev S2x256x256 : Shape := ⟨3, ![2, 256, 256]⟩
abbrev S2x16x256 : Shape := ⟨3, ![2, 16, 256]⟩
abbrev S2x256x16 : Shape := ⟨3, ![2, 256, 16]⟩
abbrev S256x128 : Shape := ⟨2, ![256, 128]⟩
abbrev S128 : Shape := ⟨1, ![128]⟩
abbrev S128x128 : Shape := ⟨2, ![128, 128]⟩
abbrev S2x272x256 : Shape := ⟨3, ![2, 272, 256]⟩
abbrev S2x272x128 : Shape := ⟨3, ![2, 272, 128]⟩
abbrev S1x1x128 : Shape := ⟨3, ![1, 1, 128]⟩
abbrev S2x272x4x32 : Shape := ⟨4, ![2, 272, 4, 32]⟩
abbrev S2x4x272x32 : Shape := ⟨4, ![2, 4, 272, 32]⟩
abbrev S2x4x32x272 : Shape := ⟨4, ![2, 4, 32, 272]⟩
abbrev S2x4x272x272 : Shape := ⟨4, ![2, 4, 272, 272]⟩
abbrev S_ : Shape := ⟨0, ![]⟩
abbrev S2x4x272 : Shape := ⟨3, ![2, 4, 272]⟩
abbrev S2x4x272x1 : Shape := ⟨4, ![2, 4, 272, 1]⟩
abbrev S2x272x384 : Shape := ⟨3, ![2, 272, 384]⟩
abbrev S2x16x384 : Shape := ⟨3, ![2, 16, 384]⟩
abbrev S2x256x384 : Shape := ⟨3, ![2, 256, 384]⟩
abbrev S2x256x1x384 : Shape := ⟨4, ![2, 256, 1, 384]⟩
abbrev S2x1x256x384 : Shape := ⟨4, ![2, 1, 256, 384]⟩
abbrev S2x256x256x384 : Shape := ⟨4, ![2, 256, 256, 384]⟩
abbrev S256x256 : Shape := ⟨2, ![256, 256]⟩
abbrev S1x256x256 : Shape := ⟨3, ![1, 256, 256]⟩
abbrev S2x256 : Shape := ⟨2, ![2, 256]⟩
abbrev S2x1x256 : Shape := ⟨3, ![2, 1, 256]⟩
abbrev S2x16 : Shape := ⟨2, ![2, 16]⟩
abbrev S2x16x1 : Shape := ⟨3, ![2, 16, 1]⟩
abbrev S2x1x16x384 : Shape := ⟨4, ![2, 1, 16, 384]⟩
abbrev S2x256x16x384 : Shape := ⟨4, ![2, 256, 16, 384]⟩
abbrev S2x16x16 : Shape := ⟨3, ![2, 16, 16]⟩
abbrev S1x2x256x16 : Shape := ⟨4, ![1, 2, 256, 16]⟩
abbrev S4x2x256x16 : Shape := ⟨4, ![4, 2, 256, 16]⟩

abbrev nBuf : Space → Nat
  | .hbm => 542
  | .vmem => 0
  | .smem => 0
  | _ => 0

abbrev hbmTy0_0 (i : Nat) : BufTy := match i % 128 with
  | 0 => ⟨S2x256x256, .f32⟩
  | 1 => ⟨S2x16x256, .f32⟩
  | 2 => ⟨S2x256x16, .f32⟩
  | 3 => ⟨S256x128, .f32⟩
  | 4 => ⟨S128, .f32⟩
  | 5 => ⟨S256x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S2x272x256, .f32⟩
  | 12 => ⟨S2x272x128, .f32⟩
  | 13 => ⟨S1x1x128, .f32⟩
  | 14 => ⟨S2x272x128, .f32⟩
  | 15 => ⟨S2x272x128, .f32⟩
  | 16 => ⟨S2x272x4x32, .f32⟩
  | 17 => ⟨S2x4x272x32, .f32⟩
  | 18 => ⟨S2x272x128, .f32⟩
  | 19 => ⟨S1x1x128, .f32⟩
  | 20 => ⟨S2x272x128, .f32⟩
  | 21 => ⟨S2x272x128, .f32⟩
  | 22 => ⟨S2x272x4x32, .f32⟩
  | 23 => ⟨S2x4x272x32, .f32⟩
  | 24 => ⟨S2x272x128, .f32⟩
  | 25 => ⟨S1x1x128, .f32⟩
  | 26 => ⟨S2x272x128, .f32⟩
  | 27 => ⟨S2x272x128, .f32⟩
  | 28 => ⟨S2x272x4x32, .f32⟩
  | 29 => ⟨S2x4x272x32, .f32⟩
  | 30 => ⟨S2x4x32x272, .f32⟩
  | 31 => ⟨S2x4x272x272, .f32⟩
  | 32 => ⟨S_, .f32⟩
  | 33 => ⟨S2x4x272, .f32⟩
  | 34 => ⟨S_, .f32⟩
  | 35 => ⟨S2x4x272, .f32⟩
  | 36 => ⟨S2x4x272, .f32⟩
  | 37 => ⟨S2x4x272x1, .f32⟩
  | 38 => ⟨S2x4x272x272, .f32⟩
  | 39 => ⟨S2x4x272x272, .f32⟩
  | 40 => ⟨S2x4x272x272, .f32⟩
  | 41 => ⟨S_, .f32⟩
  | 42 => ⟨S2x4x272, .f32⟩
  | 43 => ⟨S2x4x272x1, .f32⟩
  | 44 => ⟨S2x4x272x272, .f32⟩
  | 45 => ⟨S2x4x272x272, .f32⟩
  | 46 => ⟨S2x4x272x32, .f32⟩
  | 47 => ⟨S2x272x4x32, .f32⟩
  | 48 => ⟨S2x272x128, .f32⟩
  | 49 => ⟨S2x272x128, .f32⟩
  | 50 => ⟨S1x1x128, .f32⟩
  | 51 => ⟨S2x272x128, .f32⟩
  | 52 => ⟨S2x272x128, .f32⟩
  | 53 => ⟨S2x272x384, .f32⟩
  | 54 => ⟨S2x16x384, .f32⟩
  | 55 => ⟨S2x256x384, .f32⟩
  | 56 => ⟨S2x256x1x384, .f32⟩
  | 57 => ⟨S2x1x256x384, .f32⟩
  | 58 => ⟨S2x256x256x384, .f32⟩
  | 59 => ⟨S2x256x256x384, .f32⟩
  | 60 => ⟨S2x256x256x384, .f32⟩
  | 61 => ⟨S2x256x256x384, .f32⟩
  | 62 => ⟨S_, .f32⟩
  | 63 => ⟨S2x256x256, .f32⟩
  | 64 => ⟨S_, .f32⟩
  | 65 => ⟨S2x256x256, .f32⟩
  | 66 => ⟨S2x256x256, .f32⟩
  | 67 => ⟨S2x256x256, .f32⟩
  | 68 => ⟨S2x256x256, .f32⟩
  | 69 => ⟨S256x256, .i32⟩
  | 70 => ⟨S256x256, .i32⟩
  | 71 => ⟨S_, .i32⟩
  | 72 => ⟨S256x256, .i32⟩
  | 73 => ⟨S256x256, .i32⟩
  | 74 => ⟨S256x256, .i1⟩
  | 75 => ⟨S256x256, .f32⟩
  | 76 => ⟨S1x256x256, .f32⟩
  | 77 => ⟨S_, .f32⟩
  | 78 => ⟨S1x256x256, .f32⟩
  | 79 => ⟨S1x256x256, .f32⟩
  | 80 => ⟨S2x256x256, .f32⟩
  | 81 => ⟨S2x256x256, .f32⟩
  | 82 => ⟨S2x16x256, .f32⟩
  | 83 => ⟨S2x256x256, .f32⟩
  | 84 => ⟨S2x256x256, .f32⟩
  | 85 => ⟨S_, .f32⟩
  | 86 => ⟨S2x256x256, .f32⟩
  | 87 => ⟨S2x256x256, .f32⟩
  | 88 => ⟨S_, .f32⟩
  | 89 => ⟨S2x256x256, .f32⟩
  | 90 => ⟨S2x256x256, .f32⟩
  | 91 => ⟨S2x256x256, .f32⟩
  | 92 => ⟨S_, .f32⟩
  | 93 => ⟨S2x256, .f32⟩
  | 94 => ⟨S2x16x256, .f32⟩
  | 95 => ⟨S2x1x256, .f32⟩
  | 96 => ⟨S2x16x256, .f32⟩
  | 97 => ⟨S2x16x256, .f32⟩
  | 98 => ⟨S_, .f32⟩
  | 99 => ⟨S2x16x256, .f32⟩
  | 100 => ⟨S2x16x256, .f32⟩
  | 101 => ⟨S_, .f32⟩
  | 102 => ⟨S2x16x256, .f32⟩
  | 103 => ⟨S2x16x256, .f32⟩
  | 104 => ⟨S2x16x256, .f32⟩
  | 105 => ⟨S_, .f32⟩
  | 106 => ⟨S2x16, .f32⟩
  | 107 => ⟨S_, .f32⟩
  | 108 => ⟨S2x16, .f32⟩
  | 109 => ⟨S2x16, .f32⟩
  | 110 => ⟨S2x16x1, .f32⟩
  | 111 => ⟨S2x16x256, .f32⟩
  | 112 => ⟨S2x16x256, .f32⟩
  | 113 => ⟨S2x16x256, .f32⟩
  | 114 => ⟨S_, .f32⟩
  | 115 => ⟨S2x16, .f32⟩
  | 116 => ⟨S2x16x1, .f32⟩
  | 117 => ⟨S2x16x256, .f32⟩
  | 118 => ⟨S2x16x256, .f32⟩
  | 119 => ⟨S2x16x384, .f32⟩
  | 120 => ⟨S_, .f32⟩
  | 121 => ⟨S2x16x384, .f32⟩
  | 122 => ⟨S2x16x384, .f32⟩
  | 123 => ⟨S_, .f32⟩
  | 124 => ⟨S2x16x384, .f32⟩
  | 125 => ⟨S2x16x384, .f32⟩
  | 126 => ⟨S2x16x384, .f32⟩
  | 127 => ⟨S2x256x1x384, .f32⟩
  | _ => ⟨S2x256x256, .f32⟩

abbrev hbmTy0_1 (i : Nat) : BufTy := match i % 128 with
  | 0 => ⟨S2x1x16x384, .f32⟩
  | 1 => ⟨S2x256x16x384, .f32⟩
  | 2 => ⟨S2x256x16x384, .f32⟩
  | 3 => ⟨S2x256x16x384, .f32⟩
  | 4 => ⟨S2x256x16x384, .f32⟩
  | 5 => ⟨S_, .f32⟩
  | 6 => ⟨S2x256x16, .f32⟩
  | 7 => ⟨S2x256x16, .f32⟩
  | 8 => ⟨S2x16x256, .f32⟩
  | 9 => ⟨S_, .f32⟩
  | 10 => ⟨S2x16x256, .f32⟩
  | 11 => ⟨S_, .i32⟩
  | 12 => ⟨S_, .i1⟩
  | 13 => ⟨S_, .i32⟩
  | 14 => ⟨S_, .i32⟩
  | 15 => ⟨S_, .i32⟩
  | 16 => ⟨S2x16x256, .f32⟩
  | 17 => ⟨S2x16x256, .f32⟩
  | 18 => ⟨S_, .i1⟩
  | 19 => ⟨S_, .i32⟩
  | 20 => ⟨S_, .i1⟩
  | 21 => ⟨S_, .i32⟩
  | 22 => ⟨S_, .i32⟩
  | 23 => ⟨S2x16x16, .f32⟩
  | 24 => ⟨S2x16x16, .i32⟩
  | 25 => ⟨S2x16x1, .f32⟩
  | 26 => ⟨S2x16x256, .f32⟩
  | 27 => ⟨S2x16x256, .i1⟩
  | 28 => ⟨S2x16x256, .f32⟩
  | 29 => ⟨S2x16x256, .f32⟩
  | 30 => ⟨S_, .f32⟩
  | 31 => ⟨S2x256, .f32⟩
  | 32 => ⟨S_, .f32⟩
  | 33 => ⟨S2x256, .f32⟩
  | 34 => ⟨S2x256, .i1⟩
  | 35 => ⟨S_, .i1⟩
  | 36 => ⟨S_, .i1⟩
  | 37 => ⟨S_, .i1⟩
  | 38 => ⟨S_, .f32⟩
  | 39 => ⟨S2x16x256, .f32⟩
  | 40 => ⟨S2x16x256, .f32⟩
  | 41 => ⟨S_, .f32⟩
  | 42 => ⟨S2x16x256, .f32⟩
  | 43 => ⟨S2x16x256, .f32⟩
  | 44 => ⟨S2x16x256, .f32⟩
  | 45 => ⟨S_, .f32⟩
  | 46 => ⟨S2x256, .f32⟩
  | 47 => ⟨S2x1x256, .f32⟩
  | 48 => ⟨S2x16x256, .f32⟩
  | 49 => ⟨S2x16x256, .i1⟩
  | 50 => ⟨S2x16x256, .f32⟩
  | 51 => ⟨S2x16x256, .f32⟩
  | 52 => ⟨S_, .f32⟩
  | 53 => ⟨S2x256, .f32⟩
  | 54 => ⟨S_, .f32⟩
  | 55 => ⟨S2x256, .f32⟩
  | 56 => ⟨S2x256, .i1⟩
  | 57 => ⟨S2x256, .f32⟩
  | 58 => ⟨S2x1x256, .f32⟩
  | 59 => ⟨S_, .f32⟩
  | 60 => ⟨S2x1x256, .f32⟩
  | 61 => ⟨S2x1x256, .f32⟩
  | 62 => ⟨S2x16x256, .f32⟩
  | 63 => ⟨S2x16x256, .f32⟩
  | 64 => ⟨S_, .f32⟩
  | 65 => ⟨S2x256, .f32⟩
  | 66 => ⟨S_, .f32⟩
  | 67 => ⟨S2x256, .f32⟩
  | 68 => ⟨S2x256, .i1⟩
  | 69 => ⟨S2x256, .f32⟩
  | 70 => ⟨S2x1x256, .f32⟩
  | 71 => ⟨S_, .f32⟩
  | 72 => ⟨S2x1x256, .f32⟩
  | 73 => ⟨S2x1x256, .f32⟩
  | 74 => ⟨S2x16x256, .f32⟩
  | 75 => ⟨S2x16x256, .f32⟩
  | 76 => ⟨S2x16x256, .f32⟩
  | 77 => ⟨S_, .f32⟩
  | 78 => ⟨S2x16x256, .f32⟩
  | 79 => ⟨S2x16x256, .f32⟩
  | 80 => ⟨S2x16x256, .f32⟩
  | 81 => ⟨S2x16x256, .f32⟩
  | 82 => ⟨S2x16x256, .f32⟩
  | 83 => ⟨S_, .i32⟩
  | 84 => ⟨S_, .i32⟩
  | 85 => ⟨S2x256x16, .f32⟩
  | 86 => ⟨S2x16x256, .f32⟩
  | 87 => ⟨S2x256x256, .f32⟩
  | 88 => ⟨S2x256x256, .f32⟩
  | 89 => ⟨S_, .f32⟩
  | 90 => ⟨S2x256x256, .f32⟩
  | 91 => ⟨S2x256x256, .f32⟩
  | 92 => ⟨S_, .f32⟩
  | 93 => ⟨S2x256x256, .f32⟩
  | 94 => ⟨S2x256x256, .f32⟩
  | 95 => ⟨S2x256x256, .f32⟩
  | 96 => ⟨S_, .f32⟩
  | 97 => ⟨S2x256, .f32⟩
  | 98 => ⟨S2x16x256, .f32⟩
  | 99 => ⟨S2x1x256, .f32⟩
  | 100 => ⟨S2x16x256, .f32⟩
  | 101 => ⟨S2x16x256, .f32⟩
  | 102 => ⟨S_, .f32⟩
  | 103 => ⟨S2x16x256, .f32⟩
  | 104 => ⟨S2x16x256, .f32⟩
  | 105 => ⟨S_, .f32⟩
  | 106 => ⟨S2x16x256, .f32⟩
  | 107 => ⟨S2x16x256, .f32⟩
  | 108 => ⟨S2x16x256, .f32⟩
  | 109 => ⟨S_, .f32⟩
  | 110 => ⟨S2x16, .f32⟩
  | 111 => ⟨S_, .f32⟩
  | 112 => ⟨S2x16, .f32⟩
  | 113 => ⟨S2x16, .f32⟩
  | 114 => ⟨S2x16x1, .f32⟩
  | 115 => ⟨S2x16x256, .f32⟩
  | 116 => ⟨S2x16x256, .f32⟩
  | 117 => ⟨S2x16x256, .f32⟩
  | 118 => ⟨S_, .f32⟩
  | 119 => ⟨S2x16, .f32⟩
  | 120 => ⟨S2x16x1, .f32⟩
  | 121 => ⟨S2x16x256, .f32⟩
  | 122 => ⟨S2x16x256, .f32⟩
  | 123 => ⟨S2x16x384, .f32⟩
  | 124 => ⟨S_, .f32⟩
  | 125 => ⟨S2x16x384, .f32⟩
  | 126 => ⟨S2x16x384, .f32⟩
  | 127 => ⟨S_, .f32⟩
  | _ => ⟨S2x256x256, .f32⟩

abbrev hbmTy0_2 (i : Nat) : BufTy := match i % 128 with
  | 0 => ⟨S2x16x384, .f32⟩
  | 1 => ⟨S2x16x384, .f32⟩
  | 2 => ⟨S2x16x384, .f32⟩
  | 3 => ⟨S2x256x1x384, .f32⟩
  | 4 => ⟨S2x1x16x384, .f32⟩
  | 5 => ⟨S2x256x16x384, .f32⟩
  | 6 => ⟨S2x256x16x384, .f32⟩
  | 7 => ⟨S2x256x16x384, .f32⟩
  | 8 => ⟨S2x256x16x384, .f32⟩
  | 9 => ⟨S_, .f32⟩
  | 10 => ⟨S2x256x16, .f32⟩
  | 11 => ⟨S2x256x16, .f32⟩
  | 12 => ⟨S2x16x256, .f32⟩
  | 13 => ⟨S_, .f32⟩
  | 14 => ⟨S2x16x256, .f32⟩
  | 15 => ⟨S_, .i32⟩
  | 16 => ⟨S_, .i1⟩
  | 17 => ⟨S_, .i32⟩
  | 18 => ⟨S_, .i32⟩
  | 19 => ⟨S_, .i32⟩
  | 20 => ⟨S2x16x256, .f32⟩
  | 21 => ⟨S2x16x256, .f32⟩
  | 22 => ⟨S_, .i1⟩
  | 23 => ⟨S_, .i32⟩
  | 24 => ⟨S_, .i1⟩
  | 25 => ⟨S_, .i32⟩
  | 26 => ⟨S_, .i32⟩
  | 27 => ⟨S2x16x16, .f32⟩
  | 28 => ⟨S2x16x16, .i32⟩
  | 29 => ⟨S2x16x1, .f32⟩
  | 30 => ⟨S2x16x256, .f32⟩
  | 31 => ⟨S2x16x256, .i1⟩
  | 32 => ⟨S2x16x256, .f32⟩
  | 33 => ⟨S2x16x256, .f32⟩
  | 34 => ⟨S_, .f32⟩
  | 35 => ⟨S2x256, .f32⟩
  | 36 => ⟨S_, .f32⟩
  | 37 => ⟨S2x256, .f32⟩
  | 38 => ⟨S2x256, .i1⟩
  | 39 => ⟨S_, .i1⟩
  | 40 => ⟨S_, .i1⟩
  | 41 => ⟨S_, .i1⟩
  | 42 => ⟨S_, .f32⟩
  | 43 => ⟨S2x16x256, .f32⟩
  | 44 => ⟨S2x16x256, .f32⟩
  | 45 => ⟨S_, .f32⟩
  | 46 => ⟨S2x16x256, .f32⟩
  | 47 => ⟨S2x16x256, .f32⟩
  | 48 => ⟨S2x16x256, .f32⟩
  | 49 => ⟨S_, .f32⟩
  | 50 => ⟨S2x256, .f32⟩
  | 51 => ⟨S2x1x256, .f32⟩
  | 52 => ⟨S2x16x256, .f32⟩
  | 53 => ⟨S2x16x256, .i1⟩
  | 54 => ⟨S2x16x256, .f32⟩
  | 55 => ⟨S2x16x256, .f32⟩
  | 56 => ⟨S_, .f32⟩
  | 57 => ⟨S2x256, .f32⟩
  | 58 => ⟨S_, .f32⟩
  | 59 => ⟨S2x256, .f32⟩
  | 60 => ⟨S2x256, .i1⟩
  | 61 => ⟨S2x256, .f32⟩
  | 62 => ⟨S2x1x256, .f32⟩
  | 63 => ⟨S_, .f32⟩
  | 64 => ⟨S2x1x256, .f32⟩
  | 65 => ⟨S2x1x256, .f32⟩
  | 66 => ⟨S2x16x256, .f32⟩
  | 67 => ⟨S2x16x256, .f32⟩
  | 68 => ⟨S_, .f32⟩
  | 69 => ⟨S2x256, .f32⟩
  | 70 => ⟨S_, .f32⟩
  | 71 => ⟨S2x256, .f32⟩
  | 72 => ⟨S2x256, .i1⟩
  | 73 => ⟨S2x256, .f32⟩
  | 74 => ⟨S2x1x256, .f32⟩
  | 75 => ⟨S_, .f32⟩
  | 76 => ⟨S2x1x256, .f32⟩
  | 77 => ⟨S2x1x256, .f32⟩
  | 78 => ⟨S2x16x256, .f32⟩
  | 79 => ⟨S2x16x256, .f32⟩
  | 80 => ⟨S2x16x256, .f32⟩
  | 81 => ⟨S_, .f32⟩
  | 82 => ⟨S2x16x256, .f32⟩
  | 83 => ⟨S2x16x256, .f32⟩
  | 84 => ⟨S2x16x256, .f32⟩
  | 85 => ⟨S2x16x256, .f32⟩
  | 86 => ⟨S2x16x256, .f32⟩
  | 87 => ⟨S_, .i32⟩
  | 88 => ⟨S_, .i32⟩
  | 89 => ⟨S2x256x16, .f32⟩
  | 90 => ⟨S2x16x256, .f32⟩
  | 91 => ⟨S2x256x256, .f32⟩
  | 92 => ⟨S2x256x256, .f32⟩
  | 93 => ⟨S_, .f32⟩
  | 94 => ⟨S2x256x256, .f32⟩
  | 95 => ⟨S2x256x256, .f32⟩
  | 96 => ⟨S_, .f32⟩
  | 97 => ⟨S2x256x256, .f32⟩
  | 98 => ⟨S2x256x256, .f32⟩
  | 99 => ⟨S2x256x256, .f32⟩
  | 100 => ⟨S_, .f32⟩
  | 101 => ⟨S2x256, .f32⟩
  | 102 => ⟨S2x16x256, .f32⟩
  | 103 => ⟨S2x1x256, .f32⟩
  | 104 => ⟨S2x16x256, .f32⟩
  | 105 => ⟨S2x16x256, .f32⟩
  | 106 => ⟨S_, .f32⟩
  | 107 => ⟨S2x16x256, .f32⟩
  | 108 => ⟨S2x16x256, .f32⟩
  | 109 => ⟨S_, .f32⟩
  | 110 => ⟨S2x16x256, .f32⟩
  | 111 => ⟨S2x16x256, .f32⟩
  | 112 => ⟨S2x16x256, .f32⟩
  | 113 => ⟨S_, .f32⟩
  | 114 => ⟨S2x16, .f32⟩
  | 115 => ⟨S_, .f32⟩
  | 116 => ⟨S2x16, .f32⟩
  | 117 => ⟨S2x16, .f32⟩
  | 118 => ⟨S2x16x1, .f32⟩
  | 119 => ⟨S2x16x256, .f32⟩
  | 120 => ⟨S2x16x256, .f32⟩
  | 121 => ⟨S2x16x256, .f32⟩
  | 122 => ⟨S_, .f32⟩
  | 123 => ⟨S2x16, .f32⟩
  | 124 => ⟨S2x16x1, .f32⟩
  | 125 => ⟨S2x16x256, .f32⟩
  | 126 => ⟨S2x16x256, .f32⟩
  | 127 => ⟨S2x16x384, .f32⟩
  | _ => ⟨S2x256x256, .f32⟩

abbrev hbmTy0_3 (i : Nat) : BufTy := match i % 128 with
  | 0 => ⟨S_, .f32⟩
  | 1 => ⟨S2x16x384, .f32⟩
  | 2 => ⟨S2x16x384, .f32⟩
  | 3 => ⟨S_, .f32⟩
  | 4 => ⟨S2x16x384, .f32⟩
  | 5 => ⟨S2x16x384, .f32⟩
  | 6 => ⟨S2x16x384, .f32⟩
  | 7 => ⟨S2x256x1x384, .f32⟩
  | 8 => ⟨S2x1x16x384, .f32⟩
  | 9 => ⟨S2x256x16x384, .f32⟩
  | 10 => ⟨S2x256x16x384, .f32⟩
  | 11 => ⟨S2x256x16x384, .f32⟩
  | 12 => ⟨S2x256x16x384, .f32⟩
  | 13 => ⟨S_, .f32⟩
  | 14 => ⟨S2x256x16, .f32⟩
  | 15 => ⟨S2x256x16, .f32⟩
  | 16 => ⟨S2x16x256, .f32⟩
  | 17 => ⟨S_, .f32⟩
  | 18 => ⟨S2x16x256, .f32⟩
  | 19 => ⟨S_, .i32⟩
  | 20 => ⟨S_, .i1⟩
  | 21 => ⟨S_, .i32⟩
  | 22 => ⟨S_, .i32⟩
  | 23 => ⟨S_, .i32⟩
  | 24 => ⟨S2x16x256, .f32⟩
  | 25 => ⟨S2x16x256, .f32⟩
  | 26 => ⟨S_, .i1⟩
  | 27 => ⟨S_, .i32⟩
  | 28 => ⟨S_, .i1⟩
  | 29 => ⟨S_, .i32⟩
  | 30 => ⟨S_, .i32⟩
  | 31 => ⟨S2x16x16, .f32⟩
  | 32 => ⟨S2x16x16, .i32⟩
  | 33 => ⟨S2x16x1, .f32⟩
  | 34 => ⟨S2x16x256, .f32⟩
  | 35 => ⟨S2x16x256, .i1⟩
  | 36 => ⟨S2x16x256, .f32⟩
  | 37 => ⟨S2x16x256, .f32⟩
  | 38 => ⟨S_, .f32⟩
  | 39 => ⟨S2x256, .f32⟩
  | 40 => ⟨S_, .f32⟩
  | 41 => ⟨S2x256, .f32⟩
  | 42 => ⟨S2x256, .i1⟩
  | 43 => ⟨S_, .i1⟩
  | 44 => ⟨S_, .i1⟩
  | 45 => ⟨S_, .i1⟩
  | 46 => ⟨S_, .f32⟩
  | 47 => ⟨S2x16x256, .f32⟩
  | 48 => ⟨S2x16x256, .f32⟩
  | 49 => ⟨S_, .f32⟩
  | 50 => ⟨S2x16x256, .f32⟩
  | 51 => ⟨S2x16x256, .f32⟩
  | 52 => ⟨S2x16x256, .f32⟩
  | 53 => ⟨S_, .f32⟩
  | 54 => ⟨S2x256, .f32⟩
  | 55 => ⟨S2x1x256, .f32⟩
  | 56 => ⟨S2x16x256, .f32⟩
  | 57 => ⟨S2x16x256, .i1⟩
  | 58 => ⟨S2x16x256, .f32⟩
  | 59 => ⟨S2x16x256, .f32⟩
  | 60 => ⟨S_, .f32⟩
  | 61 => ⟨S2x256, .f32⟩
  | 62 => ⟨S_, .f32⟩
  | 63 => ⟨S2x256, .f32⟩
  | 64 => ⟨S2x256, .i1⟩
  | 65 => ⟨S2x256, .f32⟩
  | 66 => ⟨S2x1x256, .f32⟩
  | 67 => ⟨S_, .f32⟩
  | 68 => ⟨S2x1x256, .f32⟩
  | 69 => ⟨S2x1x256, .f32⟩
  | 70 => ⟨S2x16x256, .f32⟩
  | 71 => ⟨S2x16x256, .f32⟩
  | 72 => ⟨S_, .f32⟩
  | 73 => ⟨S2x256, .f32⟩
  | 74 => ⟨S_, .f32⟩
  | 75 => ⟨S2x256, .f32⟩
  | 76 => ⟨S2x256, .i1⟩
  | 77 => ⟨S2x256, .f32⟩
  | 78 => ⟨S2x1x256, .f32⟩
  | 79 => ⟨S_, .f32⟩
  | 80 => ⟨S2x1x256, .f32⟩
  | 81 => ⟨S2x1x256, .f32⟩
  | 82 => ⟨S2x16x256, .f32⟩
  | 83 => ⟨S2x16x256, .f32⟩
  | 84 => ⟨S2x16x256, .f32⟩
  | 85 => ⟨S_, .f32⟩
  | 86 => ⟨S2x16x256, .f32⟩
  | 87 => ⟨S2x16x256, .f32⟩
  | 88 => ⟨S2x16x256, .f32⟩
  | 89 => ⟨S2x16x256, .f32⟩
  | 90 => ⟨S2x16x256, .f32⟩
  | 91 => ⟨S_, .i32⟩
  | 92 => ⟨S_, .i32⟩
  | 93 => ⟨S2x256x16, .f32⟩
  | 94 => ⟨S2x16x256, .f32⟩
  | 95 => ⟨S2x256x256, .f32⟩
  | 96 => ⟨S2x256x256, .f32⟩
  | 97 => ⟨S_, .f32⟩
  | 98 => ⟨S2x256x256, .f32⟩
  | 99 => ⟨S2x256x256, .f32⟩
  | 100 => ⟨S_, .f32⟩
  | 101 => ⟨S2x256x256, .f32⟩
  | 102 => ⟨S2x256x256, .f32⟩
  | 103 => ⟨S2x256x256, .f32⟩
  | 104 => ⟨S_, .f32⟩
  | 105 => ⟨S2x256, .f32⟩
  | 106 => ⟨S2x16x256, .f32⟩
  | 107 => ⟨S2x1x256, .f32⟩
  | 108 => ⟨S2x16x256, .f32⟩
  | 109 => ⟨S2x16x256, .f32⟩
  | 110 => ⟨S_, .f32⟩
  | 111 => ⟨S2x16x256, .f32⟩
  | 112 => ⟨S2x16x256, .f32⟩
  | 113 => ⟨S_, .f32⟩
  | 114 => ⟨S2x16x256, .f32⟩
  | 115 => ⟨S2x16x256, .f32⟩
  | 116 => ⟨S2x16x256, .f32⟩
  | 117 => ⟨S_, .f32⟩
  | 118 => ⟨S2x16, .f32⟩
  | 119 => ⟨S_, .f32⟩
  | 120 => ⟨S2x16, .f32⟩
  | 121 => ⟨S2x16, .f32⟩
  | 122 => ⟨S2x16x1, .f32⟩
  | 123 => ⟨S2x16x256, .f32⟩
  | 124 => ⟨S2x16x256, .f32⟩
  | 125 => ⟨S2x16x256, .f32⟩
  | 126 => ⟨S_, .f32⟩
  | 127 => ⟨S2x16, .f32⟩
  | _ => ⟨S2x256x256, .f32⟩

abbrev hbmTy0_4 (i : Nat) : BufTy := match i % 128 with
  | 0 => ⟨S2x16x1, .f32⟩
  | 1 => ⟨S2x16x256, .f32⟩
  | 2 => ⟨S2x16x256, .f32⟩
  | 3 => ⟨S2x16x384, .f32⟩
  | 4 => ⟨S_, .f32⟩
  | 5 => ⟨S2x16x384, .f32⟩
  | 6 => ⟨S2x16x384, .f32⟩
  | 7 => ⟨S_, .f32⟩
  | 8 => ⟨S2x16x384, .f32⟩
  | 9 => ⟨S2x16x384, .f32⟩
  | 10 => ⟨S2x16x384, .f32⟩
  | 11 => ⟨S2x256x1x384, .f32⟩
  | 12 => ⟨S2x1x16x384, .f32⟩
  | 13 => ⟨S2x256x16x384, .f32⟩
  | 14 => ⟨S2x256x16x384, .f32⟩
  | 15 => ⟨S2x256x16x384, .f32⟩
  | 16 => ⟨S2x256x16x384, .f32⟩
  | 17 => ⟨S_, .f32⟩
  | 18 => ⟨S2x256x16, .f32⟩
  | 19 => ⟨S2x256x16, .f32⟩
  | 20 => ⟨S1x2x256x16, .f32⟩
  | 21 => ⟨S1x2x256x16, .f32⟩
  | 22 => ⟨S1x2x256x16, .f32⟩
  | 23 => ⟨S1x2x256x16, .f32⟩
  | 24 => ⟨S4x2x256x16, .f32⟩
  | 25 => ⟨S_, .f32⟩
  | 26 => ⟨S2x256x16, .f32⟩
  | 27 => ⟨S_, .f32⟩
  | 28 => ⟨S2x256x16, .f32⟩
  | 29 => ⟨S2x256x16, .f32⟩
  | _ => ⟨S2x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x256x256, .f32⟩

abbrev bufTy : (tb : Table) → Fin (tcTables nBuf tb) → BufTy
  | .hbm, ⟨i, _⟩ => hbmTy i
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst : Ref sig .tc := ⟨.hbm, 32, rfl⟩
abbrev main_call0_v20 : Ref sig .tc := ⟨.hbm, 33, rfl⟩
abbrev main_call0_cst_0 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_cst_1 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_cst : Ref sig .tc := ⟨.hbm, 62, rfl⟩
abbrev main_call1_v6 : Ref sig .tc := ⟨.hbm, 63, rfl⟩
abbrev main_call1_cst_0 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_c : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_cst : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_cst : Ref sig .tc := ⟨.hbm, 85, rfl⟩
abbrev main_call2_v3 : Ref sig .tc := ⟨.hbm, 86, rfl⟩
abbrev main_call2_v4 : Ref sig .tc := ⟨.hbm, 87, rfl⟩
abbrev main_call2_cst_0 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_cst_2 : Ref sig .tc := ⟨.hbm, 98, rfl⟩
abbrev main_call2_v13 : Ref sig .tc := ⟨.hbm, 99, rfl⟩
abbrev main_call2_v14 : Ref sig .tc := ⟨.hbm, 100, rfl⟩
abbrev main_call2_cst_3 : Ref sig .tc := ⟨.hbm, 101, rfl⟩
abbrev main_call2_v15 : Ref sig .tc := ⟨.hbm, 102, rfl⟩
abbrev main_call2_v16 : Ref sig .tc := ⟨.hbm, 103, rfl⟩
abbrev main_call2_v17 : Ref sig .tc := ⟨.hbm, 104, rfl⟩
abbrev main_call2_cst_4 : Ref sig .tc := ⟨.hbm, 105, rfl⟩
abbrev main_call2_v18 : Ref sig .tc := ⟨.hbm, 106, rfl⟩
abbrev main_call2_cst_5 : Ref sig .tc := ⟨.hbm, 107, rfl⟩
abbrev main_call2_v19 : Ref sig .tc := ⟨.hbm, 108, rfl⟩
abbrev main_call2_v20 : Ref sig .tc := ⟨.hbm, 109, rfl⟩
abbrev main_call2_v21 : Ref sig .tc := ⟨.hbm, 110, rfl⟩
abbrev main_call2_v22 : Ref sig .tc := ⟨.hbm, 111, rfl⟩
abbrev main_call2_v23 : Ref sig .tc := ⟨.hbm, 112, rfl⟩
abbrev main_call2_v24 : Ref sig .tc := ⟨.hbm, 113, rfl⟩
abbrev main_call2_cst_6 : Ref sig .tc := ⟨.hbm, 114, rfl⟩
abbrev main_call2_v25 : Ref sig .tc := ⟨.hbm, 115, rfl⟩
abbrev main_call2_v26 : Ref sig .tc := ⟨.hbm, 116, rfl⟩
abbrev main_call2_v27 : Ref sig .tc := ⟨.hbm, 117, rfl⟩
abbrev main_call2_v28 : Ref sig .tc := ⟨.hbm, 118, rfl⟩
abbrev main_call2_v29 : Ref sig .tc := ⟨.hbm, 119, rfl⟩
abbrev main_call2_cst_7 : Ref sig .tc := ⟨.hbm, 120, rfl⟩
abbrev main_call2_v30 : Ref sig .tc := ⟨.hbm, 121, rfl⟩
abbrev main_call2_v31 : Ref sig .tc := ⟨.hbm, 122, rfl⟩
abbrev main_call2_cst_8 : Ref sig .tc := ⟨.hbm, 123, rfl⟩
abbrev main_call2_v32 : Ref sig .tc := ⟨.hbm, 124, rfl⟩
abbrev main_call2_v33 : Ref sig .tc := ⟨.hbm, 125, rfl⟩
abbrev main_call2_v34 : Ref sig .tc := ⟨.hbm, 126, rfl⟩
abbrev main_call2_call0_v0 : Ref sig .tc := ⟨.hbm, 127, rfl⟩
abbrev main_call2_call0_v1 : Ref sig .tc := ⟨.hbm, 128, rfl⟩
abbrev main_call2_call0_v2 : Ref sig .tc := ⟨.hbm, 129, rfl⟩
abbrev main_call2_call0_v3 : Ref sig .tc := ⟨.hbm, 130, rfl⟩
abbrev main_call2_call0_v4 : Ref sig .tc := ⟨.hbm, 131, rfl⟩
abbrev main_call2_call0_v5 : Ref sig .tc := ⟨.hbm, 132, rfl⟩
abbrev main_call2_call0_cst : Ref sig .tc := ⟨.hbm, 133, rfl⟩
abbrev main_call2_call0_v6 : Ref sig .tc := ⟨.hbm, 134, rfl⟩
abbrev main_v17 : Ref sig .tc := ⟨.hbm, 135, rfl⟩
abbrev main_call3_v0 : Ref sig .tc := ⟨.hbm, 136, rfl⟩
abbrev main_call3_cst : Ref sig .tc := ⟨.hbm, 137, rfl⟩
abbrev main_call3_v1 : Ref sig .tc := ⟨.hbm, 138, rfl⟩
abbrev main_call3_c : Ref sig .tc := ⟨.hbm, 139, rfl⟩
abbrev main_call3_c_0 : Ref sig .tc := ⟨.hbm, 140, rfl⟩
abbrev main_call3_c_1 : Ref sig .tc := ⟨.hbm, 141, rfl⟩
abbrev main_call3_v2_0 : Ref sig .tc := ⟨.hbm, 142, rfl⟩
abbrev main_call3_v2_1 : Ref sig .tc := ⟨.hbm, 143, rfl⟩
abbrev main_call3_v2_2 : Ref sig .tc := ⟨.hbm, 144, rfl⟩
abbrev main_call3_v2_3 : Ref sig .tc := ⟨.hbm, 145, rfl⟩
abbrev main_call3_v2_4 : Ref sig .tc := ⟨.hbm, 146, rfl⟩
abbrev main_call3_while0c_c_6 : Ref sig .tc := ⟨.hbm, 147, rfl⟩
abbrev main_call3_while0c_v4 : Ref sig .tc := ⟨.hbm, 148, rfl⟩
abbrev main_call3_while0b_c_6 : Ref sig .tc := ⟨.hbm, 149, rfl⟩
abbrev main_call3_while0b_v4 : Ref sig .tc := ⟨.hbm, 150, rfl⟩
abbrev main_call3_while0b_call0_values : Ref sig .tc := ⟨.hbm, 151, rfl⟩
abbrev main_call3_while0b_call0_indices : Ref sig .tc := ⟨.hbm, 152, rfl⟩
abbrev main_call3_while0b_call0_v0 : Ref sig .tc := ⟨.hbm, 153, rfl⟩
abbrev main_call3_while0b_call0_v1 : Ref sig .tc := ⟨.hbm, 154, rfl⟩
abbrev main_call3_while0b_call0_v2 : Ref sig .tc := ⟨.hbm, 155, rfl⟩
abbrev main_call3_while0b_call0_v3 : Ref sig .tc := ⟨.hbm, 156, rfl⟩
abbrev main_call3_while0b_v5_1 : Ref sig .tc := ⟨.hbm, 157, rfl⟩
abbrev main_call3_while0b_call0_cst : Ref sig .tc := ⟨.hbm, 158, rfl⟩
abbrev main_call3_while0b_call0_v5 : Ref sig .tc := ⟨.hbm, 159, rfl⟩
abbrev main_call3_while0b_call0_cst_0 : Ref sig .tc := ⟨.hbm, 160, rfl⟩
abbrev main_call3_while0b_call0_v6 : Ref sig .tc := ⟨.hbm, 161, rfl⟩
abbrev main_call3_while0b_call0_v7 : Ref sig .tc := ⟨.hbm, 162, rfl⟩
abbrev main_call3_while0b_call0_c : Ref sig .tc := ⟨.hbm, 163, rfl⟩
abbrev main_call3_while0b_call0_v8 : Ref sig .tc := ⟨.hbm, 164, rfl⟩
abbrev main_call3_while0b_v5_2 : Ref sig .tc := ⟨.hbm, 165, rfl⟩
abbrev main_call3_while0b_call0_cst_1 : Ref sig .tc := ⟨.hbm, 166, rfl⟩
abbrev main_call3_while0b_call0_v10 : Ref sig .tc := ⟨.hbm, 167, rfl⟩
abbrev main_call3_while0b_call0_v11 : Ref sig .tc := ⟨.hbm, 168, rfl⟩
abbrev main_call3_while0b_call0_cst_2 : Ref sig .tc := ⟨.hbm, 169, rfl⟩
abbrev main_call3_while0b_call0_v12 : Ref sig .tc := ⟨.hbm, 170, rfl⟩
abbrev main_call3_while0b_call0_v13 : Ref sig .tc := ⟨.hbm, 171, rfl⟩
abbrev main_call3_while0b_call0_v14 : Ref sig .tc := ⟨.hbm, 172, rfl⟩
abbrev main_call3_while0b_call0_cst_3 : Ref sig .tc := ⟨.hbm, 173, rfl⟩
abbrev main_call3_while0b_call0_v15 : Ref sig .tc := ⟨.hbm, 174, rfl⟩
abbrev main_call3_while0b_call0_v16 : Ref sig .tc := ⟨.hbm, 175, rfl⟩
abbrev main_call3_while0b_call0_v17 : Ref sig .tc := ⟨.hbm, 176, rfl⟩
abbrev main_call3_while0b_call0_v18 : Ref sig .tc := ⟨.hbm, 177, rfl⟩
abbrev main_call3_while0b_call0_v19 : Ref sig .tc := ⟨.hbm, 178, rfl⟩
abbrev main_call3_while0b_call0_v20 : Ref sig .tc := ⟨.hbm, 179, rfl⟩
abbrev main_call3_while0b_call0_cst_4 : Ref sig .tc := ⟨.hbm, 180, rfl⟩
abbrev main_call3_while0b_call0_v21 : Ref sig .tc := ⟨.hbm, 181, rfl⟩
abbrev main_call3_while0b_call0_cst_5 : Ref sig .tc := ⟨.hbm, 182, rfl⟩
abbrev main_call3_while0b_call0_v22 : Ref sig .tc := ⟨.hbm, 183, rfl⟩
abbrev main_call3_while0b_call0_v23 : Ref sig .tc := ⟨.hbm, 184, rfl⟩
abbrev main_call3_while0b_call0_v24 : Ref sig .tc := ⟨.hbm, 185, rfl⟩
abbrev main_call3_while0b_call0_v25 : Ref sig .tc := ⟨.hbm, 186, rfl⟩
abbrev main_call3_while0b_call0_cst_6 : Ref sig .tc := ⟨.hbm, 187, rfl⟩
abbrev main_call3_while0b_call0_v26 : Ref sig .tc := ⟨.hbm, 188, rfl⟩
abbrev main_call3_while0b_call0_v27 : Ref sig .tc := ⟨.hbm, 189, rfl⟩
abbrev main_call3_while0b_call0_v28 : Ref sig .tc := ⟨.hbm, 190, rfl⟩
abbrev main_call3_while0b_call0_v29 : Ref sig .tc := ⟨.hbm, 191, rfl⟩
abbrev main_call3_while0b_call0_cst_7 : Ref sig .tc := ⟨.hbm, 192, rfl⟩
abbrev main_call3_while0b_call0_v30 : Ref sig .tc := ⟨.hbm, 193, rfl⟩
abbrev main_call3_while0b_call0_cst_8 : Ref sig .tc := ⟨.hbm, 194, rfl⟩
abbrev main_call3_while0b_call0_v31 : Ref sig .tc := ⟨.hbm, 195, rfl⟩
abbrev main_call3_while0b_call0_v32 : Ref sig .tc := ⟨.hbm, 196, rfl⟩
abbrev main_call3_while0b_call0_v33 : Ref sig .tc := ⟨.hbm, 197, rfl⟩
abbrev main_call3_while0b_call0_v34 : Ref sig .tc := ⟨.hbm, 198, rfl⟩
abbrev main_call3_while0b_call0_cst_9 : Ref sig .tc := ⟨.hbm, 199, rfl⟩
abbrev main_call3_while0b_call0_v35 : Ref sig .tc := ⟨.hbm, 200, rfl⟩
abbrev main_call3_while0b_call0_v36 : Ref sig .tc := ⟨.hbm, 201, rfl⟩
abbrev main_call3_while0b_call0_v37 : Ref sig .tc := ⟨.hbm, 202, rfl⟩
abbrev main_call3_while0b_call0_v38 : Ref sig .tc := ⟨.hbm, 203, rfl⟩
abbrev main_call3_while0b_call0_v39 : Ref sig .tc := ⟨.hbm, 204, rfl⟩
abbrev main_call3_while0b_call0_cst_10 : Ref sig .tc := ⟨.hbm, 205, rfl⟩
abbrev main_call3_while0b_call0_v40 : Ref sig .tc := ⟨.hbm, 206, rfl⟩
abbrev main_call3_while0b_call0_v41 : Ref sig .tc := ⟨.hbm, 207, rfl⟩
abbrev main_call3_while0b_call0_v42 : Ref sig .tc := ⟨.hbm, 208, rfl⟩
abbrev main_call3_while0b_call0_v43 : Ref sig .tc := ⟨.hbm, 209, rfl⟩
abbrev main_call3_while0b_v5_0 : Ref sig .tc := ⟨.hbm, 210, rfl⟩
abbrev main_call3_while0b_c_7 : Ref sig .tc := ⟨.hbm, 211, rfl⟩
abbrev main_call3_while0b_v6 : Ref sig .tc := ⟨.hbm, 212, rfl⟩
abbrev main_v18 : Ref sig .tc := ⟨.hbm, 213, rfl⟩
abbrev main_call4_v0 : Ref sig .tc := ⟨.hbm, 214, rfl⟩
abbrev main_call4_v1 : Ref sig .tc := ⟨.hbm, 215, rfl⟩
abbrev main_call4_v2 : Ref sig .tc := ⟨.hbm, 216, rfl⟩
abbrev main_call4_cst : Ref sig .tc := ⟨.hbm, 217, rfl⟩
abbrev main_call4_v3 : Ref sig .tc := ⟨.hbm, 218, rfl⟩
abbrev main_call4_v4 : Ref sig .tc := ⟨.hbm, 219, rfl⟩
abbrev main_call4_cst_0 : Ref sig .tc := ⟨.hbm, 220, rfl⟩
abbrev main_call4_v5 : Ref sig .tc := ⟨.hbm, 221, rfl⟩
abbrev main_call4_v6 : Ref sig .tc := ⟨.hbm, 222, rfl⟩
abbrev main_call4_v7 : Ref sig .tc := ⟨.hbm, 223, rfl⟩
abbrev main_call4_cst_1 : Ref sig .tc := ⟨.hbm, 224, rfl⟩
abbrev main_call4_v8 : Ref sig .tc := ⟨.hbm, 225, rfl⟩
abbrev main_call4_v9 : Ref sig .tc := ⟨.hbm, 226, rfl⟩
abbrev main_call4_v10 : Ref sig .tc := ⟨.hbm, 227, rfl⟩
abbrev main_call4_v11 : Ref sig .tc := ⟨.hbm, 228, rfl⟩
abbrev main_call4_v12 : Ref sig .tc := ⟨.hbm, 229, rfl⟩
abbrev main_call4_cst_2 : Ref sig .tc := ⟨.hbm, 230, rfl⟩
abbrev main_call4_v13 : Ref sig .tc := ⟨.hbm, 231, rfl⟩
abbrev main_call4_v14 : Ref sig .tc := ⟨.hbm, 232, rfl⟩
abbrev main_call4_cst_3 : Ref sig .tc := ⟨.hbm, 233, rfl⟩
abbrev main_call4_v15 : Ref sig .tc := ⟨.hbm, 234, rfl⟩
abbrev main_call4_v16 : Ref sig .tc := ⟨.hbm, 235, rfl⟩
abbrev main_call4_v17 : Ref sig .tc := ⟨.hbm, 236, rfl⟩
abbrev main_call4_cst_4 : Ref sig .tc := ⟨.hbm, 237, rfl⟩
abbrev main_call4_v18 : Ref sig .tc := ⟨.hbm, 238, rfl⟩
abbrev main_call4_cst_5 : Ref sig .tc := ⟨.hbm, 239, rfl⟩
abbrev main_call4_v19 : Ref sig .tc := ⟨.hbm, 240, rfl⟩
abbrev main_call4_v20 : Ref sig .tc := ⟨.hbm, 241, rfl⟩
abbrev main_call4_v21 : Ref sig .tc := ⟨.hbm, 242, rfl⟩
abbrev main_call4_v22 : Ref sig .tc := ⟨.hbm, 243, rfl⟩
abbrev main_call4_v23 : Ref sig .tc := ⟨.hbm, 244, rfl⟩
abbrev main_call4_v24 : Ref sig .tc := ⟨.hbm, 245, rfl⟩
abbrev main_call4_cst_6 : Ref sig .tc := ⟨.hbm, 246, rfl⟩
abbrev main_call4_v25 : Ref sig .tc := ⟨.hbm, 247, rfl⟩
abbrev main_call4_v26 : Ref sig .tc := ⟨.hbm, 248, rfl⟩
abbrev main_call4_v27 : Ref sig .tc := ⟨.hbm, 249, rfl⟩
abbrev main_call4_v28 : Ref sig .tc := ⟨.hbm, 250, rfl⟩
abbrev main_call4_v29 : Ref sig .tc := ⟨.hbm, 251, rfl⟩
abbrev main_call4_cst_7 : Ref sig .tc := ⟨.hbm, 252, rfl⟩
abbrev main_call4_v30 : Ref sig .tc := ⟨.hbm, 253, rfl⟩
abbrev main_call4_v31 : Ref sig .tc := ⟨.hbm, 254, rfl⟩
abbrev main_call4_cst_8 : Ref sig .tc := ⟨.hbm, 255, rfl⟩
abbrev main_call4_v32 : Ref sig .tc := ⟨.hbm, 256, rfl⟩
abbrev main_call4_v33 : Ref sig .tc := ⟨.hbm, 257, rfl⟩
abbrev main_call4_v34 : Ref sig .tc := ⟨.hbm, 258, rfl⟩
abbrev main_call4_call0_v0 : Ref sig .tc := ⟨.hbm, 259, rfl⟩
abbrev main_call4_call0_v1 : Ref sig .tc := ⟨.hbm, 260, rfl⟩
abbrev main_call4_call0_v2 : Ref sig .tc := ⟨.hbm, 261, rfl⟩
abbrev main_call4_call0_v3 : Ref sig .tc := ⟨.hbm, 262, rfl⟩
abbrev main_call4_call0_v4 : Ref sig .tc := ⟨.hbm, 263, rfl⟩
abbrev main_call4_call0_v5 : Ref sig .tc := ⟨.hbm, 264, rfl⟩
abbrev main_call4_call0_cst : Ref sig .tc := ⟨.hbm, 265, rfl⟩
abbrev main_call4_call0_v6 : Ref sig .tc := ⟨.hbm, 266, rfl⟩
abbrev main_v19 : Ref sig .tc := ⟨.hbm, 267, rfl⟩
abbrev main_call5_v0 : Ref sig .tc := ⟨.hbm, 268, rfl⟩
abbrev main_call5_cst : Ref sig .tc := ⟨.hbm, 269, rfl⟩
abbrev main_call5_v1 : Ref sig .tc := ⟨.hbm, 270, rfl⟩
abbrev main_call5_c : Ref sig .tc := ⟨.hbm, 271, rfl⟩
abbrev main_call5_c_0 : Ref sig .tc := ⟨.hbm, 272, rfl⟩
abbrev main_call5_c_1 : Ref sig .tc := ⟨.hbm, 273, rfl⟩
abbrev main_call5_v2_0 : Ref sig .tc := ⟨.hbm, 274, rfl⟩
abbrev main_call5_v2_1 : Ref sig .tc := ⟨.hbm, 275, rfl⟩
abbrev main_call5_v2_2 : Ref sig .tc := ⟨.hbm, 276, rfl⟩
abbrev main_call5_v2_3 : Ref sig .tc := ⟨.hbm, 277, rfl⟩
abbrev main_call5_v2_4 : Ref sig .tc := ⟨.hbm, 278, rfl⟩
abbrev main_call5_while0c_c_6 : Ref sig .tc := ⟨.hbm, 279, rfl⟩
abbrev main_call5_while0c_v4 : Ref sig .tc := ⟨.hbm, 280, rfl⟩
abbrev main_call5_while0b_c_6 : Ref sig .tc := ⟨.hbm, 281, rfl⟩
abbrev main_call5_while0b_v4 : Ref sig .tc := ⟨.hbm, 282, rfl⟩
abbrev main_call5_while0b_call0_values : Ref sig .tc := ⟨.hbm, 283, rfl⟩
abbrev main_call5_while0b_call0_indices : Ref sig .tc := ⟨.hbm, 284, rfl⟩
abbrev main_call5_while0b_call0_v0 : Ref sig .tc := ⟨.hbm, 285, rfl⟩
abbrev main_call5_while0b_call0_v1 : Ref sig .tc := ⟨.hbm, 286, rfl⟩
abbrev main_call5_while0b_call0_v2 : Ref sig .tc := ⟨.hbm, 287, rfl⟩
abbrev main_call5_while0b_call0_v3 : Ref sig .tc := ⟨.hbm, 288, rfl⟩
abbrev main_call5_while0b_v5_1 : Ref sig .tc := ⟨.hbm, 289, rfl⟩
abbrev main_call5_while0b_call0_cst : Ref sig .tc := ⟨.hbm, 290, rfl⟩
abbrev main_call5_while0b_call0_v5 : Ref sig .tc := ⟨.hbm, 291, rfl⟩
abbrev main_call5_while0b_call0_cst_0 : Ref sig .tc := ⟨.hbm, 292, rfl⟩
abbrev main_call5_while0b_call0_v6 : Ref sig .tc := ⟨.hbm, 293, rfl⟩
abbrev main_call5_while0b_call0_v7 : Ref sig .tc := ⟨.hbm, 294, rfl⟩
abbrev main_call5_while0b_call0_c : Ref sig .tc := ⟨.hbm, 295, rfl⟩
abbrev main_call5_while0b_call0_v8 : Ref sig .tc := ⟨.hbm, 296, rfl⟩
abbrev main_call5_while0b_v5_2 : Ref sig .tc := ⟨.hbm, 297, rfl⟩
abbrev main_call5_while0b_call0_cst_1 : Ref sig .tc := ⟨.hbm, 298, rfl⟩
abbrev main_call5_while0b_call0_v10 : Ref sig .tc := ⟨.hbm, 299, rfl⟩
abbrev main_call5_while0b_call0_v11 : Ref sig .tc := ⟨.hbm, 300, rfl⟩
abbrev main_call5_while0b_call0_cst_2 : Ref sig .tc := ⟨.hbm, 301, rfl⟩
abbrev main_call5_while0b_call0_v12 : Ref sig .tc := ⟨.hbm, 302, rfl⟩
abbrev main_call5_while0b_call0_v13 : Ref sig .tc := ⟨.hbm, 303, rfl⟩
abbrev main_call5_while0b_call0_v14 : Ref sig .tc := ⟨.hbm, 304, rfl⟩
abbrev main_call5_while0b_call0_cst_3 : Ref sig .tc := ⟨.hbm, 305, rfl⟩
abbrev main_call5_while0b_call0_v15 : Ref sig .tc := ⟨.hbm, 306, rfl⟩
abbrev main_call5_while0b_call0_v16 : Ref sig .tc := ⟨.hbm, 307, rfl⟩
abbrev main_call5_while0b_call0_v17 : Ref sig .tc := ⟨.hbm, 308, rfl⟩
abbrev main_call5_while0b_call0_v18 : Ref sig .tc := ⟨.hbm, 309, rfl⟩
abbrev main_call5_while0b_call0_v19 : Ref sig .tc := ⟨.hbm, 310, rfl⟩
abbrev main_call5_while0b_call0_v20 : Ref sig .tc := ⟨.hbm, 311, rfl⟩
abbrev main_call5_while0b_call0_cst_4 : Ref sig .tc := ⟨.hbm, 312, rfl⟩
abbrev main_call5_while0b_call0_v21 : Ref sig .tc := ⟨.hbm, 313, rfl⟩
abbrev main_call5_while0b_call0_cst_5 : Ref sig .tc := ⟨.hbm, 314, rfl⟩
abbrev main_call5_while0b_call0_v22 : Ref sig .tc := ⟨.hbm, 315, rfl⟩
abbrev main_call5_while0b_call0_v23 : Ref sig .tc := ⟨.hbm, 316, rfl⟩
abbrev main_call5_while0b_call0_v24 : Ref sig .tc := ⟨.hbm, 317, rfl⟩
abbrev main_call5_while0b_call0_v25 : Ref sig .tc := ⟨.hbm, 318, rfl⟩
abbrev main_call5_while0b_call0_cst_6 : Ref sig .tc := ⟨.hbm, 319, rfl⟩
abbrev main_call5_while0b_call0_v26 : Ref sig .tc := ⟨.hbm, 320, rfl⟩
abbrev main_call5_while0b_call0_v27 : Ref sig .tc := ⟨.hbm, 321, rfl⟩
abbrev main_call5_while0b_call0_v28 : Ref sig .tc := ⟨.hbm, 322, rfl⟩
abbrev main_call5_while0b_call0_v29 : Ref sig .tc := ⟨.hbm, 323, rfl⟩
abbrev main_call5_while0b_call0_cst_7 : Ref sig .tc := ⟨.hbm, 324, rfl⟩
abbrev main_call5_while0b_call0_v30 : Ref sig .tc := ⟨.hbm, 325, rfl⟩
abbrev main_call5_while0b_call0_cst_8 : Ref sig .tc := ⟨.hbm, 326, rfl⟩
abbrev main_call5_while0b_call0_v31 : Ref sig .tc := ⟨.hbm, 327, rfl⟩
abbrev main_call5_while0b_call0_v32 : Ref sig .tc := ⟨.hbm, 328, rfl⟩
abbrev main_call5_while0b_call0_v33 : Ref sig .tc := ⟨.hbm, 329, rfl⟩
abbrev main_call5_while0b_call0_v34 : Ref sig .tc := ⟨.hbm, 330, rfl⟩
abbrev main_call5_while0b_call0_cst_9 : Ref sig .tc := ⟨.hbm, 331, rfl⟩
abbrev main_call5_while0b_call0_v35 : Ref sig .tc := ⟨.hbm, 332, rfl⟩
abbrev main_call5_while0b_call0_v36 : Ref sig .tc := ⟨.hbm, 333, rfl⟩
abbrev main_call5_while0b_call0_v37 : Ref sig .tc := ⟨.hbm, 334, rfl⟩
abbrev main_call5_while0b_call0_v38 : Ref sig .tc := ⟨.hbm, 335, rfl⟩
abbrev main_call5_while0b_call0_v39 : Ref sig .tc := ⟨.hbm, 336, rfl⟩
abbrev main_call5_while0b_call0_cst_10 : Ref sig .tc := ⟨.hbm, 337, rfl⟩
abbrev main_call5_while0b_call0_v40 : Ref sig .tc := ⟨.hbm, 338, rfl⟩
abbrev main_call5_while0b_call0_v41 : Ref sig .tc := ⟨.hbm, 339, rfl⟩
abbrev main_call5_while0b_call0_v42 : Ref sig .tc := ⟨.hbm, 340, rfl⟩
abbrev main_call5_while0b_call0_v43 : Ref sig .tc := ⟨.hbm, 341, rfl⟩
abbrev main_call5_while0b_v5_0 : Ref sig .tc := ⟨.hbm, 342, rfl⟩
abbrev main_call5_while0b_c_7 : Ref sig .tc := ⟨.hbm, 343, rfl⟩
abbrev main_call5_while0b_v6 : Ref sig .tc := ⟨.hbm, 344, rfl⟩
abbrev main_v20 : Ref sig .tc := ⟨.hbm, 345, rfl⟩
abbrev main_call6_v0 : Ref sig .tc := ⟨.hbm, 346, rfl⟩
abbrev main_call6_v1 : Ref sig .tc := ⟨.hbm, 347, rfl⟩
abbrev main_call6_v2 : Ref sig .tc := ⟨.hbm, 348, rfl⟩
abbrev main_call6_cst : Ref sig .tc := ⟨.hbm, 349, rfl⟩
abbrev main_call6_v3 : Ref sig .tc := ⟨.hbm, 350, rfl⟩
abbrev main_call6_v4 : Ref sig .tc := ⟨.hbm, 351, rfl⟩
abbrev main_call6_cst_0 : Ref sig .tc := ⟨.hbm, 352, rfl⟩
abbrev main_call6_v5 : Ref sig .tc := ⟨.hbm, 353, rfl⟩
abbrev main_call6_v6 : Ref sig .tc := ⟨.hbm, 354, rfl⟩
abbrev main_call6_v7 : Ref sig .tc := ⟨.hbm, 355, rfl⟩
abbrev main_call6_cst_1 : Ref sig .tc := ⟨.hbm, 356, rfl⟩
abbrev main_call6_v8 : Ref sig .tc := ⟨.hbm, 357, rfl⟩
abbrev main_call6_v9 : Ref sig .tc := ⟨.hbm, 358, rfl⟩
abbrev main_call6_v10 : Ref sig .tc := ⟨.hbm, 359, rfl⟩
abbrev main_call6_v11 : Ref sig .tc := ⟨.hbm, 360, rfl⟩
abbrev main_call6_v12 : Ref sig .tc := ⟨.hbm, 361, rfl⟩
abbrev main_call6_cst_2 : Ref sig .tc := ⟨.hbm, 362, rfl⟩
abbrev main_call6_v13 : Ref sig .tc := ⟨.hbm, 363, rfl⟩
abbrev main_call6_v14 : Ref sig .tc := ⟨.hbm, 364, rfl⟩
abbrev main_call6_cst_3 : Ref sig .tc := ⟨.hbm, 365, rfl⟩
abbrev main_call6_v15 : Ref sig .tc := ⟨.hbm, 366, rfl⟩
abbrev main_call6_v16 : Ref sig .tc := ⟨.hbm, 367, rfl⟩
abbrev main_call6_v17 : Ref sig .tc := ⟨.hbm, 368, rfl⟩
abbrev main_call6_cst_4 : Ref sig .tc := ⟨.hbm, 369, rfl⟩
abbrev main_call6_v18 : Ref sig .tc := ⟨.hbm, 370, rfl⟩
abbrev main_call6_cst_5 : Ref sig .tc := ⟨.hbm, 371, rfl⟩
abbrev main_call6_v19 : Ref sig .tc := ⟨.hbm, 372, rfl⟩
abbrev main_call6_v20 : Ref sig .tc := ⟨.hbm, 373, rfl⟩
abbrev main_call6_v21 : Ref sig .tc := ⟨.hbm, 374, rfl⟩
abbrev main_call6_v22 : Ref sig .tc := ⟨.hbm, 375, rfl⟩
abbrev main_call6_v23 : Ref sig .tc := ⟨.hbm, 376, rfl⟩
abbrev main_call6_v24 : Ref sig .tc := ⟨.hbm, 377, rfl⟩
abbrev main_call6_cst_6 : Ref sig .tc := ⟨.hbm, 378, rfl⟩
abbrev main_call6_v25 : Ref sig .tc := ⟨.hbm, 379, rfl⟩
abbrev main_call6_v26 : Ref sig .tc := ⟨.hbm, 380, rfl⟩
abbrev main_call6_v27 : Ref sig .tc := ⟨.hbm, 381, rfl⟩
abbrev main_call6_v28 : Ref sig .tc := ⟨.hbm, 382, rfl⟩
abbrev main_call6_v29 : Ref sig .tc := ⟨.hbm, 383, rfl⟩
abbrev main_call6_cst_7 : Ref sig .tc := ⟨.hbm, 384, rfl⟩
abbrev main_call6_v30 : Ref sig .tc := ⟨.hbm, 385, rfl⟩
abbrev main_call6_v31 : Ref sig .tc := ⟨.hbm, 386, rfl⟩
abbrev main_call6_cst_8 : Ref sig .tc := ⟨.hbm, 387, rfl⟩
abbrev main_call6_v32 : Ref sig .tc := ⟨.hbm, 388, rfl⟩
abbrev main_call6_v33 : Ref sig .tc := ⟨.hbm, 389, rfl⟩
abbrev main_call6_v34 : Ref sig .tc := ⟨.hbm, 390, rfl⟩
abbrev main_call6_call0_v0 : Ref sig .tc := ⟨.hbm, 391, rfl⟩
abbrev main_call6_call0_v1 : Ref sig .tc := ⟨.hbm, 392, rfl⟩
abbrev main_call6_call0_v2 : Ref sig .tc := ⟨.hbm, 393, rfl⟩
abbrev main_call6_call0_v3 : Ref sig .tc := ⟨.hbm, 394, rfl⟩
abbrev main_call6_call0_v4 : Ref sig .tc := ⟨.hbm, 395, rfl⟩
abbrev main_call6_call0_v5 : Ref sig .tc := ⟨.hbm, 396, rfl⟩
abbrev main_call6_call0_cst : Ref sig .tc := ⟨.hbm, 397, rfl⟩
abbrev main_call6_call0_v6 : Ref sig .tc := ⟨.hbm, 398, rfl⟩
abbrev main_v21 : Ref sig .tc := ⟨.hbm, 399, rfl⟩
abbrev main_call7_v0 : Ref sig .tc := ⟨.hbm, 400, rfl⟩
abbrev main_call7_cst : Ref sig .tc := ⟨.hbm, 401, rfl⟩
abbrev main_call7_v1 : Ref sig .tc := ⟨.hbm, 402, rfl⟩
abbrev main_call7_c : Ref sig .tc := ⟨.hbm, 403, rfl⟩
abbrev main_call7_c_0 : Ref sig .tc := ⟨.hbm, 404, rfl⟩
abbrev main_call7_c_1 : Ref sig .tc := ⟨.hbm, 405, rfl⟩
abbrev main_call7_v2_0 : Ref sig .tc := ⟨.hbm, 406, rfl⟩
abbrev main_call7_v2_1 : Ref sig .tc := ⟨.hbm, 407, rfl⟩
abbrev main_call7_v2_2 : Ref sig .tc := ⟨.hbm, 408, rfl⟩
abbrev main_call7_v2_3 : Ref sig .tc := ⟨.hbm, 409, rfl⟩
abbrev main_call7_v2_4 : Ref sig .tc := ⟨.hbm, 410, rfl⟩
abbrev main_call7_while0c_c_6 : Ref sig .tc := ⟨.hbm, 411, rfl⟩
abbrev main_call7_while0c_v4 : Ref sig .tc := ⟨.hbm, 412, rfl⟩
abbrev main_call7_while0b_c_6 : Ref sig .tc := ⟨.hbm, 413, rfl⟩
abbrev main_call7_while0b_v4 : Ref sig .tc := ⟨.hbm, 414, rfl⟩
abbrev main_call7_while0b_call0_values : Ref sig .tc := ⟨.hbm, 415, rfl⟩
abbrev main_call7_while0b_call0_indices : Ref sig .tc := ⟨.hbm, 416, rfl⟩
abbrev main_call7_while0b_call0_v0 : Ref sig .tc := ⟨.hbm, 417, rfl⟩
abbrev main_call7_while0b_call0_v1 : Ref sig .tc := ⟨.hbm, 418, rfl⟩
abbrev main_call7_while0b_call0_v2 : Ref sig .tc := ⟨.hbm, 419, rfl⟩
abbrev main_call7_while0b_call0_v3 : Ref sig .tc := ⟨.hbm, 420, rfl⟩
abbrev main_call7_while0b_v5_1 : Ref sig .tc := ⟨.hbm, 421, rfl⟩
abbrev main_call7_while0b_call0_cst : Ref sig .tc := ⟨.hbm, 422, rfl⟩
abbrev main_call7_while0b_call0_v5 : Ref sig .tc := ⟨.hbm, 423, rfl⟩
abbrev main_call7_while0b_call0_cst_0 : Ref sig .tc := ⟨.hbm, 424, rfl⟩
abbrev main_call7_while0b_call0_v6 : Ref sig .tc := ⟨.hbm, 425, rfl⟩
abbrev main_call7_while0b_call0_v7 : Ref sig .tc := ⟨.hbm, 426, rfl⟩
abbrev main_call7_while0b_call0_c : Ref sig .tc := ⟨.hbm, 427, rfl⟩
abbrev main_call7_while0b_call0_v8 : Ref sig .tc := ⟨.hbm, 428, rfl⟩
abbrev main_call7_while0b_v5_2 : Ref sig .tc := ⟨.hbm, 429, rfl⟩
abbrev main_call7_while0b_call0_cst_1 : Ref sig .tc := ⟨.hbm, 430, rfl⟩
abbrev main_call7_while0b_call0_v10 : Ref sig .tc := ⟨.hbm, 431, rfl⟩
abbrev main_call7_while0b_call0_v11 : Ref sig .tc := ⟨.hbm, 432, rfl⟩
abbrev main_call7_while0b_call0_cst_2 : Ref sig .tc := ⟨.hbm, 433, rfl⟩
abbrev main_call7_while0b_call0_v12 : Ref sig .tc := ⟨.hbm, 434, rfl⟩
abbrev main_call7_while0b_call0_v13 : Ref sig .tc := ⟨.hbm, 435, rfl⟩
abbrev main_call7_while0b_call0_v14 : Ref sig .tc := ⟨.hbm, 436, rfl⟩
abbrev main_call7_while0b_call0_cst_3 : Ref sig .tc := ⟨.hbm, 437, rfl⟩
abbrev main_call7_while0b_call0_v15 : Ref sig .tc := ⟨.hbm, 438, rfl⟩
abbrev main_call7_while0b_call0_v16 : Ref sig .tc := ⟨.hbm, 439, rfl⟩
abbrev main_call7_while0b_call0_v17 : Ref sig .tc := ⟨.hbm, 440, rfl⟩
abbrev main_call7_while0b_call0_v18 : Ref sig .tc := ⟨.hbm, 441, rfl⟩
abbrev main_call7_while0b_call0_v19 : Ref sig .tc := ⟨.hbm, 442, rfl⟩
abbrev main_call7_while0b_call0_v20 : Ref sig .tc := ⟨.hbm, 443, rfl⟩
abbrev main_call7_while0b_call0_cst_4 : Ref sig .tc := ⟨.hbm, 444, rfl⟩
abbrev main_call7_while0b_call0_v21 : Ref sig .tc := ⟨.hbm, 445, rfl⟩
abbrev main_call7_while0b_call0_cst_5 : Ref sig .tc := ⟨.hbm, 446, rfl⟩
abbrev main_call7_while0b_call0_v22 : Ref sig .tc := ⟨.hbm, 447, rfl⟩
abbrev main_call7_while0b_call0_v23 : Ref sig .tc := ⟨.hbm, 448, rfl⟩
abbrev main_call7_while0b_call0_v24 : Ref sig .tc := ⟨.hbm, 449, rfl⟩
abbrev main_call7_while0b_call0_v25 : Ref sig .tc := ⟨.hbm, 450, rfl⟩
abbrev main_call7_while0b_call0_cst_6 : Ref sig .tc := ⟨.hbm, 451, rfl⟩
abbrev main_call7_while0b_call0_v26 : Ref sig .tc := ⟨.hbm, 452, rfl⟩
abbrev main_call7_while0b_call0_v27 : Ref sig .tc := ⟨.hbm, 453, rfl⟩
abbrev main_call7_while0b_call0_v28 : Ref sig .tc := ⟨.hbm, 454, rfl⟩
abbrev main_call7_while0b_call0_v29 : Ref sig .tc := ⟨.hbm, 455, rfl⟩
abbrev main_call7_while0b_call0_cst_7 : Ref sig .tc := ⟨.hbm, 456, rfl⟩
abbrev main_call7_while0b_call0_v30 : Ref sig .tc := ⟨.hbm, 457, rfl⟩
abbrev main_call7_while0b_call0_cst_8 : Ref sig .tc := ⟨.hbm, 458, rfl⟩
abbrev main_call7_while0b_call0_v31 : Ref sig .tc := ⟨.hbm, 459, rfl⟩
abbrev main_call7_while0b_call0_v32 : Ref sig .tc := ⟨.hbm, 460, rfl⟩
abbrev main_call7_while0b_call0_v33 : Ref sig .tc := ⟨.hbm, 461, rfl⟩
abbrev main_call7_while0b_call0_v34 : Ref sig .tc := ⟨.hbm, 462, rfl⟩
abbrev main_call7_while0b_call0_cst_9 : Ref sig .tc := ⟨.hbm, 463, rfl⟩
abbrev main_call7_while0b_call0_v35 : Ref sig .tc := ⟨.hbm, 464, rfl⟩
abbrev main_call7_while0b_call0_v36 : Ref sig .tc := ⟨.hbm, 465, rfl⟩
abbrev main_call7_while0b_call0_v37 : Ref sig .tc := ⟨.hbm, 466, rfl⟩
abbrev main_call7_while0b_call0_v38 : Ref sig .tc := ⟨.hbm, 467, rfl⟩
abbrev main_call7_while0b_call0_v39 : Ref sig .tc := ⟨.hbm, 468, rfl⟩
abbrev main_call7_while0b_call0_cst_10 : Ref sig .tc := ⟨.hbm, 469, rfl⟩
abbrev main_call7_while0b_call0_v40 : Ref sig .tc := ⟨.hbm, 470, rfl⟩
abbrev main_call7_while0b_call0_v41 : Ref sig .tc := ⟨.hbm, 471, rfl⟩
abbrev main_call7_while0b_call0_v42 : Ref sig .tc := ⟨.hbm, 472, rfl⟩
abbrev main_call7_while0b_call0_v43 : Ref sig .tc := ⟨.hbm, 473, rfl⟩
abbrev main_call7_while0b_v5_0 : Ref sig .tc := ⟨.hbm, 474, rfl⟩
abbrev main_call7_while0b_c_7 : Ref sig .tc := ⟨.hbm, 475, rfl⟩
abbrev main_call7_while0b_v6 : Ref sig .tc := ⟨.hbm, 476, rfl⟩
abbrev main_v22 : Ref sig .tc := ⟨.hbm, 477, rfl⟩
abbrev main_call8_v0 : Ref sig .tc := ⟨.hbm, 478, rfl⟩
abbrev main_call8_v1 : Ref sig .tc := ⟨.hbm, 479, rfl⟩
abbrev main_call8_v2 : Ref sig .tc := ⟨.hbm, 480, rfl⟩
abbrev main_call8_cst : Ref sig .tc := ⟨.hbm, 481, rfl⟩
abbrev main_call8_v3 : Ref sig .tc := ⟨.hbm, 482, rfl⟩
abbrev main_call8_v4 : Ref sig .tc := ⟨.hbm, 483, rfl⟩
abbrev main_call8_cst_0 : Ref sig .tc := ⟨.hbm, 484, rfl⟩
abbrev main_call8_v5 : Ref sig .tc := ⟨.hbm, 485, rfl⟩
abbrev main_call8_v6 : Ref sig .tc := ⟨.hbm, 486, rfl⟩
abbrev main_call8_v7 : Ref sig .tc := ⟨.hbm, 487, rfl⟩
abbrev main_call8_cst_1 : Ref sig .tc := ⟨.hbm, 488, rfl⟩
abbrev main_call8_v8 : Ref sig .tc := ⟨.hbm, 489, rfl⟩
abbrev main_call8_v9 : Ref sig .tc := ⟨.hbm, 490, rfl⟩
abbrev main_call8_v10 : Ref sig .tc := ⟨.hbm, 491, rfl⟩
abbrev main_call8_v11 : Ref sig .tc := ⟨.hbm, 492, rfl⟩
abbrev main_call8_v12 : Ref sig .tc := ⟨.hbm, 493, rfl⟩
abbrev main_call8_cst_2 : Ref sig .tc := ⟨.hbm, 494, rfl⟩
abbrev main_call8_v13 : Ref sig .tc := ⟨.hbm, 495, rfl⟩
abbrev main_call8_v14 : Ref sig .tc := ⟨.hbm, 496, rfl⟩
abbrev main_call8_cst_3 : Ref sig .tc := ⟨.hbm, 497, rfl⟩
abbrev main_call8_v15 : Ref sig .tc := ⟨.hbm, 498, rfl⟩
abbrev main_call8_v16 : Ref sig .tc := ⟨.hbm, 499, rfl⟩
abbrev main_call8_v17 : Ref sig .tc := ⟨.hbm, 500, rfl⟩
abbrev main_call8_cst_4 : Ref sig .tc := ⟨.hbm, 501, rfl⟩
abbrev main_call8_v18 : Ref sig .tc := ⟨.hbm, 502, rfl⟩
abbrev main_call8_cst_5 : Ref sig .tc := ⟨.hbm, 503, rfl⟩
abbrev main_call8_v19 : Ref sig .tc := ⟨.hbm, 504, rfl⟩
abbrev main_call8_v20 : Ref sig .tc := ⟨.hbm, 505, rfl⟩
abbrev main_call8_v21 : Ref sig .tc := ⟨.hbm, 506, rfl⟩
abbrev main_call8_v22 : Ref sig .tc := ⟨.hbm, 507, rfl⟩
abbrev main_call8_v23 : Ref sig .tc := ⟨.hbm, 508, rfl⟩
abbrev main_call8_v24 : Ref sig .tc := ⟨.hbm, 509, rfl⟩
abbrev main_call8_cst_6 : Ref sig .tc := ⟨.hbm, 510, rfl⟩
abbrev main_call8_v25 : Ref sig .tc := ⟨.hbm, 511, rfl⟩
abbrev main_call8_v26 : Ref sig .tc := ⟨.hbm, 512, rfl⟩
abbrev main_call8_v27 : Ref sig .tc := ⟨.hbm, 513, rfl⟩
abbrev main_call8_v28 : Ref sig .tc := ⟨.hbm, 514, rfl⟩
abbrev main_call8_v29 : Ref sig .tc := ⟨.hbm, 515, rfl⟩
abbrev main_call8_cst_7 : Ref sig .tc := ⟨.hbm, 516, rfl⟩
abbrev main_call8_v30 : Ref sig .tc := ⟨.hbm, 517, rfl⟩
abbrev main_call8_v31 : Ref sig .tc := ⟨.hbm, 518, rfl⟩
abbrev main_call8_cst_8 : Ref sig .tc := ⟨.hbm, 519, rfl⟩
abbrev main_call8_v32 : Ref sig .tc := ⟨.hbm, 520, rfl⟩
abbrev main_call8_v33 : Ref sig .tc := ⟨.hbm, 521, rfl⟩
abbrev main_call8_v34 : Ref sig .tc := ⟨.hbm, 522, rfl⟩
abbrev main_call8_call0_v0 : Ref sig .tc := ⟨.hbm, 523, rfl⟩
abbrev main_call8_call0_v1 : Ref sig .tc := ⟨.hbm, 524, rfl⟩
abbrev main_call8_call0_v2 : Ref sig .tc := ⟨.hbm, 525, rfl⟩
abbrev main_call8_call0_v3 : Ref sig .tc := ⟨.hbm, 526, rfl⟩
abbrev main_call8_call0_v4 : Ref sig .tc := ⟨.hbm, 527, rfl⟩
abbrev main_call8_call0_v5 : Ref sig .tc := ⟨.hbm, 528, rfl⟩
abbrev main_call8_call0_cst : Ref sig .tc := ⟨.hbm, 529, rfl⟩
abbrev main_call8_call0_v6 : Ref sig .tc := ⟨.hbm, 530, rfl⟩
abbrev main_v23 : Ref sig .tc := ⟨.hbm, 531, rfl⟩
abbrev main_v24 : Ref sig .tc := ⟨.hbm, 532, rfl⟩
abbrev main_v25 : Ref sig .tc := ⟨.hbm, 533, rfl⟩
abbrev main_v26 : Ref sig .tc := ⟨.hbm, 534, rfl⟩
abbrev main_v27 : Ref sig .tc := ⟨.hbm, 535, rfl⟩
abbrev main_v28 : Ref sig .tc := ⟨.hbm, 536, rfl⟩
abbrev main_cst_0 : Ref sig .tc := ⟨.hbm, 537, rfl⟩
abbrev main_v29 : Ref sig .tc := ⟨.hbm, 538, rfl⟩
abbrev main_cst_1 : Ref sig .tc := ⟨.hbm, 539, rfl⟩
abbrev main_v30 : Ref sig .tc := ⟨.hbm, 540, rfl⟩
abbrev main_v31 : Ref sig .tc := ⟨.hbm, 541, rfl⟩

abbrev nD : Nat := 1
abbrev τ : Topo := Topo.v7x

variable {F : FTy → Type} [FloatOps F]

abbrev main_while0_count : Scf.Loop 32 := ⟨0#32, 11#32, 1#32⟩

abbrev main_while1_count : Scf.Loop 32 := ⟨0#32, 11#32, 1#32⟩

abbrev main_while2_count : Scf.Loop 32 := ⟨0#32, 11#32, 1#32⟩
-- ==== Proof.KernelIdeal.Steps.lean ====
/-
  The kernel's arithmetic, one block at a time, as functions of what the block reads: the attention of one batch, the
  two relation blocks, the graph of pairwise distances in its sixteen column chunks, one k-means prediction, and one
  trip of the assignment loop on the two batches stacked. They are stated at any float values; `Body.lean` shows that
  the printed body computes exactly these.
-/
module

public import proofs.«01_k».proof.KernelIdeal
public import proofs.«01_k».proof.Proof.Gen.KernelIdeal

@[expose] public section

set_option synthInstance.maxSize 4096

noncomputable section

namespace Cert.KernelIdeal.Blocks

open Cert.KernelIdeal Cert.KernelIdeal.Gen
open Idealize.ShloMosaic Idealize.SL.Sem

variable {F : FTy → Type} [FloatOps F] [Named F]

/-- The number below every score: the mask value of the threshold search. -/
def floorC : F .f32 := Named.named κ "floor" 0xFF61B1E6#32

/-- The number of a bit pattern. -/
abbrev k32 (b : BitVec 32) : F .f32 := Scalar.ofBits .f32 b

/-! ## Attention over the 272 rows of one batch -/

/-- `x · w + b`, the bias along every row. -/
def lin (x : FVec F S272x256 .f32) (w : FVec F S256x128 .f32) (b : FVec F S1x128 .f32) : FVec F S272x128 .f32 :=
  addf (matmul dot_S272x256_S256x128_S272x128_1_0_0_1_n_n none x w (constant (F := F) S272x128 .f32 0x00000000#32))
    (broadcastTo S272x128 (shapeCast S1x128 b shapeCasts_S1x128_S1x128) broadcasts_S1x128_S272x128)

/-- The scores of one head: the products of its query rows and key rows. -/
def scores (q k : FVec F S272x32 .f32) : FVec F S272x272 .f32 :=
  matmul dot_S272x32_S272x32_S272x272_1_1_0_0_n_n none q k (constant (F := F) S272x272 .f32 0x00000000#32)

/-- The exponentials of a head's scores less their row's maximum. -/
def expo (s : FVec F S272x272 .f32) : FVec F S272x272 .f32 :=
  exp (subf s (broadcastTo S272x272 (shapeCast S272x1 (multiReduction .maximumf [1] S272 s 0xFF800000#32 reduces_S272x272_S272 (.inl rfl) rfl)
    shapeCasts_S272_S272x1) broadcasts_S272x1_S272x272))

/-- Each row divided by its sum. -/
def normed (e : FVec F S272x272 .f32) : FVec F S272x272 .f32 :=
  divf e (broadcastTo S272x272 (shapeCast S272x1 (multiReduction .add [1] S272 e 0x00000000#32 reduces_S272x272_S272 (.inl rfl) rfl)
    shapeCasts_S272_S272x1) broadcasts_S272x1_S272x272)

/-- One head on its columns of the queries, keys and values. -/
def headOf (q k v : FVec F S272x32 .f32) : FVec F S272x32 .f32 :=
  matmul dot_S272x272_S272x32_S272x32_1_0_0_1_n_n none (normed (expo (scores q k))) v (constant (F := F) S272x32 .f32 0x00000000#32)

/-- The head whose columns begin at `o`. -/
def head (o : ℕ) (h : S272x128.Slices ![0, o] S272x32) (q k v : FVec F S272x128 .f32) : FVec F S272x32 .f32 :=
  headOf (extractStridedSlice S272x32 ![0, o] q h) (extractStridedSlice S272x32 ![0, o] k h) (extractStridedSlice S272x32 ![0, o] v h)

/-- The four heads side by side, through the output projection. -/
def attn (q k v : FVec F S272x128 .f32) (wo : FVec F S128x128 .f32) (bo : FVec F S1x128 .f32) : FVec F S272x128 .f32 :=
  addf (matmul dot_S272x128_S128x128_S272x128_1_0_0_1_n_n none
      (concatenate S272x128 1 [⟨S272x32, head 0 slices_S272x128_o0_0_S272x32 q k v⟩, ⟨S272x32, head 32 slices_S272x128_o0_32_S272x32 q k v⟩,
        ⟨S272x32, head 64 slices_S272x128_o0_64_S272x32 q k v⟩, ⟨S272x32, head 96 slices_S272x128_o0_96_S272x32 q k v⟩]
        concatenates_S272x32_S272x32_S272x32_S272x32_S272x128_d1) wo (constant (F := F) S272x128 .f32 0x00000000#32))
    (broadcastTo S272x128 (shapeCast S1x128 bo shapeCasts_S1x128_S1x128) broadcasts_S1x128_S272x128)

/-- The parameters of the attention as the kernel loads them. -/
structure Params (F : FTy → Type) where
  (wq : FVec F S256x128 .f32) (wk : FVec F S256x128 .f32) (wv : FVec F S256x128 .f32) (wo : FVec F S128x128 .f32)
  (bq : FVec F S1x128 .f32) (bk : FVec F S1x128 .f32) (bv : FVec F S1x128 .f32) (bo : FVec F S1x128 .f32)

/-- What one batch's attention gives on its 272 rows. -/
def attnOf (p : Params F) (x : FVec F S272x256 .f32) : FVec F S272x128 .f32 :=
  attn (lin x p.wq p.bq) (lin x p.wk p.bk) (lin x p.wv p.bv) p.wo p.bo

/-- The first 256 rows, the attention beside the input. -/
def sdOf (a : FVec F S272x128 .f32) (x : FVec F S272x256 .f32) : FVec F S256x384 .f32 :=
  concatenate S256x384 1 [⟨S256x128, extractStridedSlice S256x128 ![0, 0] a slices_S272x128_o0_0_S256x128⟩,
    ⟨S256x256, extractStridedSlice S256x256 ![0, 0] x slices_S272x256_o0_0_S256x256⟩] concatenates_S256x128_S256x256_S256x384_d1

/-- The last 16 rows, likewise. -/
def rdOf (a : FVec F S272x128 .f32) (x : FVec F S272x256 .f32) : FVec F S16x384 .f32 :=
  concatenate S16x384 1 [⟨S16x128, extractStridedSlice S16x128 ![256, 0] a slices_S272x128_o256_0_S16x128⟩,
    ⟨S16x256, extractStridedSlice S16x256 ![256, 0] x slices_S272x256_o256_0_S16x256⟩] concatenates_S16x128_S16x256_S16x384_d1

/-! ## The graph: distances in sixteen chunks of columns -/

/-- The shape relations the distance chunk starting at row `o` needs. -/
abbrev ColFacts (o : ℕ) : Prop :=
  S256x384.Slices ![o, 0] ⟨2, ![256 - o, 384]⟩ ∧ Shape.ShapeCasts ⟨2, ![256 - o, 384]⟩ ⟨3, ![256 - o, 1, 384]⟩
  ∧ S256x384.Slices ![o, 0] S16x384 ∧ Shape.Broadcasts ⟨3, ![256 - o, 1, 384]⟩ ⟨3, ![256 - o, 16, 384]⟩
  ∧ S1x16x384.Broadcasts ⟨3, ![256 - o, 16, 384]⟩ ∧ Shape.Reduces ⟨3, ![256 - o, 16, 384]⟩ [2] ⟨2, ![256 - o, 16]⟩
  ∧ Shape.Concatenates [⟨2, ![o, 16]⟩, ⟨2, ![256 - o, 16]⟩] S256x16 0

/-- The side conditions of every chunk after the first. -/
theorem colFacts (j : Fin 15) : ColFacts (16 * (j.val + 1)) := by
  revert j; decide

/-- Minus the distance of each row of `a` to each of sixteen rows. -/
def negDist (n : ℕ) (a : FVec F ⟨3, ![n, 1, 384]⟩ .f32) (b : FVec F S16x384 .f32)
    (h₁ : Shape.Broadcasts ⟨3, ![n, 1, 384]⟩ ⟨3, ![n, 16, 384]⟩) (h₂ : S1x16x384.Broadcasts ⟨3, ![n, 16, 384]⟩)
    (h₃ : Shape.Reduces ⟨3, ![n, 16, 384]⟩ [2] ⟨2, ![n, 16]⟩) : FVec F ⟨2, ![n, 16]⟩ .f32 :=
  let d : FVec F ⟨3, ![n, 16, 384]⟩ .f32 := subf (broadcastTo ⟨3, ![n, 16, 384]⟩ a h₁)
    (broadcastTo ⟨3, ![n, 16, 384]⟩ (shapeCast S1x16x384 b shapeCasts_S16x384_S1x16x384) h₂)
  subf (broadcast ⟨2, ![n, 16]⟩ (k32 0x00000000#32))
    (sqrt (addf (multiReduction .add [2] ⟨2, ![n, 16]⟩ (mulf d d) 0x00000000#32 h₃ (.inl rfl) rfl) (broadcast ⟨2, ![n, 16]⟩ (k32 0x358637BD#32))))

/-- The first chunk: every row against rows 0 to 15. -/
def col0 (sd : FVec F S256x384 .f32) : FVec F S256x16 .f32 :=
  negDist 256 (shapeCast S256x1x384 sd shapeCasts_S256x384_S256x1x384) (extractStridedSlice S16x384 ![0, 0] sd slices_S256x384_o0_0_S16x384)
    broadcasts_S256x1x384_S256x16x384 broadcasts_S1x16x384_S256x16x384 reduces_S256x16x384_S256x16

/-- The chunk of columns starting at `o`: zero above row `o`, the distances from it on. -/
def colAt (o : ℕ) (h : ColFacts o) (sd : FVec F S256x384 .f32) : FVec F S256x16 .f32 :=
  concatenate S256x16 0 [⟨⟨2, ![o, 16]⟩, broadcast ⟨2, ![o, 16]⟩ (k32 0x00000000#32)⟩,
    ⟨⟨2, ![256 - o, 16]⟩, negDist (256 - o) (shapeCast ⟨3, ![256 - o, 1, 384]⟩ (extractStridedSlice ⟨2, ![256 - o, 384]⟩ ![o, 0] sd h.1) h.2.1)
      (extractStridedSlice S16x384 ![o, 0] sd h.2.2.1) h.2.2.2.1 h.2.2.2.2.1 h.2.2.2.2.2.1⟩] h.2.2.2.2.2.2

/-- The chunk numbered `j + 1`. -/
abbrev col (j : Fin 15) (sd : FVec F S256x384 .f32) : FVec F S256x16 .f32 := colAt (16 * (j.val + 1)) (colFacts j) sd

/-- The chunks side by side: the distances on and below the diagonal. -/
def lower (sd : FVec F S256x384 .f32) : FVec F S256x256 .f32 :=
  concatenate S256x256 1 [⟨S256x16, col0 sd⟩, ⟨S256x16, col 0 sd⟩, ⟨S256x16, col 1 sd⟩, ⟨S256x16, col 2 sd⟩, ⟨S256x16, col 3 sd⟩,
    ⟨S256x16, col 4 sd⟩, ⟨S256x16, col 5 sd⟩, ⟨S256x16, col 6 sd⟩, ⟨S256x16, col 7 sd⟩, ⟨S256x16, col 8 sd⟩, ⟨S256x16, col 9 sd⟩,
    ⟨S256x16, col 10 sd⟩, ⟨S256x16, col 11 sd⟩, ⟨S256x16, col 12 sd⟩, ⟨S256x16, col 13 sd⟩, ⟨S256x16, col 14 sd⟩]
    concatenates_S256x16_S256x16_S256x16_S256x16_S256x16_S256x16_S256x16_S256x16_S256x16_S256x16_S256x16_S256x16_S256x16_S256x16_S256x16_S256x16_S256x256_d1

/-- The graph: the lower triangle mirrored, the diagonal pushed down. -/
def graph (sd : FVec F S256x384 .f32) : FVec F S256x256 .f32 :=
  addf (select (cmpi .sge (iota .tc S256x256 32 [0] iota_S256x256_d0_w32) (iota .tc S256x256 32 [1] iota_S256x256_d1_w32))
      (lower sd) (transpose S256x256 [1, 0] (lower sd) transposes_S256x256_p1_0_S256x256))
    (mulf (sitofp .f32 (extui 32 (cmpi .eq (iota .tc S256x256 32 [0] iota_S256x256_d0_w32) (iota .tc S256x256 32 [1] iota_S256x256_d1_w32)) natLt_1_32))
      (broadcast S256x256 (k32 0xC9742400#32)))

/-! ## One k-means prediction -/

/-- The row weights before the mask: each row's largest masked entry of the graph. -/
def rowMax (g : FVec F S256x256 .f32) (lab : FVec F S256x16 .f32) : FVec F S256 .f32 :=
  let msk : FVec F S256x256 .f32 := matmul dot_S256x16_S256x16_S256x256_1_1_0_0_n_n none lab lab (constant (F := F) S256x256 .f32 0x00000000#32)
  multiReduction .maximumf [0] S256 (addf (mulf g msk)
    (mulf (subf (broadcast S256x256 (k32 0x3F800000#32)) msk) (broadcast S256x256 (k32 0xC9742400#32)))) 0xFF800000#32 reduces_S256x256_S256 (.inl rfl) rfl

/-- The weights of the rows in each cluster, a softmax along the rows. -/
def weights (r : FVec F S256 .f32) (lt : FVec F S16x256 .f32) : FVec F S16x256 .f32 :=
  let s : FVec F S16x256 .f32 := addf (mulf lt (broadcastTo S16x256 (shapeCast S1x256 r shapeCasts_S256_S1x256) broadcasts_S1x256_S16x256))
    (mulf (subf (broadcast S16x256 (k32 0x3F800000#32)) lt) (broadcast S16x256 (k32 0xC9742400#32)))
  let e : FVec F S16x256 .f32 := exp (subf s (broadcastTo S16x256 (shapeCast S16x1
    (multiReduction .maximumf [1] S16 s 0xFF800000#32 reduces_S16x256_S16 (.inl rfl) rfl) shapeCasts_S16_S16x1) broadcasts_S16x1_S16x256))
  divf e (broadcastTo S16x256 (shapeCast S16x1 (multiReduction .add [1] S16 e 0x00000000#32 reduces_S16x256_S16 (.inl rfl) rfl)
    shapeCasts_S16_S16x1) broadcasts_S16x1_S16x256)

/-- The cluster centres: the weighted rows mixed with the relation rows. -/
def centres (w : FVec F S16x256 .f32) (sd : FVec F S256x384 .f32) (rd : FVec F S16x384 .f32) : FVec F S16x384 .f32 :=
  addf (mulf (broadcast S16x384 (k32 0x3F70F0F1#32)) (matmul dot_S16x256_S256x384_S16x384_1_0_0_1_n_n none w sd (constant (F := F) S16x384 .f32 0x00000000#32)))
    (mulf (broadcast S16x384 (k32 0x3D70F0F1#32)) rd)

/-- Each row's squared distance to each centre. -/
def sqDist (sd : FVec F S256x384 .f32) (ce : FVec F S16x384 .f32) : FVec F S256x16 .f32 :=
  let d : FVec F S256x16x384 .f32 := subf (broadcastTo S256x16x384 (shapeCast S256x1x384 sd shapeCasts_S256x384_S256x1x384) broadcasts_S256x1x384_S256x16x384)
    (broadcastTo S256x16x384 (shapeCast S1x16x384 ce shapeCasts_S16x384_S1x16x384) broadcasts_S1x16x384_S256x16x384)
  multiReduction .add [2] S256x16 (mulf d d) 0x00000000#32 reduces_S256x16x384_S256x16 (.inl rfl) rfl

/-- One k-means prediction: minus the squared distances to the new centres. -/
def kmean (sd : FVec F S256x384 .f32) (rd : FVec F S16x384 .f32) (g : FVec F S256x256 .f32) (lab : FVec F S256x16 .f32)
    (lt : FVec F S16x256 .f32) : FVec F S256x16 .f32 :=
  subf (broadcast S256x16 (k32 0x00000000#32)) (sqDist sd (centres (weights (rowMax g lab) lt) sd rd))

/-! ## One trip of the assignment loop, the two batches stacked -/

/-- The state of the threshold search: the scores not yet taken, how many have been, the threshold. -/
structure Thr (F : FTy → Type) where
  (m : FVec F S32x256 .f32) (cum : FVec F S32x1 .f32) (t : FVec F S32x1 .f32)

/-- Each row's largest remaining score. -/
def curOf (m : FVec F S32x256 .f32) : FVec F S32x1 .f32 :=
  shapeCast S32x1 (multiReduction .maximumf [1] S32 m 0xFF800000#32 reduces_S32x256_S32 (.inl rfl) rfl) shapeCasts_S32_S32x1

/-- Where the largest remaining score stands. -/
def eqOf (m : FVec F S32x256 .f32) : IVec S32x256 1 := cmpf .oeq m (broadcastTo S32x256 (curOf m) broadcasts_S32x1_S32x256)

/-- One step of the search: the largest remaining score is the threshold while fewer than sixteen are taken; every
    position that holds it is taken. -/
def thrStep (s : Thr F) : Thr F where
  m := select (eqOf s.m) (broadcast S32x256 floorC) s.m
  cum := addf s.cum (shapeCast S32x1 (multiReduction .add [1] S32 (sitofp .f32 (extui 32 (eqOf s.m) natLt_1_32)) 0x00000000#32
    reduces_S32x256_S32 (.inl rfl) rfl) shapeCasts_S32_S32x1)
  t := select (cmpf .olt s.cum (broadcast S32x1 (k32 0x41780000#32))) (curOf s.m) s.t

/-- The search at its start. -/
def thrInit (pt : FVec F S32x256 .f32) : Thr F := ⟨pt, broadcast S32x1 (k32 0x00000000#32), broadcast S32x1 floorC⟩

/-- The threshold after sixteen steps. -/
def thr (pt : FVec F S32x256 .f32) : FVec F S32x1 .f32 := (thrStep^[16] (thrInit pt)).t

/-- A truth value as a number, element by element. -/
abbrev num {s : Shape} (v : IVec s 1) : FVec F s .f32 := sitofp .f32 (extui 32 v natLt_1_32)

/-- The kept positions: the scores at or above their row's threshold. -/
def keepOf (pt : FVec F S32x256 .f32) : FVec F S32x256 .f32 :=
  num (cmpf .oge pt (broadcastTo S32x256 (thr pt) broadcasts_S32x1_S32x256))

/-- The upper and the lower sixteen rows. -/
abbrev top (v : FVec F S32x256 .f32) : FVec F S16x256 .f32 := extractStridedSlice S16x256 ![0, 0] v slices_S32x256_o0_0_S16x256
/-- The lower sixteen rows: the second batch. -/
abbrev bot (v : FVec F S32x256 .f32) : FVec F S16x256 .f32 := extractStridedSlice S16x256 ![16, 0] v slices_S32x256_o16_0_S16x256

/-- One array over the other. -/
abbrev stack (a b : FVec F S16x256 .f32) : FVec F S32x256 .f32 := concatenate S32x256 0 [⟨S16x256, a⟩, ⟨S16x256, b⟩] concatenates_S16x256_S16x256_S32x256_d0

/-- The sums of the columns. -/
def colSum (v : FVec F S16x256 .f32) : FVec F S1x256 .f32 :=
  shapeCast S1x256 (multiReduction .add [0] S256 v 0x00000000#32 reduces_S16x256_S256 (.inl rfl) rfl) shapeCasts_S256_S1x256

/-- Whether every column sum is below two, computed as the least of ones and zeros. -/
def allBelow (s : FVec F S1x256 .f32) : BitVec 1 :=
  let z : FVec F S1x256 .f32 := select (cmpf .olt s (broadcast S1x256 (k32 0x40000000#32))) (broadcast S1x256 (k32 0x3F800000#32))
    (broadcast S1x256 (k32 0x00000000#32))
  let r : FVec F S1 .f32 := multiReduction .minimumf [1, 2] S1 (shapeCast S1x1x256 z shapeCasts_S1x256_S1x1x256) 0x7F800000#32
    reduces_S1x1x256_S1 (.inl rfl) rfl
  Scalar.cmpf .ogt (extractAt ![0, 0, 0] (shapeCast S1x1x1 r shapeCasts_S1_S1x1x1) inpos_S1x1x1_p0_0_0 : F .f32) (k32 0x00000000#32)

/-- Whether the assignment is settled: in both batches every row is kept by fewer than two clusters. -/
def settled (m2 : FVec F S32x256 .f32) : BitVec 1 := Scalar.andi (allBelow (colSum (top m2))) (allBelow (colSum (bot m2)))

/-- The scores with everything not kept pushed down. -/
def pushed (pt m2 : FVec F S32x256 .f32) : FVec F S32x256 .f32 :=
  subf pt (mulf (subf (broadcast S32x256 (k32 0x3F800000#32)) m2) (broadcast S32x256 (k32 0x49742400#32)))

/-- Where each column's largest value stands. -/
def argTop (v : FVec F S16x256 .f32) : FVec F S16x256 .f32 :=
  num (cmpf .oge v (broadcastTo S16x256 (shapeCast S1x256 (multiReduction .maximumf [0] S256 v 0xFF800000#32 reduces_S16x256_S256 (.inl rfl) rfl)
    shapeCasts_S256_S1x256) broadcasts_S1x256_S16x256))

/-- Whether a column sum exceeds a number, along the sixteen rows. -/
def above (b : BitVec 32) (v : FVec F S16x256 .f32) : FVec F S16x256 .f32 :=
  broadcastTo S16x256 (shapeCast S1x256 (num (cmpf .ogt (colSum v) (broadcast S1x256 (k32 b)))) shapeCasts_S1x256_S1x256) broadcasts_S1x256_S16x256

/-- The kept positions that hold their column's largest value. -/
def best (pt m2 : FVec F S32x256 .f32) : FVec F S32x256 .f32 := mulf (stack (argTop (top (pushed pt m2))) (argTop (bot (pushed pt m2)))) m2

/-- The scores after a trip: a column already taken is pushed down except at the one position that took it. -/
def lowered (pt m2 : FVec F S32x256 .f32) : FVec F S32x256 .f32 :=
  let m4 := best pt m2
  let m5 := stack (above 0x3F000000#32 (top m4)) (above 0x3F000000#32 (bot m4))
  let pt2 := addf pt (mulf m5 (broadcast S32x256 (k32 0xC9742400#32)))
  let m6 := stack (above 0x3FC00000#32 (top m4)) (above 0x3FC00000#32 (bot m4))
  let m7 := mulf m4 (subf (broadcast S32x256 (k32 0x3F800000#32)) m6)
  addf (mulf m7 pt) (mulf (subf (broadcast S32x256 (k32 0x3F800000#32)) m7) pt2)

/-- The scores the next trip starts from: unchanged once settled. -/
def nextPt (pt : FVec F S32x256 .f32) : FVec F S32x256 .f32 :=
  Scalar.select (settled (keepOf pt)) pt (lowered pt (keepOf pt))

/-- The loop with `n` trips to go: the scores, the positions kept at the last trip, whether that trip settled. -/
def runLoop : ℕ → FVec F S32x256 .f32 → FVec F S32x256 .f32 → BitVec 1 → FVec F S32x256 .f32
  | 0, _, keep, _ => keep
  | n + 1, pt, keep, done => if done = 1#1 then keep else runLoop n (nextPt pt) (keepOf pt) (settled (keepOf pt))

/-- The positions the loop keeps, started on the scores. -/
def assign (pt : FVec F S32x256 .f32) : FVec F S32x256 .f32 := runLoop 11 pt (broadcast S32x256 (k32 0x00000000#32)) 0#1

/-! ## The four rounds -/

/-- What one batch's rounds work with. -/
structure Batch (F : FTy → Type) where
  (sd : FVec F S256x384 .f32) (rd : FVec F S16x384 .f32) (g : FVec F S256x256 .f32)

/-- A batch's prediction from its rows of the kept positions. -/
def predKept (b : Batch F) (keep : FVec F S16x256 .f32) : FVec F S256x16 .f32 :=
  kmean b.sd b.rd b.g (transpose S256x16 [1, 0] keep transposes_S16x256_p1_0_S256x16) keep

/-- Two batches' predictions turned and stacked. -/
def stackT (p q : FVec F S256x16 .f32) : FVec F S32x256 .f32 :=
  stack (transpose S16x256 [1, 0] p transposes_S256x16_p1_0_S16x256) (transpose S16x256 [1, 0] q transposes_S256x16_p1_0_S16x256)

/-- The batch's blocks from its 272 input rows. -/
def batchOf (p : Params F) (x : FVec F S272x256 .f32) : Batch F where
  sd := sdOf (attnOf p x) x
  rd := rdOf (attnOf p x) x
  g := graph (sdOf (attnOf p x) x)

/-- What the kernel loads. -/
structure Ins (F : FTy → Type) where
  (p : Params F) (x0 x1 : FVec F S272x256 .f32) (lab0 lab1 : FVec F S256x16 .f32) (lt0 lt1 : FVec F S16x256 .f32)

/-- The first round's predictions. -/
def pred0 (I : Ins F) : FVec F S256x16 .f32 := kmean (batchOf I.p I.x0).sd (batchOf I.p I.x0).rd (batchOf I.p I.x0).g I.lab0 I.lt0
/-- The second batch's first prediction. -/
def pred1 (I : Ins F) : FVec F S256x16 .f32 := kmean (batchOf I.p I.x1).sd (batchOf I.p I.x1).rd (batchOf I.p I.x1).g I.lab1 I.lt1

/-- The first batch's prediction from what a loop kept. -/
abbrev nxt0 (I : Ins F) (keep : FVec F S32x256 .f32) : FVec F S256x16 .f32 := predKept (batchOf I.p I.x0) (top keep)
/-- The second batch's prediction from what a loop kept. -/
abbrev nxt1 (I : Ins F) (keep : FVec F S32x256 .f32) : FVec F S256x16 .f32 := predKept (batchOf I.p I.x1) (bot keep)

/-- What the first loop keeps. -/
def keep1 (I : Ins F) : FVec F S32x256 .f32 := assign (stackT (pred0 I) (pred1 I))
/-- What the second loop keeps. -/
def keep2 (I : Ins F) : FVec F S32x256 .f32 := assign (stackT (nxt0 I (keep1 I)) (nxt1 I (keep1 I)))
/-- What the third loop keeps. -/
def keep3 (I : Ins F) : FVec F S32x256 .f32 := assign (stackT (nxt0 I (keep2 I)) (nxt1 I (keep2 I)))

/-- A batch's result from its four predictions: a quarter of their sum. -/
def quarter (a b c d : FVec F S256x16 .f32) : FVec F S1x256x16 .f32 :=
  shapeCast S1x256x16 (mulf (addf (addf (addf (addf (broadcast S256x16 (k32 0x00000000#32)) a) b) c) d) (broadcast S256x16 (k32 0x3E800000#32)))
    shapeCasts_S256x16_S1x256x16

/-- The first batch's result, from what the three loops kept. -/
def outFrom0 (I : Ins F) (k₁ k₂ k₃ : FVec F S32x256 .f32) : FVec F S1x256x16 .f32 := quarter (pred0 I) (nxt0 I k₁) (nxt0 I k₂) (nxt0 I k₃)
/-- The second batch's result, from what the three loops kept. -/
def outFrom1 (I : Ins F) (k₁ k₂ k₃ : FVec F S32x256 .f32) : FVec F S1x256x16 .f32 := quarter (pred1 I) (nxt1 I k₁) (nxt1 I k₂) (nxt1 I k₃)

/-- The first row that the kernel stores. -/
def out0 (I : Ins F) : FVec F S1x256x16 .f32 := outFrom0 I (keep1 I) (keep2 I) (keep3 I)
/-- The second row that the kernel stores. -/
def out1 (I : Ins F) : FVec F S1x256x16 .f32 := outFrom1 I (keep1 I) (keep2 I) (keep3 I)

end Cert.KernelIdeal.Blocks

end
-- ==== Proof.KernelIdeal.BodyEq.lean ====
/-
  The printed body is: the loads, the three assignment loops on the stacked predictions, and the two stores of the
  results. Everything between is the arithmetic of `Steps.lean`, by unfolding.
-/
module

public import proofs.«01_k».proof.Proof.Gen.KernelIdeal.Skeleton
public import proofs.«01_k».proof.Proof.KernelIdeal.Steps

@[expose] public section

set_option maxRecDepth 65536

noncomputable section

namespace Cert.KernelIdeal.Blocks

open Cert.KernelIdeal Cert.KernelIdeal.Gen
open Idealize.ShloMosaic Idealize.SL.Sem

variable {F : FTy → Type} [FloatOps F] [Named F]

/-- The whole of the projection weights. -/
abbrev rW1 : Rect S256x128 := Rect.unit (s := S256x128) ![0, 0] S256x128.size inb_S256x128_S256x128_0_0
/-- The whole of the output weights. -/
abbrev rW2 : Rect S128x128 := Rect.unit (s := S128x128) ![0, 0] S128x128.size inb_S128x128_S128x128_0_0
/-- The whole of a bias row. -/
abbrev rW3 : Rect S1x128 := Rect.unit (s := S1x128) ![0, 0] S1x128.size inb_S1x128_S1x128_0_0
/-- The first batch's points. -/
abbrev rX0 : Rect S2x272x256 := Rect.unit (s := S2x272x256) ![0, 0, 0] S1x272x256.size inb_S2x272x256_S1x272x256_0_0_0
/-- The second batch's points. -/
abbrev rX1 : Rect S2x272x256 := Rect.unit (s := S2x272x256) ![1, 0, 0] S1x272x256.size inb_S2x272x256_S1x272x256_1_0_0
/-- The first batch's labels. -/
abbrev rL0 : Rect S2x256x16 := Rect.unit (s := S2x256x16) ![0, 0, 0] S1x256x16.size inb_S2x256x16_S1x256x16_0_0_0
/-- The second batch's labels. -/
abbrev rL1 : Rect S2x256x16 := Rect.unit (s := S2x256x16) ![1, 0, 0] S1x256x16.size inb_S2x256x16_S1x256x16_1_0_0
/-- The first batch's transposed labels. -/
abbrev rT0 : Rect S2x16x256 := Rect.unit (s := S2x16x256) ![0, 0, 0] S1x16x256.size inb_S2x16x256_S1x16x256_0_0_0
/-- The second batch's transposed labels. -/
abbrev rT1 : Rect S2x16x256 := Rect.unit (s := S2x16x256) ![1, 0, 0] S1x16x256.size inb_S2x16x256_S1x16x256_1_0_0

/-- What the kernel works with, from the blocks its loads give. -/
def insOf (wq wk wv : FVec F S256x128 .f32) (wo : FVec F S128x128 .f32) (bq bk bv bo : FVec F S1x128 .f32)
    (x0 : FVec F S1x272x256 .f32) (l0 : FVec F S1x256x16 .f32) (t0 : FVec F S1x16x256 .f32)
    (x1 : FVec F S1x272x256 .f32) (l1 : FVec F S1x256x16 .f32) (t1 : FVec F S1x16x256 .f32) : Ins F where
  p := ⟨wq, wk, wv, wo, bq, bk, bv, bo⟩
  x0 := shapeCast S272x256 x0 shapeCasts_S1x272x256_S272x256
  x1 := shapeCast S272x256 x1 shapeCasts_S1x272x256_S272x256
  lab0 := shapeCast S256x16 l0 shapeCasts_S1x256x16_S256x16
  lab1 := shapeCast S256x16 l1 shapeCasts_S1x256x16_S256x16
  lt0 := shapeCast S16x256 t0 shapeCasts_S1x16x256_S16x256
  lt1 := shapeCast S16x256 t1 shapeCasts_S1x16x256_S16x256

/-- A zero array of kept positions. -/
abbrev zeroKeep : FVec F S32x256 .f32 := broadcast S32x256 (k32 0x00000000#32)

/-- The body after its loads, in readable form: the three loops on the stacked predictions, and the two stores. -/
def tailOf (arg11 : Memref sig .tc .vmem S2x256x16 .f32) (harg11 : arg11.IsWhole) (I : Ins F) :
    Prog (TpuEff nD τ sig (Elt F) (Λ₀ F) .tc) PUnit := do
  let r₁ : BitVec 32 × FVec F S32x256 .f32 × FVec F S32x256 .f32 × BitVec 1 ←
    Prog.lift (.call (1 : (Λ₀ F).Label) ⟨0#32, stackT (pred0 I) (pred1 I), zeroKeep, 0#1⟩)
  let r₂ : BitVec 32 × FVec F S32x256 .f32 × FVec F S32x256 .f32 × BitVec 1 ←
    Prog.lift (.call (2 : (Λ₀ F).Label) ⟨0#32, stackT (nxt0 I r₁.2.2.1) (nxt1 I r₁.2.2.1), zeroKeep, 0#1⟩)
  let r₃ : BitVec 32 × FVec F S32x256 .f32 × FVec F S32x256 .f32 × BitVec 1 ←
    Prog.lift (.call (3 : (Λ₀ F).Label) ⟨0#32, stackT (nxt0 I r₂.2.2.1) (nxt1 I r₂.2.2.1), zeroKeep, 0#1⟩)
  let _ : Vec F S1x256x16 .f32 ← Prog.lift (.load arg11 rL0.toLoadRect (View.loadsAt_vmem h_S1x256x16))
  Prog.lift (.store arg11 rL0 (outFrom0 I r₁.2.2.1 r₂.2.2.1 r₃.2.2.1) Finset.univ (View.stores_vmem_bits_univ h_S1x256x16 rfl) (.inl rfl))
  let _ : Vec F S1x256x16 .f32 ← Prog.lift (.load arg11 rL1.toLoadRect (View.loadsAt_vmem h_S1x256x16))
  Prog.lift (.store arg11 rL1 (outFrom1 I r₁.2.2.1 r₂.2.2.1 r₃.2.2.1) Finset.univ (View.stores_vmem_bits_univ h_S1x256x16 rfl) (.inl rfl))
  pure ⟨⟩

/-- The body in readable form. -/
def bodyOf (arg0 : Memref sig .tc .vmem S2x272x256 .f32) (harg0 : arg0.IsWhole) (arg1 : Memref sig .tc .vmem S2x256x16 .f32) (harg1 : arg1.IsWhole) (arg2 : Memref sig .tc .vmem S2x16x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S2x256x16 .f32) (harg11 : arg11.IsWhole) :
    Prog (TpuEff nD τ sig (Elt F) (Λ₀ F) .tc) PUnit := do
  let wq : Vec F S256x128 .f32 ← Prog.lift (.load arg3 rW1.toLoadRect (View.loadsAt_vmem h_S256x128))
  let wk : Vec F S256x128 .f32 ← Prog.lift (.load arg5 rW1.toLoadRect (View.loadsAt_vmem h_S256x128))
  let wv : Vec F S256x128 .f32 ← Prog.lift (.load arg7 rW1.toLoadRect (View.loadsAt_vmem h_S256x128))
  let wo : Vec F S128x128 .f32 ← Prog.lift (.load arg9 rW2.toLoadRect (View.loadsAt_vmem h_S128x128))
  let bq : Vec F S1x128 .f32 ← Prog.lift (.load arg4 rW3.toLoadRect (View.loadsAt_vmem h_S1x128))
  let bk : Vec F S1x128 .f32 ← Prog.lift (.load arg6 rW3.toLoadRect (View.loadsAt_vmem h_S1x128))
  let bv : Vec F S1x128 .f32 ← Prog.lift (.load arg8 rW3.toLoadRect (View.loadsAt_vmem h_S1x128))
  let bo : Vec F S1x128 .f32 ← Prog.lift (.load arg10 rW3.toLoadRect (View.loadsAt_vmem h_S1x128))
  let x0 : Vec F S1x272x256 .f32 ← Prog.lift (.load arg0 rX0.toLoadRect (View.loadsAt_vmem h_S1x272x256))
  let l0 : Vec F S1x256x16 .f32 ← Prog.lift (.load arg1 rL0.toLoadRect (View.loadsAt_vmem h_S1x256x16))
  let t0 : Vec F S1x16x256 .f32 ← Prog.lift (.load arg2 rT0.toLoadRect (View.loadsAt_vmem h_S1x16x256))
  let x1 : Vec F S1x272x256 .f32 ← Prog.lift (.load arg0 rX1.toLoadRect (View.loadsAt_vmem h_S1x272x256))
  let l1 : Vec F S1x256x16 .f32 ← Prog.lift (.load arg1 rL1.toLoadRect (View.loadsAt_vmem h_S1x256x16))
  let t1 : Vec F S1x16x256 .f32 ← Prog.lift (.load arg2 rT1.toLoadRect (View.loadsAt_vmem h_S1x16x256))
  tailOf arg11 harg11 (insOf wq wk wv wo bq bk bv bo x0 l0 t0 x1 l1 t1)

set_option maxHeartbeats 4000000 in
/-- The printed body is the readable one. -/
theorem body_eq : cc0__body (F := F) = bodyOf (F := F) := by
  rw [cc0__body_eq_skeleton]
  rfl

end Cert.KernelIdeal.Blocks

end
-- ==== Proof.KernelIdeal.LoopEq.lean ====
/-
  Each printed assignment loop is: while fewer than eleven trips are made and the last one did not settle, another trip
  on the next scores. The arithmetic of a trip is that of `Steps.lean`, by unfolding.
-/
module

public import proofs.«01_k».proof.Proof.Gen.KernelIdeal.Skeleton
public import proofs.«01_k».proof.Proof.KernelIdeal.Steps

@[expose] public section

set_option maxRecDepth 65536

noncomputable section

namespace Cert.KernelIdeal.Blocks

open Cert.KernelIdeal Cert.KernelIdeal.Gen
open Idealize.ShloMosaic Idealize.SL.Sem

variable {F : FTy → Type} [FloatOps F] [Named F]

/-- Whether a loop makes another trip. -/
abbrev goesOn (i : BitVec 32) (done : BitVec 1) : BitVec 1 := Scalar.andi (Scalar.cmpi .slt i 11#32) (Scalar.xori done 1#1)

/-- What a loop carries. -/
abbrev Carry (F : FTy → Type) : Type := BitVec 32 × FVec F S32x256 .f32 × FVec F S32x256 .f32 × BitVec 1

set_option maxHeartbeats 4000000 in
/-- The first loop, one trip unfolded. -/
theorem while1_eq (i : BitVec 32) (pt keep : FVec F S32x256 .f32) (done : BitVec 1) :
    cc0_while1 i pt keep done = if goesOn i done = 1#1 then Prog.lift (.call (1 : (Λ₀ F).Label) ⟨Scalar.addi i 1#32, nextPt pt, keepOf pt, settled (keepOf pt)⟩) else pure (i, pt, keep, done) := by
  rw [cc0_while1_eq_skeleton]
  rfl

set_option maxHeartbeats 4000000 in
/-- The second loop, one trip unfolded. -/
theorem while2_eq (i : BitVec 32) (pt keep : FVec F S32x256 .f32) (done : BitVec 1) :
    cc0_while2 i pt keep done = if goesOn i done = 1#1 then Prog.lift (.call (2 : (Λ₀ F).Label) ⟨Scalar.addi i 1#32, nextPt pt, keepOf pt, settled (keepOf pt)⟩) else pure (i, pt, keep, done) := by
  rw [cc0_while2_eq_skeleton]
  rfl

set_option maxHeartbeats 4000000 in
/-- The third loop, one trip unfolded. -/
theorem while3_eq (i : BitVec 32) (pt keep : FVec F S32x256 .f32) (done : BitVec 1) :
    cc0_while3 i pt keep done = if goesOn i done = 1#1 then Prog.lift (.call (3 : (Λ₀ F).Label) ⟨Scalar.addi i 1#32, nextPt pt, keepOf pt, settled (keepOf pt)⟩) else pure (i, pt, keep, done) := by
  rw [cc0_while3_eq_skeleton]
  rfl

end Cert.KernelIdeal.Blocks

end
-- ==== Proof.KernelIdeal.Body.lean ====
/-
  The three assignment loops and the body of the kernel, run on any staging buffers.

  A loop entered with `k` trips to go returns, as its third value, what `runLoop k` keeps (`spec`), by induction on the
  trips. The body then loads its blocks, calls the three loops, and leaves in the result's buffer the two rows of
  results (`outBlock`).
-/
module

public import proofs.«01_k».proof.Proof.KernelIdeal.BodyEq
public import proofs.«01_k».proof.Proof.KernelIdeal.LoopEq
public import proofs.«01_k».proof.Proof.Gen.KernelIdeal.Points
public import Idealize.ShloMosaic.Lib.Tactic
public import Idealize.ShloMosaic.Lib.Pipeline.Frame
public import Idealize.ShloMosaic.Lib.Pipeline.FrameBody

@[expose] public section

set_option maxRecDepth 65536

noncomputable section

namespace Cert.KernelIdeal.Blocks

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-! ## The loops -/

/-- What a loop with `k` trips to go answers: some carry whose third value is what those trips keep. -/
def spec (k : ℕ) (pt keep : FVec F S32x256 .f32) (done : BitVec 1) : sWPT 𝕄 (Carry F) := do
  let r ← sWPT.arbitrary
  sWPT.assume (r.2.2.1 = runLoop k pt keep done)
  pure r

/-- The specification unfolded: for every carry with the right third value, go on. -/
theorem spec_apply (k : ℕ) (pt keep : FVec F S32x256 .f32) (done : BitVec 1) (K : Carry F → sProp 𝕄) :
    spec k pt keep done K = iprop(∀ r : Carry F, ⌜r.2.2.1 = runLoop k pt keep done⌝ -∗ K r) := rfl

/-- The loop goes on exactly below eleven trips and unsettled. -/
theorem goesOn_iff (j : Fin 12) (done : BitVec 1) : goesOn (BitVec.ofNat 32 j.val) done = 1#1 ↔ j.val < 11 ∧ done ≠ 1#1 := by
  revert done; revert j; decide

/-- A trip's count plus one is the next trip's count. -/
theorem next_ofNat (j : Fin 12) : Scalar.addi (BitVec.ofNat 32 j.val) 1#32 = BitVec.ofNat 32 (j.val + 1) := by
  revert j; decide

/-- Loop 1 meets its specification: with no trip to go its count has run out; else it returns at once when settled and
    otherwise calls itself on the next carry with one trip less to go. -/
theorem spec1_le (c : Dev nD) (E : Set ℕ) : ∀ k j, j + k = 11 → ∀ (pt keep : FVec F S32x256 .f32) (done : BitVec 1) (K : Carry F → sProp 𝕄),
    spec k pt keep done K ⊢ wp frame (wpE (defs₀ (F := F)) Variants.nat (c : Thread nD τ) (some k)) E
      (defs₀ (F := F) .tc 1 ⟨BitVec.ofNat 32 j, pt, keep, done⟩) K := by
  intro k
  induction k with
  | zero =>
    intro j hj pt keep done K
    rw [spec_apply]
    show _ ⊢ wp frame (wpE (defs₀ (F := F)) Variants.nat (c : Thread nD τ) (some 0)) E (cc0_while1 (BitVec.ofNat 32 j) pt keep done) K
    have hg : ¬ goesOn (BitVec.ofNat 32 j) done = 1#1 := fun h => by
      have := ((goesOn_iff ⟨j, by omega⟩ done).1 h).1
      simp only at this; omega
    simp only [while1_eq, hg, ↓reduceIte, Prog.pure_eq_ret]
    iintro Hk
    rw [wp_ret]; imodintro
    iapply Hk
    ipureintro; rfl
  | succ k ih =>
    intro j hj pt keep done K
    rw [spec_apply]
    show _ ⊢ wp frame (wpE (defs₀ (F := F)) Variants.nat (c : Thread nD τ) (some (k + 1))) E (cc0_while1 (BitVec.ofNat 32 j) pt keep done) K
    by_cases hd : done = 1#1
    · have hg : ¬ goesOn (BitVec.ofNat 32 j) done = 1#1 := fun h => ((goesOn_iff ⟨j, by omega⟩ done).1 h).2 hd
      simp only [while1_eq, hg, ↓reduceIte, Prog.pure_eq_ret]
      iintro Hk
      rw [wp_ret]; imodintro
      iapply Hk
      ipureintro; simp only [runLoop, hd, ↓reduceIte]
    · have hg : goesOn (BitVec.ofNat 32 j) done = 1#1 := (goesOn_iff ⟨j, by omega⟩ done).2 ⟨by simp only; omega, hd⟩
      simp only [while1_eq, hg, ↓reduceIte, Prog.lift, Prog.bind_op, Prog.bind_ret, Prog.pure_eq_ret]
      rw [next_ofNat ⟨j, by omega⟩]
      iintro Hk
      iapply (wp_call_spec Variants.nat (c : Thread nD τ) (some (k + 1)) E (spec k (nextPt pt) (keepOf pt) (settled (keepOf pt))) k
        (fun u hu => by cases hu; exact Nat.lt_succ_self k) (ih (j + 1) (by omega) _ _ _))
      rw [spec_apply]
      iintro %r %hr
      rw [wp_ret]; imodintro
      iapply Hk
      ipureintro; rw [hr]; simp only [runLoop, hd, ↓reduceIte]

/-- Loop 2 meets its specification: with no trip to go its count has run out; else it returns at once when settled and
    otherwise calls itself on the next carry with one trip less to go. -/
theorem spec2_le (c : Dev nD) (E : Set ℕ) : ∀ k j, j + k = 11 → ∀ (pt keep : FVec F S32x256 .f32) (done : BitVec 1) (K : Carry F → sProp 𝕄),
    spec k pt keep done K ⊢ wp frame (wpE (defs₀ (F := F)) Variants.nat (c : Thread nD τ) (some k)) E
      (defs₀ (F := F) .tc 2 ⟨BitVec.ofNat 32 j, pt, keep, done⟩) K := by
  intro k
  induction k with
  | zero =>
    intro j hj pt keep done K
    rw [spec_apply]
    show _ ⊢ wp frame (wpE (defs₀ (F := F)) Variants.nat (c : Thread nD τ) (some 0)) E (cc0_while2 (BitVec.ofNat 32 j) pt keep done) K
    have hg : ¬ goesOn (BitVec.ofNat 32 j) done = 1#1 := fun h => by
      have := ((goesOn_iff ⟨j, by omega⟩ done).1 h).1
      simp only at this; omega
    simp only [while2_eq, hg, ↓reduceIte, Prog.pure_eq_ret]
    iintro Hk
    rw [wp_ret]; imodintro
    iapply Hk
    ipureintro; rfl
  | succ k ih =>
    intro j hj pt keep done K
    rw [spec_apply]
    show _ ⊢ wp frame (wpE (defs₀ (F := F)) Variants.nat (c : Thread nD τ) (some (k + 1))) E (cc0_while2 (BitVec.ofNat 32 j) pt keep done) K
    by_cases hd : done = 1#1
    · have hg : ¬ goesOn (BitVec.ofNat 32 j) done = 1#1 := fun h => ((goesOn_iff ⟨j, by omega⟩ done).1 h).2 hd
      simp only [while2_eq, hg, ↓reduceIte, Prog.pure_eq_ret]
      iintro Hk
      rw [wp_ret]; imodintro
      iapply Hk
      ipureintro; simp only [runLoop, hd, ↓reduceIte]
    · have hg : goesOn (BitVec.ofNat 32 j) done = 1#1 := (goesOn_iff ⟨j, by omega⟩ done).2 ⟨by simp only; omega, hd⟩
      simp only [while2_eq, hg, ↓reduceIte, Prog.lift, Prog.bind_op, Prog.bind_ret, Prog.pure_eq_ret]
      rw [next_ofNat ⟨j, by omega⟩]
      iintro Hk
      iapply (wp_call_spec Variants.nat (c : Thread nD τ) (some (k + 1)) E (spec k (nextPt pt) (keepOf pt) (settled (keepOf pt))) k
        (fun u hu => by cases hu; exact Nat.lt_succ_self k) (ih (j + 1) (by omega) _ _ _))
      rw [spec_apply]
      iintro %r %hr
      rw [wp_ret]; imodintro
      iapply Hk
      ipureintro; rw [hr]; simp only [runLoop, hd, ↓reduceIte]

/-- Loop 3 meets its specification: with no trip to go its count has run out; else it returns at once when settled and
    otherwise calls itself on the next carry with one trip less to go. -/
theorem spec3_le (c : Dev nD) (E : Set ℕ) : ∀ k j, j + k = 11 → ∀ (pt keep : FVec F S32x256 .f32) (done : BitVec 1) (K : Carry F → sProp 𝕄),
    spec k pt keep done K ⊢ wp frame (wpE (defs₀ (F := F)) Variants.nat (c : Thread nD τ) (some k)) E
      (defs₀ (F := F) .tc 3 ⟨BitVec.ofNat 32 j, pt, keep, done⟩) K := by
  intro k
  induction k with
  | zero =>
    intro j hj pt keep done K
    rw [spec_apply]
    show _ ⊢ wp frame (wpE (defs₀ (F := F)) Variants.nat (c : Thread nD τ) (some 0)) E (cc0_while3 (BitVec.ofNat 32 j) pt keep done) K
    have hg : ¬ goesOn (BitVec.ofNat 32 j) done = 1#1 := fun h => by
      have := ((goesOn_iff ⟨j, by omega⟩ done).1 h).1
      simp only at this; omega
    simp only [while3_eq, hg, ↓reduceIte, Prog.pure_eq_ret]
    iintro Hk
    rw [wp_ret]; imodintro
    iapply Hk
    ipureintro; rfl
  | succ k ih =>
    intro j hj pt keep done K
    rw [spec_apply]
    show _ ⊢ wp frame (wpE (defs₀ (F := F)) Variants.nat (c : Thread nD τ) (some (k + 1))) E (cc0_while3 (BitVec.ofNat 32 j) pt keep done) K
    by_cases hd : done = 1#1
    · have hg : ¬ goesOn (BitVec.ofNat 32 j) done = 1#1 := fun h => ((goesOn_iff ⟨j, by omega⟩ done).1 h).2 hd
      simp only [while3_eq, hg, ↓reduceIte, Prog.pure_eq_ret]
      iintro Hk
      rw [wp_ret]; imodintro
      iapply Hk
      ipureintro; simp only [runLoop, hd, ↓reduceIte]
    · have hg : goesOn (BitVec.ofNat 32 j) done = 1#1 := (goesOn_iff ⟨j, by omega⟩ done).2 ⟨by simp only; omega, hd⟩
      simp only [while3_eq, hg, ↓reduceIte, Prog.lift, Prog.bind_op, Prog.bind_ret, Prog.pure_eq_ret]
      rw [next_ofNat ⟨j, by omega⟩]
      iintro Hk
      iapply (wp_call_spec Variants.nat (c : Thread nD τ) (some (k + 1)) E (spec k (nextPt pt) (keepOf pt) (settled (keepOf pt))) k
        (fun u hu => by cases hu; exact Nat.lt_succ_self k) (ih (j + 1) (by omega) _ _ _))
      rw [spec_apply]
      iintro %r %hr
      rw [wp_ret]; imodintro
      iapply Hk
      ipureintro; rw [hr]; simp only [runLoop, hd, ↓reduceIte]

/-! ## The body -/

/-- What the kernel works with, from the blocks its windows hold. -/
def insAt (x0 : Vec F S2x272x256 .f32) (x1 : Vec F S2x256x16 .f32) (x2 : Vec F S2x16x256 .f32) (x3 : Vec F S256x128 .f32) (x4 : Vec F S1x128 .f32) (x5 : Vec F S256x128 .f32) (x6 : Vec F S1x128 .f32) (x7 : Vec F S256x128 .f32) (x8 : Vec F S1x128 .f32) (x9 : Vec F S128x128 .f32) (x10 : Vec F S1x128 .f32) : Ins F :=
  insOf (View.ld x3 rW1) (View.ld x5 rW1) (View.ld x7 rW1) (View.ld x9 rW2) (View.ld x4 rW3) (View.ld x6 rW3) (View.ld x8 rW3) (View.ld x10 rW3)
    (View.ld x0 rX0) (View.ld x1 rL0) (View.ld x2 rT0) (View.ld x0 rX1) (View.ld x1 rL1) (View.ld x2 rT1)

/-- The result's block: the second row's results stored over the first row's over anything. -/
def outBlock (I : Ins F) : Vec F S2x256x16 .f32 := View.canon [⟨rL1, out1 I⟩, ⟨rL0, out0 I⟩]

/-- The two stored rows cover the result's block. -/
theorem rows_cover (y : S2x256x16.Idx) : y ∈ rL1.set ∨ y ∈ rL0.set := by
  simp only [Rect.mem_set_unit]
  rcases Nat.lt_or_ge (y 0).val 1 with h | h
  · right
    intro a; fin_cases a
    · exact ⟨Nat.zero_le _, h⟩
    · exact ⟨Nat.zero_le _, (y 1).isLt⟩
    · exact ⟨Nat.zero_le _, (y 2).isLt⟩
  · left
    intro a; fin_cases a
    · exact ⟨h, (y 0).isLt⟩
    · exact ⟨Nat.zero_le _, (y 1).isLt⟩
    · exact ⟨Nat.zero_le _, (y 2).isLt⟩

/-- The body after its loads, on the result's whole staging buffer: it ends at `outBlock`. -/
theorem tail_triple (c : Dev nD) (M11 : Memref sig .tc .vmem S2x256x16 .f32) (h11 : M11.IsWhole) (I : Ins F) (E : Set ℕ) (K : PUnit → sProp 𝕄) :
    iprop((∃ d, owns (c : Thread nD τ) M11 fullShare d) ∗ (owns (c : Thread nD τ) M11 fullShare (outBlock I) -∗ K ⟨⟩))
      ⊢ wp frame (wpE (defs₀ (F := F)) Variants.nat c none) E (tailOf M11 h11 I) K := by
  unfold owns
  iintro ⟨⟨%d11, %f11, -, H11⟩, Hk⟩
  unfold tailOf
  simp only [Prog.lift, Prog.bind_op, Prog.bind_ret, Prog.pure_eq_ret]
  iapply (wp_call_spec Variants.nat (c : Thread nD τ) none E (spec 11 _ _ _) 11 (fun u hu => nomatch hu) (spec1_le c E 11 0 rfl _ _ _))
  rw [spec_apply]
  iintro %r1 %hr1
  rw [hr1]
  iapply (wp_call_spec Variants.nat (c : Thread nD τ) none E (spec 11 _ _ _) 11 (fun u hu => nomatch hu) (spec2_le c E 11 0 rfl _ _ _))
  rw [spec_apply]
  iintro %r2 %hr2
  rw [hr2]
  iapply (wp_call_spec Variants.nat (c : Thread nD τ) none E (spec 11 _ _ _) 11 (fun u hu => nomatch hu) (spec3_le c E 11 0 rfl _ _ _))
  rw [spec_apply]
  iintro %r3 %hr3
  rw [hr3]
  iapply (wp_load Variants.nat (c : Thread nD τ) none E (m := M11) (View.setOn_subset_set _ _)) $$ H11; iintro H11
  iapply (wp_store Variants.nat (c : Thread nD τ) none E (m := M11) (r := rL0) (Mk := Finset.univ) (View.setOn_slice_subset_set _ _ _)) $$ H11; iintro H11
  iapply (wp_load Variants.nat (c : Thread nD τ) none E (m := M11) (View.setOn_subset_set _ _)) $$ H11; iintro H11
  iapply (wp_store Variants.nat (c : Thread nD τ) none E (m := M11) (r := rL1) (Mk := Finset.univ) (View.setOn_slice_subset_set _ _ _)) $$ H11; iintro H11
  rw [wp_ret]; imodintro
  iapply Hk
  iexists _; isplitr; swap; · iexact H11
  ipureintro
  exact View.read_writes_eq_canon M11.view f11 [⟨rL1, out1 _⟩, ⟨rL0, out0 _⟩] fun y =>
    (rows_cover y).elim (fun h => ⟨_, List.mem_cons_self, h⟩) fun h => ⟨_, List.mem_cons_of_mem _ List.mem_cons_self, h⟩

/-- A load from a whole staging buffer that holds a block: it reads the block at its rectangle. -/
theorem wp_load_block (c : Dev nD) (E : Set ℕ) {s : Shape} {e : EltTy} {M : Memref sig .tc .vmem s e} {r : Rect s} {hl : M.view.LoadsAt r.toLoadRect}
    {x : s.Idx → Elt F e} {k : (r.shape.Idx → Elt F e) → Prog (TpuEff nD τ sig (Elt F) (Λ₀ F) .tc) PUnit} {Q : PUnit → sProp 𝕄} :
    owns (c : Thread nD τ) M fullShare x ⊢ iprop((owns (c : Thread nD τ) M fullShare x
        -∗ wp frame (wpE (defs₀ (F := F)) Variants.nat c none) E (k (View.ld x r)) Q)
      -∗ wp frame (wpE (defs₀ (F := F)) Variants.nat c none) E (.op (.load M r.toLoadRect hl) k) Q) := by
  unfold owns
  iintro ⟨%f, %hf, H⟩ Hk
  subst hf
  iapply (wp_load Variants.nat (c : Thread nD τ) none E (m := M) (View.setOn_subset_set _ _)) $$ H; iintro H
  iapply Hk
  iexists _; isplitr; · ipureintro; rfl
  iexact H

set_option maxHeartbeats 2000000 in
/-- The body on whole staging buffers: the inputs' blocks stay, and the result's buffer ends at `outBlock`. -/
theorem body_triple (c : Dev nD) (M0 : Memref sig .tc .vmem S2x272x256 .f32) (h0 : M0.IsWhole)
    (M1 : Memref sig .tc .vmem S2x256x16 .f32) (h1 : M1.IsWhole)
    (M2 : Memref sig .tc .vmem S2x16x256 .f32) (h2 : M2.IsWhole)
    (M3 : Memref sig .tc .vmem S256x128 .f32) (h3 : M3.IsWhole)
    (M4 : Memref sig .tc .vmem S1x128 .f32) (h4 : M4.IsWhole)
    (M5 : Memref sig .tc .vmem S256x128 .f32) (h5 : M5.IsWhole)
    (M6 : Memref sig .tc .vmem S1x128 .f32) (h6 : M6.IsWhole)
    (M7 : Memref sig .tc .vmem S256x128 .f32) (h7 : M7.IsWhole)
    (M8 : Memref sig .tc .vmem S1x128 .f32) (h8 : M8.IsWhole)
    (M9 : Memref sig .tc .vmem S128x128 .f32) (h9 : M9.IsWhole)
    (M10 : Memref sig .tc .vmem S1x128 .f32) (h10 : M10.IsWhole)
    (M11 : Memref sig .tc .vmem S2x256x16 .f32) (h11 : M11.IsWhole)
    (x0 : Vec F S2x272x256 .f32) (x1 : Vec F S2x256x16 .f32) (x2 : Vec F S2x16x256 .f32) (x3 : Vec F S256x128 .f32) (x4 : Vec F S1x128 .f32) (x5 : Vec F S256x128 .f32) (x6 : Vec F S1x128 .f32) (x7 : Vec F S256x128 .f32) (x8 : Vec F S1x128 .f32) (x9 : Vec F S128x128 .f32) (x10 : Vec F S1x128 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ d, owns (c : Thread nD τ) M11 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare (outBlock (insAt x0 x1 x2 x3 x4 x5 x6 x7 x8 x9 x10))) -∗ K ⟨⟩))
      ⊢ wp frame (wpE (defs₀ (F := F)) Variants.nat c none) E (cc0__body M0 h0 M1 h1 M2 h2 M3 h3 M4 h4 M5 h5 M6 h6 M7 h7 M8 h8 M9 h9 M10 h10 M11 h11) K := by
  rw [body_eq]
  iintro ⟨H0, H1, H2, H3, H4, H5, H6, H7, H8, H9, H10, H11, Hk⟩
  unfold bodyOf
  simp only [Prog.lift, Prog.bind_op, Prog.bind_ret, Prog.pure_eq_ret]
  iapply (wp_load_block c E (M := M3)) $$ H3; iintro H3
  iapply (wp_load_block c E (M := M5)) $$ H5; iintro H5
  iapply (wp_load_block c E (M := M7)) $$ H7; iintro H7
  iapply (wp_load_block c E (M := M9)) $$ H9; iintro H9
  iapply (wp_load_block c E (M := M4)) $$ H4; iintro H4
  iapply (wp_load_block c E (M := M6)) $$ H6; iintro H6
  iapply (wp_load_block c E (M := M8)) $$ H8; iintro H8
  iapply (wp_load_block c E (M := M10)) $$ H10; iintro H10
  iapply (wp_load_block c E (M := M0)) $$ H0; iintro H0
  iapply (wp_load_block c E (M := M1)) $$ H1; iintro H1
  iapply (wp_load_block c E (M := M2)) $$ H2; iintro H2
  iapply (wp_load_block c E (M := M0)) $$ H0; iintro H0
  iapply (wp_load_block c E (M := M1)) $$ H1; iintro H1
  iapply (wp_load_block c E (M := M2)) $$ H2; iintro H2
  iapply (tail_triple c M11 h11 _ E K)
  isplitl [H11]; · iexact H11
  iintro H11
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Blocks

end
-- ==== Proof.KernelIdeal.Run.lean ====
/-
  The kernel's run: the host operations before the launch, the body at the one grid point, and what every array holds
  at the end. The result's array ends at `outBlock` of what the windows hold; the arguments end as they began.
-/
module

public import proofs.«01_k».proof.Proof.KernelIdeal.Body
public import proofs.«01_k».proof.Proof.Gen.KernelIdeal.Launch
public import Idealize.ShloMosaic.Lib.Pipeline.ValueKit.Geometry

@[expose] public section

set_option maxRecDepth 65536

noncomputable section

namespace Cert.KernelIdeal.Blocks

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the launch -/

/-- What a core's buffers hold at the launch: the start's contents after the host operations. -/
abbrev V (c : Dev nD) (b : Ref sig .tc) : Buf (Elt F) ((c.tc : Thread nD τ).loc b) := StableHlo.after hostOps0 (fun b => m (c, b)) b

/-- None of the host operations creates a buffer. -/
theorem hostOps0_fresh : (hostOps0 : List (HloOp τ sig (Elt F))).Forall fun op => op.fresh = ∅ := ⟨rfl, rfl, rfl, rfl, rfl, rfl⟩

/-- The program is the host operations, then the launch. -/
theorem hmain : Pipeline.HMain (Ix := Unit) (Name := ℕ) (U := UR sig nD τ) (Lvl := ℕ) (cfgs (F := F)) 0 defs₀ Variants.nat m main (V m) :=
  Pipeline.hmain_prefix cfgs 0 defs₀ Variants.nat m main hostOps0 hostOps0_sub hostOps0_fresh main_chain

/-! ## The proof data of the launch -/

/-- The block window `w` fetches: what its array holds. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the kernel works with at a point. -/
def insIn (c : Dev nD) (t : Fin (cfg0 (F := F)).N) : Ins F := insAt (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- Each input's buffer keeps its block and the result's ends at the body's block; nothing else is needed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (insIn m c t)
  Φ _ := Pipeline.ΦA spec0 c
  q _ := fullShare
  owed _ := 0

/-- The body leaves block 0 as it was fetched. -/
theorem after_0 (c : Dev nD) (t : Fin (cfg0 (F := F)).N) : (dats m 0 c).after (0 : Fin 12) t = iblk m c 0 t := by dsimp only [dats]
/-- The body leaves block 1 as it was fetched. -/
theorem after_1 (c : Dev nD) (t : Fin (cfg0 (F := F)).N) : (dats m 0 c).after (1 : Fin 12) t = iblk m c 1 t := by dsimp only [dats]
/-- The body leaves block 2 as it was fetched. -/
theorem after_2 (c : Dev nD) (t : Fin (cfg0 (F := F)).N) : (dats m 0 c).after (2 : Fin 12) t = iblk m c 2 t := by dsimp only [dats]
/-- The body leaves block 3 as it was fetched. -/
theorem after_3 (c : Dev nD) (t : Fin (cfg0 (F := F)).N) : (dats m 0 c).after (3 : Fin 12) t = iblk m c 3 t := by dsimp only [dats]
/-- The body leaves block 4 as it was fetched. -/
theorem after_4 (c : Dev nD) (t : Fin (cfg0 (F := F)).N) : (dats m 0 c).after (4 : Fin 12) t = iblk m c 4 t := by dsimp only [dats]
/-- The body leaves block 5 as it was fetched. -/
theorem after_5 (c : Dev nD) (t : Fin (cfg0 (F := F)).N) : (dats m 0 c).after (5 : Fin 12) t = iblk m c 5 t := by dsimp only [dats]
/-- The body leaves block 6 as it was fetched. -/
theorem after_6 (c : Dev nD) (t : Fin (cfg0 (F := F)).N) : (dats m 0 c).after (6 : Fin 12) t = iblk m c 6 t := by dsimp only [dats]
/-- The body leaves block 7 as it was fetched. -/
theorem after_7 (c : Dev nD) (t : Fin (cfg0 (F := F)).N) : (dats m 0 c).after (7 : Fin 12) t = iblk m c 7 t := by dsimp only [dats]
/-- The body leaves block 8 as it was fetched. -/
theorem after_8 (c : Dev nD) (t : Fin (cfg0 (F := F)).N) : (dats m 0 c).after (8 : Fin 12) t = iblk m c 8 t := by dsimp only [dats]
/-- The body leaves block 9 as it was fetched. -/
theorem after_9 (c : Dev nD) (t : Fin (cfg0 (F := F)).N) : (dats m 0 c).after (9 : Fin 12) t = iblk m c 9 t := by dsimp only [dats]
/-- The body leaves block 10 as it was fetched. -/
theorem after_10 (c : Dev nD) (t : Fin (cfg0 (F := F)).N) : (dats m 0 c).after (10 : Fin 12) t = iblk m c 10 t := by dsimp only [dats]
/-- The body leaves the launch's result in block 11. -/
theorem after_11 (c : Dev nD) (t : Fin (cfg0 (F := F)).N) : (dats m 0 c).after (11 : Fin 12) t = outBlock (insIn m c t) := by dsimp only [dats]

/-- The body finds block 0 as it was fetched. -/
theorem before_0 (c : Dev nD) (t : Fin (cfg0 (F := F)).N) (d) : (dats m 0 c).before (0 : Fin 12) t d = iblk m c 0 t :=
  (dats m 0 c).before_fetched 0 t (fetch0_0 t) d
/-- The body finds block 1 as it was fetched. -/
theorem before_1 (c : Dev nD) (t : Fin (cfg0 (F := F)).N) (d) : (dats m 0 c).before (1 : Fin 12) t d = iblk m c 1 t :=
  (dats m 0 c).before_fetched 1 t (fetch0_1 t) d
/-- The body finds block 2 as it was fetched. -/
theorem before_2 (c : Dev nD) (t : Fin (cfg0 (F := F)).N) (d) : (dats m 0 c).before (2 : Fin 12) t d = iblk m c 2 t :=
  (dats m 0 c).before_fetched 2 t (fetch0_2 t) d
/-- The body finds block 3 as it was fetched. -/
theorem before_3 (c : Dev nD) (t : Fin (cfg0 (F := F)).N) (d) : (dats m 0 c).before (3 : Fin 12) t d = iblk m c 3 t :=
  (dats m 0 c).before_fetched 3 t (fetch0_3 t) d
/-- The body finds block 4 as it was fetched. -/
theorem before_4 (c : Dev nD) (t : Fin (cfg0 (F := F)).N) (d) : (dats m 0 c).before (4 : Fin 12) t d = iblk m c 4 t :=
  (dats m 0 c).before_fetched 4 t (fetch0_4 t) d
/-- The body finds block 5 as it was fetched. -/
theorem before_5 (c : Dev nD) (t : Fin (cfg0 (F := F)).N) (d) : (dats m 0 c).before (5 : Fin 12) t d = iblk m c 5 t :=
  (dats m 0 c).before_fetched 5 t (fetch0_5 t) d
/-- The body finds block 6 as it was fetched. -/
theorem before_6 (c : Dev nD) (t : Fin (cfg0 (F := F)).N) (d) : (dats m 0 c).before (6 : Fin 12) t d = iblk m c 6 t :=
  (dats m 0 c).before_fetched 6 t (fetch0_6 t) d
/-- The body finds block 7 as it was fetched. -/
theorem before_7 (c : Dev nD) (t : Fin (cfg0 (F := F)).N) (d) : (dats m 0 c).before (7 : Fin 12) t d = iblk m c 7 t :=
  (dats m 0 c).before_fetched 7 t (fetch0_7 t) d
/-- The body finds block 8 as it was fetched. -/
theorem before_8 (c : Dev nD) (t : Fin (cfg0 (F := F)).N) (d) : (dats m 0 c).before (8 : Fin 12) t d = iblk m c 8 t :=
  (dats m 0 c).before_fetched 8 t (fetch0_8 t) d
/-- The body finds block 9 as it was fetched. -/
theorem before_9 (c : Dev nD) (t : Fin (cfg0 (F := F)).N) (d) : (dats m 0 c).before (9 : Fin 12) t d = iblk m c 9 t :=
  (dats m 0 c).before_fetched 9 t (fetch0_9 t) d
/-- The body finds block 10 as it was fetched. -/
theorem before_10 (c : Dev nD) (t : Fin (cfg0 (F := F)).N) (d) : (dats m 0 c).before (10 : Fin 12) t d = iblk m c 10 t :=
  (dats m 0 c).before_fetched 10 t (fetch0_10 t) d

/-- The body at the one point meets what the launch asks of it. -/
theorem body_obligation (c : Dev nD) : BodyObligation (dats (F := F) m 0 c) (defs₀ (F := F)) Variants.nat () Set.univ := fun t => by
  rw [bigSep_W0, bigSep_W0]
  sl_whnfR [defs₀, Defs.onTc]
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11]
  unfold insIn
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_triple c _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The run -/

set_option backward.isDefEq.respectTransparency.types false in
/-- From any memory with zero counters the program terminates; every array ends at what the proof data says and every
    counter at zero. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-- A buffer no host operation writes holds its start's contents at the launch. -/
theorem V_arg (c : Dev nD) (b : Ref sig .tc) (h : b ∉ [main_call0_v0, main_call0_v1, main_call0_v2, main_call0_v3, main_call0_v4, main_call0_v5]) :
    V m c b = m ((c.tc : Thread nD τ).loc b) :=
  StableHlo.after_of_writes_sub hostOps0 _ (StableHlo.forall_writes_sub_of_map rfl) h

/-! ## What the windows hold -/

/-- Window 0 stands at block zero. -/
theorem index_0 (t : Fin grid0.N) : ∀ a, win0_0.index t a = 0 := by revert t; decide +kernel

/-- Window 0 holds its whole array. -/
theorem iblk_0 (c : Dev nD) (t : Fin (cfg0 (F := F)).N) : (iblk m c 0 t : Vec F S2x272x256 .f32) = (V m c main_call0_v0 : Vec F S2x272x256 .f32) := by
  funext j
  show V m c main_call0_v0 ((win0_0.rect t).emb j) = _
  congr 1; funext a; apply Fin.ext
  exact Pipeline.Window.rect_emb_val_of_index_zero win0_0 t a (index_0 t a) j

/-- Window 1 stands at block zero. -/
theorem index_1 (t : Fin grid0.N) : ∀ a, win0_1.index t a = 0 := by revert t; decide +kernel

/-- Window 1 holds its whole array. -/
theorem iblk_1 (c : Dev nD) (t : Fin (cfg0 (F := F)).N) : (iblk m c 1 t : Vec F S2x256x16 .f32) = (V m c main_arg2 : Vec F S2x256x16 .f32) := by
  funext j
  show V m c main_arg2 ((win0_1.rect t).emb j) = _
  congr 1; funext a; apply Fin.ext
  exact Pipeline.Window.rect_emb_val_of_index_zero win0_1 t a (index_1 t a) j

/-- Window 2 stands at block zero. -/
theorem index_2 (t : Fin grid0.N) : ∀ a, win0_2.index t a = 0 := by revert t; decide +kernel

/-- Window 2 holds its whole array. -/
theorem iblk_2 (c : Dev nD) (t : Fin (cfg0 (F := F)).N) : (iblk m c 2 t : Vec F S2x16x256 .f32) = (V m c main_call0_v1 : Vec F S2x16x256 .f32) := by
  funext j
  show V m c main_call0_v1 ((win0_2.rect t).emb j) = _
  congr 1; funext a; apply Fin.ext
  exact Pipeline.Window.rect_emb_val_of_index_zero win0_2 t a (index_2 t a) j

/-- Window 3 stands at block zero. -/
theorem index_3 (t : Fin grid0.N) : ∀ a, win0_3.index t a = 0 := by revert t; decide +kernel

/-- Window 3 holds its whole array. -/
theorem iblk_3 (c : Dev nD) (t : Fin (cfg0 (F := F)).N) : (iblk m c 3 t : Vec F S256x128 .f32) = (V m c main_arg3 : Vec F S256x128 .f32) := by
  funext j
  show V m c main_arg3 ((win0_3.rect t).emb j) = _
  congr 1; funext a; apply Fin.ext
  exact Pipeline.Window.rect_emb_val_of_index_zero win0_3 t a (index_3 t a) j

/-- Window 4 stands at block zero. -/
theorem index_4 (t : Fin grid0.N) : ∀ a, win0_4.index t a = 0 := by revert t; decide +kernel

/-- Window 4 holds its whole array. -/
theorem iblk_4 (c : Dev nD) (t : Fin (cfg0 (F := F)).N) : (iblk m c 4 t : Vec F S1x128 .f32) = (V m c main_call0_v2 : Vec F S1x128 .f32) := by
  funext j
  show V m c main_call0_v2 ((win0_4.rect t).emb j) = _
  congr 1; funext a; apply Fin.ext
  exact Pipeline.Window.rect_emb_val_of_index_zero win0_4 t a (index_4 t a) j

/-- Window 5 stands at block zero. -/
theorem index_5 (t : Fin grid0.N) : ∀ a, win0_5.index t a = 0 := by revert t; decide +kernel

/-- Window 5 holds its whole array. -/
theorem iblk_5 (c : Dev nD) (t : Fin (cfg0 (F := F)).N) : (iblk m c 5 t : Vec F S256x128 .f32) = (V m c main_arg5 : Vec F S256x128 .f32) := by
  funext j
  show V m c main_arg5 ((win0_5.rect t).emb j) = _
  congr 1; funext a; apply Fin.ext
  exact Pipeline.Window.rect_emb_val_of_index_zero win0_5 t a (index_5 t a) j

/-- Window 6 stands at block zero. -/
theorem index_6 (t : Fin grid0.N) : ∀ a, win0_6.index t a = 0 := by revert t; decide +kernel

/-- Window 6 holds its whole array. -/
theorem iblk_6 (c : Dev nD) (t : Fin (cfg0 (F := F)).N) : (iblk m c 6 t : Vec F S1x128 .f32) = (V m c main_call0_v3 : Vec F S1x128 .f32) := by
  funext j
  show V m c main_call0_v3 ((win0_6.rect t).emb j) = _
  congr 1; funext a; apply Fin.ext
  exact Pipeline.Window.rect_emb_val_of_index_zero win0_6 t a (index_6 t a) j

/-- Window 7 stands at block zero. -/
theorem index_7 (t : Fin grid0.N) : ∀ a, win0_7.index t a = 0 := by revert t; decide +kernel

/-- Window 7 holds its whole array. -/
theorem iblk_7 (c : Dev nD) (t : Fin (cfg0 (F := F)).N) : (iblk m c 7 t : Vec F S256x128 .f32) = (V m c main_arg7 : Vec F S256x128 .f32) := by
  funext j
  show V m c main_arg7 ((win0_7.rect t).emb j) = _
  congr 1; funext a; apply Fin.ext
  exact Pipeline.Window.rect_emb_val_of_index_zero win0_7 t a (index_7 t a) j

/-- Window 8 stands at block zero. -/
theorem index_8 (t : Fin grid0.N) : ∀ a, win0_8.index t a = 0 := by revert t; decide +kernel

/-- Window 8 holds its whole array. -/
theorem iblk_8 (c : Dev nD) (t : Fin (cfg0 (F := F)).N) : (iblk m c 8 t : Vec F S1x128 .f32) = (V m c main_call0_v4 : Vec F S1x128 .f32) := by
  funext j
  show V m c main_call0_v4 ((win0_8.rect t).emb j) = _
  congr 1; funext a; apply Fin.ext
  exact Pipeline.Window.rect_emb_val_of_index_zero win0_8 t a (index_8 t a) j

/-- Window 9 stands at block zero. -/
theorem index_9 (t : Fin grid0.N) : ∀ a, win0_9.index t a = 0 := by revert t; decide +kernel

/-- Window 9 holds its whole array. -/
theorem iblk_9 (c : Dev nD) (t : Fin (cfg0 (F := F)).N) : (iblk m c 9 t : Vec F S128x128 .f32) = (V m c main_arg9 : Vec F S128x128 .f32) := by
  funext j
  show V m c main_arg9 ((win0_9.rect t).emb j) = _
  congr 1; funext a; apply Fin.ext
  exact Pipeline.Window.rect_emb_val_of_index_zero win0_9 t a (index_9 t a) j

/-- Window 10 stands at block zero. -/
theorem index_10 (t : Fin grid0.N) : ∀ a, win0_10.index t a = 0 := by revert t; decide +kernel

/-- Window 10 holds its whole array. -/
theorem iblk_10 (c : Dev nD) (t : Fin (cfg0 (F := F)).N) : (iblk m c 10 t : Vec F S1x128 .f32) = (V m c main_call0_v5 : Vec F S1x128 .f32) := by
  funext j
  show V m c main_call0_v5 ((win0_10.rect t).emb j) = _
  congr 1; funext a; apply Fin.ext
  exact Pipeline.Window.rect_emb_val_of_index_zero win0_10 t a (index_10 t a) j

/-- So the kernel works with the arrays the host operations leave. -/
theorem insIn_eq (c : Dev nD) (t : Fin (cfg0 (F := F)).N) : insIn m c t = insAt (V m c main_call0_v0) (V m c main_arg2) (V m c main_call0_v1) (V m c main_arg3) (V m c main_call0_v2) (V m c main_arg5) (V m c main_call0_v3) (V m c main_arg7) (V m c main_call0_v4) (V m c main_arg9) (V m c main_call0_v5) := by
  unfold insIn
  rw [iblk_0, iblk_1, iblk_2, iblk_3, iblk_4, iblk_5, iblk_6, iblk_7, iblk_8, iblk_9, iblk_10]

/-- The result's array ends at the body's block. -/
theorem final_out (c : Dev nD) : (dats m 0 c).arrAt (11 : Fin 12) (cfg0 (F := F)).N = outBlock (insIn m c t0_0) :=
  (dats m 0 c).arrAt_eq_of_after_last (11 : Fin 12) t0_0 (show win0_11.WholeAt t0_0 by decide +kernel) _ fun j => by
    rw [after_11]; rfl

/-- The arguments on core `c` end as they began. -/
def ArgsKept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

/-- The kernel's run, read: on every core the result is the body's block of what the host operations leave, the
    arguments end as they began, and every counter reads zero. -/
theorem run_value : θ_run defs (onTc (τ := τ) (main (F := F))) ⟨m, fun _ => 0, ρ⟩
    (fun r => (∀ c : Dev nD, r.2.mem ((c.tc : Thread nD τ).loc main_v0)
        = outBlock (insAt (V m c main_call0_v0) (V m c main_arg2) (V m c main_call0_v1) (V m c main_arg3) (V m c main_call0_v2) (V m c main_arg5) (V m c main_call0_v3) (V m c main_arg7) (V m c main_call0_v4) (V m c main_arg9) (V m c main_call0_v5))
      ∧ ArgsKept m r.2.mem c) ∧ r.2.sem = fun _ => 0) :=
  (θ_run defs (onTc (τ := τ) (main (F := F))) ⟨m, fun _ => 0, ρ⟩).mono (fun r ⟨h, hs⟩ => ⟨fun c => ⟨(h.out_eq c (11 : Fin 12)).trans
      ((final_out m c).trans (congrArg outBlock (insIn_eq m c t0_0))),
    (h.rest_eq c main_arg0 (show main_arg0 ∈ Pipeline.restRefs sig spec0 by decide)).trans (V_arg m c main_arg0 (by decide)),
    (h.rest_eq c main_arg1 (show main_arg1 ∈ Pipeline.restRefs sig spec0 by decide)).trans (V_arg m c main_arg1 (by decide)),
    (h.in_eq c (1 : Fin 12) rfl).trans (V_arg m c main_arg2 (by decide)),
    (h.in_eq c (3 : Fin 12) rfl).trans (V_arg m c main_arg3 (by decide)),
    (h.rest_eq c main_arg4 (show main_arg4 ∈ Pipeline.restRefs sig spec0 by decide)).trans (V_arg m c main_arg4 (by decide)),
    (h.in_eq c (5 : Fin 12) rfl).trans (V_arg m c main_arg5 (by decide)),
    (h.rest_eq c main_arg6 (show main_arg6 ∈ Pipeline.restRefs sig spec0 by decide)).trans (V_arg m c main_arg6 (by decide)),
    (h.in_eq c (7 : Fin 12) rfl).trans (V_arg m c main_arg7 (by decide)),
    (h.rest_eq c main_arg8 (show main_arg8 ∈ Pipeline.restRefs sig spec0 by decide)).trans (V_arg m c main_arg8 (by decide)),
    (h.in_eq c (9 : Fin 12) rfl).trans (V_arg m c main_arg9 (by decide)),
    (h.rest_eq c main_arg10 (show main_arg10 ∈ Pipeline.restRefs sig spec0 by decide)).trans (V_arg m c main_arg10 (by decide))⟩, hs⟩) (run_main m ρ)

end Cert.KernelIdeal.Blocks

end
-- ==== Proof.Reference.Facts.lean ====
/-
  The side conditions the reference's program states: every shape relation by computation, and each host loop counted.
-/
module

public import proofs.«01_k».proof.ReferenceIdeal
public import Idealize.ShloMosaic.Lib.Decide

@[expose] public section

set_option maxRecDepth 65536

noncomputable section

namespace Cert.ReferenceIdeal.Line

open Idealize.ShloMosaic Cert.ReferenceIdeal

/-- Every shape relation and every loop's counter. -/
instance facts₀ : Facts₀ where
  concatenates_S2x256x256_S2x16x256_S2x272x256_d1 := by decide
  bcast_S128_S1x1x128_2 := by decide
  bcast_S1x1x128_S2x272x128_0_1_2 := by decide
  shapeCasts_S2x272x128_S2x272x4x32 := by decide
  transposes_S2x272x4x32_S2x4x272x32_0_2_1_3 := by decide
  transposes_S2x4x272x32_S2x4x32x272_0_1_3_2 := by decide
  reducesTo_S2x4x272x272_S2x4x272_d3 := by decide
  h_S_ := by decide
  bcast_S_S2x4x272 := by decide
  bcast_S2x4x272_S2x4x272x1_0_1_2 := by decide
  bcast_S2x4x272x1_S2x4x272x272_0_1_2_3 := by decide
  transposes_S2x4x272x32_S2x272x4x32_0_2_1_3 := by decide
  shapeCasts_S2x272x4x32_S2x272x128 := by decide
  concatenates_S2x272x128_S2x272x256_S2x272x384_d2 := by decide
  slices_S2x272x384_S2x16x384_0_256_0 := by decide
  slices_S2x272x384_S2x256x384_0_0_0 := by decide
  bcast_S2x256x384_S2x256x1x384_0_1_3 := by decide
  bcast_S2x256x384_S2x1x256x384_0_2_3 := by decide
  bcast_S2x256x1x384_S2x256x256x384_0_1_2_3 := by decide
  bcast_S2x1x256x384_S2x256x256x384_0_1_2_3 := by decide
  reducesTo_S2x256x256x384_S2x256x256_d3 := by decide
  bcast_S_S2x256x256 := by decide
  bcast_S_S256x256 := by decide
  bcast_S256x256_S1x256x256_1_2 := by decide
  bcast_S_S1x256x256 := by decide
  bcast_S1x256x256_S2x256x256_0_1_2 := by decide
  transposes_S2x256x16_S2x16x256_0_2_1 := by decide
  reducesTo_S2x256x256_S2x256_d2 := by decide
  bcast_S2x256_S2x1x256_0_2 := by decide
  bcast_S2x1x256_S2x16x256_0_1_2 := by decide
  bcast_S_S2x16x256 := by decide
  reducesTo_S2x16x256_S2x16_d2 := by decide
  bcast_S_S2x16 := by decide
  bcast_S2x16_S2x16x1_0_1 := by decide
  bcast_S2x16x1_S2x16x256_0_1_2 := by decide
  bcast_S_S2x16x384 := by decide
  bcast_S2x16x384_S2x1x16x384_0_2_3 := by decide
  bcast_S2x256x1x384_S2x256x16x384_0_1_2_3 := by decide
  bcast_S2x1x16x384_S2x256x16x384_0_1_2_3 := by decide
  reducesTo_S2x256x16x384_S2x256x16_d3 := by decide
  sliceFits_S2x16x256_S2x16x16 := by decide
  slices_S2x16x16_S2x16x1_0_0_15 := by decide
  reducesTo_S2x16x256_S2x256_d1 := by decide
  bcast_S_S2x256 := by decide
  reducesTo_S2x256_S_d0_1 := by decide
  bcast_S_S2x1x256 := by decide
  transposes_S2x16x256_S2x256x16_0_2_1 := by decide
  bcast_S2x256x16_S1x2x256x16_1_2_3 := by decide
  concatenates_S1x2x256x16_S1x2x256x16_S1x2x256x16_S1x2x256x16_S4x2x256x16_d0 := by decide
  reducesTo_S4x2x256x16_S2x256x16_d0 := by decide
  bcast_S_S2x256x16 := by decide
  dot_S2x272x256_S256x128_S2x272x128_2_0_01_1_n_n_wf := by decide
  dot_S2x4x272x32_S2x4x32x272_S2x4x272x272_3_2_2_3_01_01_wf := by decide
  dot_S2x4x272x272_S2x4x272x32_S2x4x272x32_3_2_2_3_01_01_wf := by decide
  dot_S2x272x128_S128x128_S2x272x128_2_0_01_1_n_n_wf := by decide
  dot_S2x256x16_S2x16x256_S2x256x256_2_1_1_2_0_0_wf := by decide
  dot_S2x16x256_S2x256x384_S2x16x384_2_1_1_2_0_0_wf := by decide
  main_while0_ok := by decide
  main_while1_ok := by decide
  main_while2_ok := by decide

/-- All the program states. -/
instance facts : Facts where

end Cert.ReferenceIdeal.Line

end
-- ==== Proof.Reference.Line.lean ====
/-
  Reading a straight line of host operations: when every operation writes a buffer of a higher number than all it reads
  and all written before it, the contents at the end satisfy every operation's equation at once.
-/
module

public import proofs.«01_k».proof.Proof.Reference.Facts
public import Idealize.ShloMosaic.Lib.StableHlo.RunLoop

@[expose] public section

noncomputable section

namespace Cert.ReferenceIdeal.Line

open Idealize.ShloMosaic Idealize.SL.Sem
open Idealize.ShloMosaic.StableHlo (after TRef tcRefs)

variable {F : FTy → Type} [FloatOps F]

/-- A buffer's number. -/
def rank (b : DevRef τ sig) : ℕ := b.idx.val

/-- A reference's number, as its buffer's. -/
abbrev rk (r : Ref sig .tc) : ℕ := rank (Proc.devRef .tc r)

/-- An operation over the core's buffers that leaves no contents open. -/
def Tame (op : HloOp τ sig (Elt F)) : Prop := op.bufs ⊆ tcRefs τ sig ∧ op.fresh = ∅

/-- The line writes buffers in increasing number from `lo` on, and no operation reads at or above what it writes. -/
def Asc : ℕ → List (HloOp τ sig (Elt F)) → Prop
  | _, [] => True
  | lo, op :: r => ∃ n, lo ≤ n ∧ (∀ b ∈ op.writes, rank b = n)
      ∧ (∀ V V' : Valuation τ sig (Elt F), (∀ b, rank b < n → V b = V' b) → ∀ b ∈ op.writes, op.result V b = op.result V' b)
      ∧ Tame op ∧ Asc (n + 1) r

/-- One operation's equation: what it writes is its result on the same contents. -/
def Holds (op : HloOp τ sig (Elt F)) (W : Valuation τ sig (Elt F)) : Prop := ∀ b ∈ op.writes, W b = op.result W b

/-- Every operation's equation. -/
def Eqs (ops : List (HloOp τ sig (Elt F))) (W : Valuation τ sig (Elt F)) : Prop := ∀ op ∈ ops, Holds op W

/-- The equations of the front part of a line. -/
theorem Eqs.left {l r : List (HloOp τ sig (Elt F))} {W : Valuation τ sig (Elt F)} (h : Eqs (l ++ r) W) : Eqs l W :=
  fun op ho => h op (List.mem_append_left _ ho)
/-- The equations of the back part of a line. -/
theorem Eqs.right {l r : List (HloOp τ sig (Elt F))} {W : Valuation τ sig (Elt F)} (h : Eqs (l ++ r) W) : Eqs r W :=
  fun op ho => h op (List.mem_append_right _ ho)
/-- The first operation's equation. -/
theorem Eqs.head {op : HloOp τ sig (Elt F)} {r : List (HloOp τ sig (Elt F))} {W : Valuation τ sig (Elt F)} (h : Eqs (op :: r) W) : Holds op W :=
  h op List.mem_cons_self
/-- The other operations' equations. -/
theorem Eqs.tail {op : HloOp τ sig (Elt F)} {r : List (HloOp τ sig (Elt F))} {W : Valuation τ sig (Elt F)} (h : Eqs (op :: r) W) : Eqs r W :=
  fun o ho => h o (List.mem_cons_of_mem _ ho)

/-- Below its first written number a line changes nothing. -/
theorem Asc.below : ∀ {ops : List (HloOp τ sig (Elt F))} {lo : ℕ}, Asc lo ops → ∀ (V : Valuation τ sig (Elt F)) (b : DevRef τ sig), rank b < lo →
    after ops V b = V b
  | [], _, _, _, _, _ => rfl
  | op :: r, lo, ⟨n, hn, hw, _, _, hr⟩, V, b, hb => by
    rw [StableHlo.after_cons, Asc.below hr _ b (by omega)]
    exact op.result_of_not_mem _ fun h => absurd (hw b h) (by omega)

/-- The contents a line ends at satisfy its operations' equations. -/
theorem Asc.eqs : ∀ {ops : List (HloOp τ sig (Elt F))} {lo : ℕ}, Asc lo ops → ∀ V : Valuation τ sig (Elt F), Eqs ops (after ops V)
  | [], _, _, _ => fun _ h => nomatch h
  | op :: r, lo, ⟨n, hn, hw, hc, _, hr⟩, V => fun o ho => by
    rw [StableHlo.after_cons]
    rcases List.mem_cons.mp ho with rfl | ho
    · intro b hb
      rw [hr.below _ b (by rw [hw b hb]; omega)]
      refine hc V _ (fun b' hb' => ?_) b hb
      rw [hr.below _ b' (by omega)]
      exact (o.result_of_not_mem _ fun h => absurd (hw b' h) (by omega)).symm
    · exact Asc.eqs hr _ o ho

/-- Every operation of an increasing line is tame. -/
theorem Asc.tame : ∀ {ops : List (HloOp τ sig (Elt F))} {lo : ℕ}, Asc lo ops → ∀ op ∈ ops, Tame op
  | _ :: _, _, ⟨_, _, _, _, ht, hr⟩, op, ho => by
    rcases List.mem_cons.mp ho with rfl | ho
    · exact ht
    · exact hr.tame op ho

/-- A list of tame operations is a plain stretch. -/
theorem plain_of_tame {ops : List (HloOp τ sig (Elt F))} (h : ∀ op ∈ ops, Tame op) : StableHlo.Plain [ops] := fun o ho => by
  rw [List.mem_singleton.mp ho]
  exact ⟨fun op hop => (h op hop).1, fun op hop => (h op hop).2⟩

section Builders

variable {x a b c y : Ref sig .tc} {lo : ℕ} {r : List (HloOp τ sig (Elt F))}

/-- The five kinds of operation at the front of an increasing line. -/
theorem Asc.nullary {v : y.ty.Contents (Elt F)} {hy} (h : lo ≤ rk y) (hr : Asc (rk y + 1) r) : Asc lo (StableHlo.nullary (τ := τ) y v hy :: r) :=
  ⟨rk y, h, fun b hb => by rw [Finset.mem_singleton.mp hb], fun V V' _ b hb => by
    rw [Finset.mem_singleton.mp hb, StableHlo.nullary_result, StableHlo.nullary_result], ⟨StableHlo.nullary_bufs_sub .., rfl⟩, hr⟩
/-- An operation of one operand at the front of an increasing line. -/
theorem Asc.unary {f : x.ty.Contents (Elt F) → y.ty.Contents (Elt F)} {hx hy} (hxy : rk x < rk y) (h : lo ≤ rk y) (hr : Asc (rk y + 1) r) :
    Asc lo (StableHlo.unary (τ := τ) x y f hx hy :: r) :=
  ⟨rk y, h, fun b hb => by rw [Finset.mem_singleton.mp hb], fun V V' hV b hb => by
    rw [Finset.mem_singleton.mp hb, StableHlo.unary_result, StableHlo.unary_result, hV _ hxy], ⟨StableHlo.unary_bufs_sub .., rfl⟩, hr⟩
/-- A reshape at the front of an increasing line. -/
theorem Asc.reshape {he hn hx hy} (hxy : rk x < rk y) (h : lo ≤ rk y) (hr : Asc (rk y + 1) r) :
    Asc lo (StableHlo.reshape (τ := τ) (Val := Elt F) x y he hn hx hy :: r) :=
  ⟨rk y, h, fun b hb => by rw [Finset.mem_singleton.mp hb], fun V V' hV b hb => by
    rw [Finset.mem_singleton.mp hb, StableHlo.reshape_result, StableHlo.reshape_result, hV _ hxy], ⟨StableHlo.reshape_bufs_sub .., rfl⟩, hr⟩
/-- An operation of two operands at the front of an increasing line. -/
theorem Asc.binary {f : a.ty.Contents (Elt F) → b.ty.Contents (Elt F) → y.ty.Contents (Elt F)} {ha hb hy} (hay : rk a < rk y) (hby : rk b < rk y)
    (h : lo ≤ rk y) (hr : Asc (rk y + 1) r) : Asc lo (StableHlo.binary (τ := τ) a b y f ha hb hy :: r) :=
  ⟨rk y, h, fun b hb => by rw [Finset.mem_singleton.mp hb], fun V V' hV b hb => by
    rw [Finset.mem_singleton.mp hb, StableHlo.binary_result, StableHlo.binary_result, hV _ hay, hV _ hby], ⟨StableHlo.binary_bufs_sub .., rfl⟩, hr⟩
/-- An operation of three operands at the front of an increasing line. -/
theorem Asc.ternary {f : c.ty.Contents (Elt F) → a.ty.Contents (Elt F) → b.ty.Contents (Elt F) → y.ty.Contents (Elt F)} {hc ha hb hy} (hcy : rk c < rk y)
    (hay : rk a < rk y) (hby : rk b < rk y) (h : lo ≤ rk y) (hr : Asc (rk y + 1) r) : Asc lo (StableHlo.ternary (τ := τ) c a b y f hc ha hb hy :: r) :=
  ⟨rk y, h, fun b hb => by rw [Finset.mem_singleton.mp hb], fun V V' hV b hb => by
    rw [Finset.mem_singleton.mp hb, StableHlo.ternary_result, StableHlo.ternary_result, hV _ hcy, hV _ hay, hV _ hby], ⟨StableHlo.ternary_bufs_sub .., rfl⟩, hr⟩
/-- An operation of a list of operands at the front of an increasing line. -/
theorem Asc.nary {n : ℕ} {xs : Fin n → Ref sig .tc} {f : ((k : Fin n) → (xs k).ty.Contents (Elt F)) → y.ty.Contents (Elt F)} {hx hy}
    (hxy : ∀ k, rk (xs k) < rk y) (h : lo ≤ rk y) (hr : Asc (rk y + 1) r) : Asc lo (StableHlo.nary (τ := τ) xs y f hx hy :: r) :=
  ⟨rk y, h, fun b hb => by rw [Finset.mem_singleton.mp hb], fun V V' hV b hb => by
    rw [Finset.mem_singleton.mp hb, StableHlo.nary_result, StableHlo.nary_result]
    exact congrArg f (funext fun k => hV _ (hxy k)),
    ⟨StableHlo.nary_bufs_sub .., rfl⟩, hr⟩

end Builders

/-- The contents of a typed reference. -/
abbrev get {T : BufTy} (W : Valuation τ sig (Elt F)) (t : TRef sig T) : T.Contents (Elt F) := t.ofBuf (W (Proc.devRef .tc t.ref))

section Read

variable {T Tx Ta Tb Tc : BufTy} {W : Valuation τ sig (Elt F)}

/-- The equations, read at typed references. -/
theorem Holds.nullary {y : TRef sig T} {v : T.Contents (Elt F)} (h : Holds (TRef.nullary y v) W) : get W y = v := by
  unfold get; rw [h _ (Finset.mem_singleton_self _), StableHlo.nullary_result, StableHlo.TRef.ofBuf_toBuf]
/-- The equation of an operation of one operand, read at typed references. -/
theorem Holds.unary {x : TRef sig Tx} {y : TRef sig T} {f : Tx.Contents (Elt F) → T.Contents (Elt F)} (h : Holds (TRef.unary x y f) W) :
    get W y = f (get W x) := by
  unfold get; rw [h _ (Finset.mem_singleton_self _), StableHlo.unary_result, StableHlo.TRef.ofBuf_toBuf]
/-- The equation of an operation of two operands, read at typed references. -/
theorem Holds.binary {a : TRef sig Ta} {b : TRef sig Tb} {y : TRef sig T} {f : Ta.Contents (Elt F) → Tb.Contents (Elt F) → T.Contents (Elt F)}
    (h : Holds (TRef.binary a b y f) W) : get W y = f (get W a) (get W b) := by
  unfold get; rw [h _ (Finset.mem_singleton_self _), StableHlo.binary_result, StableHlo.TRef.ofBuf_toBuf]
/-- The equation of an operation of three operands, read at typed references. -/
theorem Holds.ternary {c : TRef sig Tc} {a : TRef sig Ta} {b : TRef sig Tb} {y : TRef sig T}
    {f : Tc.Contents (Elt F) → Ta.Contents (Elt F) → Tb.Contents (Elt F) → T.Contents (Elt F)} (h : Holds (TRef.ternary c a b y f) W) :
    get W y = f (get W c) (get W a) (get W b) := by
  unfold get; rw [h _ (Finset.mem_singleton_self _), StableHlo.ternary_result, StableHlo.TRef.ofBuf_toBuf]

/-- A reshape through changes of type. -/
theorem cast_shapeCast {A B : BufTy} {s t : Shape} {e : EltTy} (hA : A = ⟨s, e⟩) (hB : B = ⟨t, e⟩) (he : A.elt = B.elt) (hn : A.shape.ShapeCasts B.shape)
    (hn' : s.ShapeCasts t) (v : A.Contents (Elt F)) :
    cast (congrArg (fun U : BufTy => U.Contents (Elt F)) hB) (fun i => he ▸ shapeCast B.shape v hn i)
      = shapeCast t (cast (congrArg (fun U : BufTy => U.Contents (Elt F)) hA) v) hn' := by
  subst hA hB; rfl

/-- The equation of a reshape, read at typed references. -/
theorem Holds.reshape {s t : Shape} {e : EltTy} {x : TRef sig ⟨s, e⟩} {y : TRef sig ⟨t, e⟩} {hn : s.ShapeCasts t}
    (h : Holds (F := F) (TRef.reshape x y rfl hn) W) : get W y = shapeCast t (get W x) hn := by
  unfold get; rw [h _ (Finset.mem_singleton_self _), StableHlo.reshape_result]
  exact cast_shapeCast x.ty_eq y.ty_eq _ _ hn _

end Read

end Cert.ReferenceIdeal.Line

end
-- ==== Proof.Reference.Ops.lean ====
/-
  The reference's functions as lists of operations, and as functions of the tensors they take: a list of equations that
  holds of some contents gives the function's value there.
-/
module

public import proofs.«01_k».proof.Proof.Reference.Line

@[expose] public section

set_option maxRecDepth 65536

noncomputable section

namespace Cert.ReferenceIdeal.Line

open Idealize.ShloMosaic Idealize.SL.Sem Cert.ReferenceIdeal Cert.ReferenceIdeal.Facts₀
open Idealize.ShloMosaic.StableHlo (TRef)

variable {F : FTy → Type} [FloatOps F]

/-! ## The attention -/

/-- The operations of one projection into the four heads. -/
def gatQOps (arg0 : TRef sig ⟨S2x272x256, .f32⟩) (arg1 : TRef sig ⟨S256x128, .f32⟩) (arg2 : TRef sig ⟨S128, .f32⟩) (φ : fn_gat.Bufs) : List (HloOp τ sig (Elt F)) :=
  [TRef.binary arg0 arg1 φ.v0 (fun l r => Host.dotGeneral dot_S2x272x256_S256x128_S2x272x128_2_0_01_1_n_n none l r),
   TRef.unary arg2 φ.v1 (broadcastInDim S1x1x128 ![2] bcast_S128_S1x1x128_2),
   TRef.unary φ.v1 φ.v2 (broadcastInDim S2x272x128 ![0, 1, 2] bcast_S1x1x128_S2x272x128_0_1_2),
   TRef.binary φ.v0 φ.v2 φ.v3 addf,
   TRef.reshape φ.v3 φ.v4 (rfl : (.f32 : EltTy) = .f32) shapeCasts_S2x272x128_S2x272x4x32,
   TRef.unary φ.v4 φ.v5 (transpose S2x4x272x32 [0, 2, 1, 3] · transposes_S2x272x4x32_S2x4x272x32_0_2_1_3)]

/-- A projection of the nodes, cut into the four heads. -/
def gatQF (arg0 : (⟨S2x272x256, .f32⟩ : BufTy).Contents (Elt F)) (arg1 : (⟨S256x128, .f32⟩ : BufTy).Contents (Elt F)) (arg2 : (⟨S128, .f32⟩ : BufTy).Contents (Elt F)) : (⟨S2x4x272x32, .f32⟩ : BufTy).Contents (Elt F) :=
  let v0 : (⟨S2x272x128, .f32⟩ : BufTy).Contents (Elt F) := (fun l r => Host.dotGeneral dot_S2x272x256_S256x128_S2x272x128_2_0_01_1_n_n none l r) arg0 arg1
  let v1 : (⟨S1x1x128, .f32⟩ : BufTy).Contents (Elt F) := (broadcastInDim S1x1x128 ![2] bcast_S128_S1x1x128_2) arg2
  let v2 : (⟨S2x272x128, .f32⟩ : BufTy).Contents (Elt F) := (broadcastInDim S2x272x128 ![0, 1, 2] bcast_S1x1x128_S2x272x128_0_1_2) v1
  let v3 : (⟨S2x272x128, .f32⟩ : BufTy).Contents (Elt F) := addf v0 v2
  let v4 : (⟨S2x272x4x32, .f32⟩ : BufTy).Contents (Elt F) := shapeCast S2x272x4x32 v3 shapeCasts_S2x272x128_S2x272x4x32
  let v5 : (⟨S2x4x272x32, .f32⟩ : BufTy).Contents (Elt F) := (transpose S2x4x272x32 [0, 2, 1, 3] · transposes_S2x272x4x32_S2x4x272x32_0_2_1_3) v4
  v5

/-- What they leave. -/
theorem gatQ_val (arg0 : TRef sig ⟨S2x272x256, .f32⟩) (arg1 : TRef sig ⟨S256x128, .f32⟩) (arg2 : TRef sig ⟨S128, .f32⟩) (φ : fn_gat.Bufs) {W : Valuation τ sig (Elt F)} (h : Eqs (gatQOps arg0 arg1 arg2 φ) W) :
    get W φ.v5 = gatQF (get W arg0) (get W arg1) (get W arg2) := by
  have e0 := h.head.binary
  replace h := h.tail
  have e1 := h.head.unary
  replace h := h.tail
  have e2 := h.head.unary
  replace h := h.tail
  have e3 := h.head.binary
  replace h := h.tail
  have e4 := h.head.reshape
  replace h := h.tail
  have e5 := h.head.unary
  rw [e5, e4, e3, e2, e1, e0]
  rfl

/-- The operations of the second projection. -/
def gatKOps (arg0 : TRef sig ⟨S2x272x256, .f32⟩) (arg3 : TRef sig ⟨S256x128, .f32⟩) (arg4 : TRef sig ⟨S128, .f32⟩) (φ : fn_gat.Bufs) : List (HloOp τ sig (Elt F)) :=
  [TRef.binary arg0 arg3 φ.v6 (fun l r => Host.dotGeneral dot_S2x272x256_S256x128_S2x272x128_2_0_01_1_n_n none l r),
   TRef.unary arg4 φ.v7 (broadcastInDim S1x1x128 ![2] bcast_S128_S1x1x128_2),
   TRef.unary φ.v7 φ.v8 (broadcastInDim S2x272x128 ![0, 1, 2] bcast_S1x1x128_S2x272x128_0_1_2),
   TRef.binary φ.v6 φ.v8 φ.v9 addf,
   TRef.reshape φ.v9 φ.v10 (rfl : (.f32 : EltTy) = .f32) shapeCasts_S2x272x128_S2x272x4x32,
   TRef.unary φ.v10 φ.v11 (transpose S2x4x272x32 [0, 2, 1, 3] · transposes_S2x272x4x32_S2x4x272x32_0_2_1_3)]

/-- What they leave. -/
theorem gatK_val (arg0 : TRef sig ⟨S2x272x256, .f32⟩) (arg3 : TRef sig ⟨S256x128, .f32⟩) (arg4 : TRef sig ⟨S128, .f32⟩) (φ : fn_gat.Bufs) {W : Valuation τ sig (Elt F)} (h : Eqs (gatKOps arg0 arg3 arg4 φ) W) :
    get W φ.v11 = gatQF (get W arg0) (get W arg3) (get W arg4) := by
  have e0 := h.head.binary
  replace h := h.tail
  have e1 := h.head.unary
  replace h := h.tail
  have e2 := h.head.unary
  replace h := h.tail
  have e3 := h.head.binary
  replace h := h.tail
  have e4 := h.head.reshape
  replace h := h.tail
  have e5 := h.head.unary
  rw [e5, e4, e3, e2, e1, e0]
  rfl

/-- The operations of the third projection. -/
def gatVOps (arg0 : TRef sig ⟨S2x272x256, .f32⟩) (arg5 : TRef sig ⟨S256x128, .f32⟩) (arg6 : TRef sig ⟨S128, .f32⟩) (φ : fn_gat.Bufs) : List (HloOp τ sig (Elt F)) :=
  [TRef.binary arg0 arg5 φ.v12 (fun l r => Host.dotGeneral dot_S2x272x256_S256x128_S2x272x128_2_0_01_1_n_n none l r),
   TRef.unary arg6 φ.v13 (broadcastInDim S1x1x128 ![2] bcast_S128_S1x1x128_2),
   TRef.unary φ.v13 φ.v14 (broadcastInDim S2x272x128 ![0, 1, 2] bcast_S1x1x128_S2x272x128_0_1_2),
   TRef.binary φ.v12 φ.v14 φ.v15 addf,
   TRef.reshape φ.v15 φ.v16 (rfl : (.f32 : EltTy) = .f32) shapeCasts_S2x272x128_S2x272x4x32,
   TRef.unary φ.v16 φ.v17 (transpose S2x4x272x32 [0, 2, 1, 3] · transposes_S2x272x4x32_S2x4x272x32_0_2_1_3)]

/-- What they leave. -/
theorem gatV_val (arg0 : TRef sig ⟨S2x272x256, .f32⟩) (arg5 : TRef sig ⟨S256x128, .f32⟩) (arg6 : TRef sig ⟨S128, .f32⟩) (φ : fn_gat.Bufs) {W : Valuation τ sig (Elt F)} (h : Eqs (gatVOps arg0 arg5 arg6 φ) W) :
    get W φ.v17 = gatQF (get W arg0) (get W arg5) (get W arg6) := by
  have e0 := h.head.binary
  replace h := h.tail
  have e1 := h.head.unary
  replace h := h.tail
  have e2 := h.head.unary
  replace h := h.tail
  have e3 := h.head.binary
  replace h := h.tail
  have e4 := h.head.reshape
  replace h := h.tail
  have e5 := h.head.unary
  rw [e5, e4, e3, e2, e1, e0]
  rfl

/-- The operations of the scores. -/
def gatSOps (v5 : TRef sig ⟨S2x4x272x32, .f32⟩) (v11 : TRef sig ⟨S2x4x272x32, .f32⟩) (φ : fn_gat.Bufs) : List (HloOp τ sig (Elt F)) :=
  [TRef.unary v11 φ.v18 (transpose S2x4x32x272 [0, 1, 3, 2] · transposes_S2x4x272x32_S2x4x32x272_0_1_3_2),
   TRef.binary v5 φ.v18 φ.v19 (fun l r => Host.dotGeneral dot_S2x4x272x32_S2x4x32x272_S2x4x272x272_3_2_2_3_01_01 none l r)]

/-- The inner products of the queries and the keys. -/
def gatSF (v5 : (⟨S2x4x272x32, .f32⟩ : BufTy).Contents (Elt F)) (v11 : (⟨S2x4x272x32, .f32⟩ : BufTy).Contents (Elt F)) : (⟨S2x4x272x272, .f32⟩ : BufTy).Contents (Elt F) :=
  let v18 : (⟨S2x4x32x272, .f32⟩ : BufTy).Contents (Elt F) := (transpose S2x4x32x272 [0, 1, 3, 2] · transposes_S2x4x272x32_S2x4x32x272_0_1_3_2) v11
  let v19 : (⟨S2x4x272x272, .f32⟩ : BufTy).Contents (Elt F) := (fun l r => Host.dotGeneral dot_S2x4x272x32_S2x4x32x272_S2x4x272x272_3_2_2_3_01_01 none l r) v5 v18
  v19

/-- What they leave. -/
theorem gatS_val (v5 : TRef sig ⟨S2x4x272x32, .f32⟩) (v11 : TRef sig ⟨S2x4x272x32, .f32⟩) (φ : fn_gat.Bufs) {W : Valuation τ sig (Elt F)} (h : Eqs (gatSOps v5 v11 φ) W) :
    get W φ.v19 = gatSF (get W v5) (get W v11) := by
  have e0 := h.head.unary
  replace h := h.tail
  have e1 := h.head.binary
  rw [e1, e0]
  rfl

/-- The operations of the softmax along the last axis. -/
def gatEOps (v19 : TRef sig ⟨S2x4x272x272, .f32⟩) (φ : fn_gat.Bufs) : List (HloOp τ sig (Elt F)) :=
  [TRef.nullary φ.cst (constant S_ .f32 0xFF800000#32),
   TRef.binary v19 φ.cst φ.v20 (fun x v => Host.reduce FloatOps.maximumf x v reducesTo_S2x4x272x272_S2x4x272_d3 h_S_),
   TRef.nullary φ.cst_0 (constant S_ .f32 0xFF800000#32),
   TRef.unary φ.cst_0 φ.v21 (broadcastInDim S2x4x272 ![] bcast_S_S2x4x272),
   TRef.binary φ.v21 φ.v20 φ.v22 maximumf,
   TRef.unary φ.v22 φ.v23 (broadcastInDim S2x4x272x1 ![0, 1, 2] bcast_S2x4x272_S2x4x272x1_0_1_2),
   TRef.unary φ.v23 φ.v24 (broadcastInDim S2x4x272x272 ![0, 1, 2, 3] bcast_S2x4x272x1_S2x4x272x272_0_1_2_3),
   TRef.binary v19 φ.v24 φ.v25 subf,
   TRef.unary φ.v25 φ.v26 Host.exp,
   TRef.nullary φ.cst_1 (constant S_ .f32 0x00000000#32),
   TRef.binary φ.v26 φ.cst_1 φ.v27 (fun x v => Host.reduceAdd x v reducesTo_S2x4x272x272_S2x4x272_d3 h_S_),
   TRef.unary φ.v27 φ.v28 (broadcastInDim S2x4x272x1 ![0, 1, 2] bcast_S2x4x272_S2x4x272x1_0_1_2),
   TRef.unary φ.v28 φ.v29 (broadcastInDim S2x4x272x272 ![0, 1, 2, 3] bcast_S2x4x272x1_S2x4x272x272_0_1_2_3),
   TRef.binary φ.v26 φ.v29 φ.v30 Host.divf]

/-- The softmax along the last axis. -/
def gatEF (v19 : (⟨S2x4x272x272, .f32⟩ : BufTy).Contents (Elt F)) : (⟨S2x4x272x272, .f32⟩ : BufTy).Contents (Elt F) :=
  let cst : (⟨S_, .f32⟩ : BufTy).Contents (Elt F) := (constant S_ .f32 0xFF800000#32)
  let v20 : (⟨S2x4x272, .f32⟩ : BufTy).Contents (Elt F) := (fun x v => Host.reduce FloatOps.maximumf x v reducesTo_S2x4x272x272_S2x4x272_d3 h_S_) v19 cst
  let cst_0 : (⟨S_, .f32⟩ : BufTy).Contents (Elt F) := (constant S_ .f32 0xFF800000#32)
  let v21 : (⟨S2x4x272, .f32⟩ : BufTy).Contents (Elt F) := (broadcastInDim S2x4x272 ![] bcast_S_S2x4x272) cst_0
  let v22 : (⟨S2x4x272, .f32⟩ : BufTy).Contents (Elt F) := maximumf v21 v20
  let v23 : (⟨S2x4x272x1, .f32⟩ : BufTy).Contents (Elt F) := (broadcastInDim S2x4x272x1 ![0, 1, 2] bcast_S2x4x272_S2x4x272x1_0_1_2) v22
  let v24 : (⟨S2x4x272x272, .f32⟩ : BufTy).Contents (Elt F) := (broadcastInDim S2x4x272x272 ![0, 1, 2, 3] bcast_S2x4x272x1_S2x4x272x272_0_1_2_3) v23
  let v25 : (⟨S2x4x272x272, .f32⟩ : BufTy).Contents (Elt F) := subf v19 v24
  let v26 : (⟨S2x4x272x272, .f32⟩ : BufTy).Contents (Elt F) := Host.exp v25
  let cst_1 : (⟨S_, .f32⟩ : BufTy).Contents (Elt F) := (constant S_ .f32 0x00000000#32)
  let v27 : (⟨S2x4x272, .f32⟩ : BufTy).Contents (Elt F) := (fun x v => Host.reduceAdd x v reducesTo_S2x4x272x272_S2x4x272_d3 h_S_) v26 cst_1
  let v28 : (⟨S2x4x272x1, .f32⟩ : BufTy).Contents (Elt F) := (broadcastInDim S2x4x272x1 ![0, 1, 2] bcast_S2x4x272_S2x4x272x1_0_1_2) v27
  let v29 : (⟨S2x4x272x272, .f32⟩ : BufTy).Contents (Elt F) := (broadcastInDim S2x4x272x272 ![0, 1, 2, 3] bcast_S2x4x272x1_S2x4x272x272_0_1_2_3) v28
  let v30 : (⟨S2x4x272x272, .f32⟩ : BufTy).Contents (Elt F) := Host.divf v26 v29
  v30

/-- What they leave. -/
theorem gatE_val (v19 : TRef sig ⟨S2x4x272x272, .f32⟩) (φ : fn_gat.Bufs) {W : Valuation τ sig (Elt F)} (h : Eqs (gatEOps v19 φ) W) :
    get W φ.v30 = gatEF (get W v19) := by
  have e0 := h.head.nullary
  replace h := h.tail
  have e1 := h.head.binary
  replace h := h.tail
  have e2 := h.head.nullary
  replace h := h.tail
  have e3 := h.head.unary
  replace h := h.tail
  have e4 := h.head.binary
  replace h := h.tail
  have e5 := h.head.unary
  replace h := h.tail
  have e6 := h.head.unary
  replace h := h.tail
  have e7 := h.head.binary
  replace h := h.tail
  have e8 := h.head.unary
  replace h := h.tail
  have e9 := h.head.nullary
  replace h := h.tail
  have e10 := h.head.binary
  replace h := h.tail
  have e11 := h.head.unary
  replace h := h.tail
  have e12 := h.head.unary
  replace h := h.tail
  have e13 := h.head.binary
  rw [e13, e12, e11, e10, e9, e8, e7, e6, e5, e4, e3, e2, e1, e0]
  rfl

/-- The operations of the output projection. -/
def gatOOps (v30 : TRef sig ⟨S2x4x272x272, .f32⟩) (v17 : TRef sig ⟨S2x4x272x32, .f32⟩) (arg7 : TRef sig ⟨S128x128, .f32⟩) (arg8 : TRef sig ⟨S128, .f32⟩) (φ : fn_gat.Bufs) : List (HloOp τ sig (Elt F)) :=
  [TRef.binary v30 v17 φ.v31 (fun l r => Host.dotGeneral dot_S2x4x272x272_S2x4x272x32_S2x4x272x32_3_2_2_3_01_01 none l r),
   TRef.unary φ.v31 φ.v32 (transpose S2x272x4x32 [0, 2, 1, 3] · transposes_S2x4x272x32_S2x272x4x32_0_2_1_3),
   TRef.reshape φ.v32 φ.v33 (rfl : (.f32 : EltTy) = .f32) shapeCasts_S2x272x4x32_S2x272x128,
   TRef.binary φ.v33 arg7 φ.v34 (fun l r => Host.dotGeneral dot_S2x272x128_S128x128_S2x272x128_2_0_01_1_n_n none l r),
   TRef.unary arg8 φ.v35 (broadcastInDim S1x1x128 ![2] bcast_S128_S1x1x128_2),
   TRef.unary φ.v35 φ.v36 (broadcastInDim S2x272x128 ![0, 1, 2] bcast_S1x1x128_S2x272x128_0_1_2),
   TRef.binary φ.v34 φ.v36 φ.v37 addf]

/-- The weighted values, joined from the heads and projected. -/
def gatOF (v30 : (⟨S2x4x272x272, .f32⟩ : BufTy).Contents (Elt F)) (v17 : (⟨S2x4x272x32, .f32⟩ : BufTy).Contents (Elt F)) (arg7 : (⟨S128x128, .f32⟩ : BufTy).Contents (Elt F)) (arg8 : (⟨S128, .f32⟩ : BufTy).Contents (Elt F)) : (⟨S2x272x128, .f32⟩ : BufTy).Contents (Elt F) :=
  let v31 : (⟨S2x4x272x32, .f32⟩ : BufTy).Contents (Elt F) := (fun l r => Host.dotGeneral dot_S2x4x272x272_S2x4x272x32_S2x4x272x32_3_2_2_3_01_01 none l r) v30 v17
  let v32 : (⟨S2x272x4x32, .f32⟩ : BufTy).Contents (Elt F) := (transpose S2x272x4x32 [0, 2, 1, 3] · transposes_S2x4x272x32_S2x272x4x32_0_2_1_3) v31
  let v33 : (⟨S2x272x128, .f32⟩ : BufTy).Contents (Elt F) := shapeCast S2x272x128 v32 shapeCasts_S2x272x4x32_S2x272x128
  let v34 : (⟨S2x272x128, .f32⟩ : BufTy).Contents (Elt F) := (fun l r => Host.dotGeneral dot_S2x272x128_S128x128_S2x272x128_2_0_01_1_n_n none l r) v33 arg7
  let v35 : (⟨S1x1x128, .f32⟩ : BufTy).Contents (Elt F) := (broadcastInDim S1x1x128 ![2] bcast_S128_S1x1x128_2) arg8
  let v36 : (⟨S2x272x128, .f32⟩ : BufTy).Contents (Elt F) := (broadcastInDim S2x272x128 ![0, 1, 2] bcast_S1x1x128_S2x272x128_0_1_2) v35
  let v37 : (⟨S2x272x128, .f32⟩ : BufTy).Contents (Elt F) := addf v34 v36
  v37

/-- What they leave. -/
theorem gatO_val (v30 : TRef sig ⟨S2x4x272x272, .f32⟩) (v17 : TRef sig ⟨S2x4x272x32, .f32⟩) (arg7 : TRef sig ⟨S128x128, .f32⟩) (arg8 : TRef sig ⟨S128, .f32⟩) (φ : fn_gat.Bufs) {W : Valuation τ sig (Elt F)} (h : Eqs (gatOOps v30 v17 arg7 arg8 φ) W) :
    get W φ.v37 = gatOF (get W v30) (get W v17) (get W arg7) (get W arg8) := by
  have e0 := h.head.binary
  replace h := h.tail
  have e1 := h.head.unary
  replace h := h.tail
  have e2 := h.head.reshape
  replace h := h.tail
  have e3 := h.head.binary
  replace h := h.tail
  have e4 := h.head.unary
  replace h := h.tail
  have e5 := h.head.unary
  replace h := h.tail
  have e6 := h.head.binary
  rw [e6, e5, e4, e3, e2, e1, e0]
  rfl

/-! ## The distances -/

/-- The operations of the distances between all points. -/
def sqrtOps (arg0 : TRef sig ⟨S2x256x384, .f32⟩) (arg1 : TRef sig ⟨S2x256x384, .f32⟩) (φ : fn_pred_sqrt.Bufs) : List (HloOp τ sig (Elt F)) :=
  [TRef.unary arg0 φ.v0 (broadcastInDim S2x256x1x384 ![0, 1, 3] bcast_S2x256x384_S2x256x1x384_0_1_3),
   TRef.unary arg1 φ.v1 (broadcastInDim S2x1x256x384 ![0, 2, 3] bcast_S2x256x384_S2x1x256x384_0_2_3),
   TRef.unary φ.v0 φ.v2 (broadcastInDim S2x256x256x384 ![0, 1, 2, 3] bcast_S2x256x1x384_S2x256x256x384_0_1_2_3),
   TRef.unary φ.v1 φ.v3 (broadcastInDim S2x256x256x384 ![0, 1, 2, 3] bcast_S2x1x256x384_S2x256x256x384_0_1_2_3),
   TRef.binary φ.v2 φ.v3 φ.v4 subf,
   TRef.binary φ.v4 φ.v4 φ.v5 mulf,
   TRef.nullary φ.cst (constant S_ .f32 0x00000000#32),
   TRef.binary φ.v5 φ.cst φ.v6 (fun x v => Host.reduceAdd x v reducesTo_S2x256x256x384_S2x256x256_d3 h_S_),
   TRef.nullary φ.cst_0 (constant S_ .f32 0x358637BD#32),
   TRef.unary φ.cst_0 φ.v7 (broadcastInDim S2x256x256 ![] bcast_S_S2x256x256),
   TRef.binary φ.v6 φ.v7 φ.v8 addf,
   TRef.unary φ.v8 φ.v9 Host.sqrt,
   TRef.unary φ.v9 φ.v10 Host.negf]

/-- Minus the distance between each two points. -/
def sqrtF (arg0 : (⟨S2x256x384, .f32⟩ : BufTy).Contents (Elt F)) (arg1 : (⟨S2x256x384, .f32⟩ : BufTy).Contents (Elt F)) : (⟨S2x256x256, .f32⟩ : BufTy).Contents (Elt F) :=
  let v0 : (⟨S2x256x1x384, .f32⟩ : BufTy).Contents (Elt F) := (broadcastInDim S2x256x1x384 ![0, 1, 3] bcast_S2x256x384_S2x256x1x384_0_1_3) arg0
  let v1 : (⟨S2x1x256x384, .f32⟩ : BufTy).Contents (Elt F) := (broadcastInDim S2x1x256x384 ![0, 2, 3] bcast_S2x256x384_S2x1x256x384_0_2_3) arg1
  let v2 : (⟨S2x256x256x384, .f32⟩ : BufTy).Contents (Elt F) := (broadcastInDim S2x256x256x384 ![0, 1, 2, 3] bcast_S2x256x1x384_S2x256x256x384_0_1_2_3) v0
  let v3 : (⟨S2x256x256x384, .f32⟩ : BufTy).Contents (Elt F) := (broadcastInDim S2x256x256x384 ![0, 1, 2, 3] bcast_S2x1x256x384_S2x256x256x384_0_1_2_3) v1
  let v4 : (⟨S2x256x256x384, .f32⟩ : BufTy).Contents (Elt F) := subf v2 v3
  let v5 : (⟨S2x256x256x384, .f32⟩ : BufTy).Contents (Elt F) := mulf v4 v4
  let cst : (⟨S_, .f32⟩ : BufTy).Contents (Elt F) := (constant S_ .f32 0x00000000#32)
  let v6 : (⟨S2x256x256, .f32⟩ : BufTy).Contents (Elt F) := (fun x v => Host.reduceAdd x v reducesTo_S2x256x256x384_S2x256x256_d3 h_S_) v5 cst
  let cst_0 : (⟨S_, .f32⟩ : BufTy).Contents (Elt F) := (constant S_ .f32 0x358637BD#32)
  let v7 : (⟨S2x256x256, .f32⟩ : BufTy).Contents (Elt F) := (broadcastInDim S2x256x256 ![] bcast_S_S2x256x256) cst_0
  let v8 : (⟨S2x256x256, .f32⟩ : BufTy).Contents (Elt F) := addf v6 v7
  let v9 : (⟨S2x256x256, .f32⟩ : BufTy).Contents (Elt F) := Host.sqrt v8
  let v10 : (⟨S2x256x256, .f32⟩ : BufTy).Contents (Elt F) := Host.negf v9
  v10

/-- What they leave. -/
theorem sqrt_val (arg0 : TRef sig ⟨S2x256x384, .f32⟩) (arg1 : TRef sig ⟨S2x256x384, .f32⟩) (φ : fn_pred_sqrt.Bufs) {W : Valuation τ sig (Elt F)} (h : Eqs (sqrtOps arg0 arg1 φ) W) :
    get W φ.v10 = sqrtF (get W arg0) (get W arg1) := by
  have e0 := h.head.unary
  replace h := h.tail
  have e1 := h.head.unary
  replace h := h.tail
  have e2 := h.head.unary
  replace h := h.tail
  have e3 := h.head.unary
  replace h := h.tail
  have e4 := h.head.binary
  replace h := h.tail
  have e5 := h.head.binary
  replace h := h.tail
  have e6 := h.head.nullary
  replace h := h.tail
  have e7 := h.head.binary
  replace h := h.tail
  have e8 := h.head.nullary
  replace h := h.tail
  have e9 := h.head.unary
  replace h := h.tail
  have e10 := h.head.binary
  replace h := h.tail
  have e11 := h.head.unary
  replace h := h.tail
  have e12 := h.head.unary
  rw [e12, e11, e10, e9, e8, e7, e6, e5, e4, e3, e2, e1, e0]
  rfl

/-- The operations of the squared distances to the centres. -/
def sqOps (arg0 : TRef sig ⟨S2x256x384, .f32⟩) (arg1 : TRef sig ⟨S2x16x384, .f32⟩) (φ : fn_pred_sq.Bufs) : List (HloOp τ sig (Elt F)) :=
  [TRef.unary arg0 φ.v0 (broadcastInDim S2x256x1x384 ![0, 1, 3] bcast_S2x256x384_S2x256x1x384_0_1_3),
   TRef.unary arg1 φ.v1 (broadcastInDim S2x1x16x384 ![0, 2, 3] bcast_S2x16x384_S2x1x16x384_0_2_3),
   TRef.unary φ.v0 φ.v2 (broadcastInDim S2x256x16x384 ![0, 1, 2, 3] bcast_S2x256x1x384_S2x256x16x384_0_1_2_3),
   TRef.unary φ.v1 φ.v3 (broadcastInDim S2x256x16x384 ![0, 1, 2, 3] bcast_S2x1x16x384_S2x256x16x384_0_1_2_3),
   TRef.binary φ.v2 φ.v3 φ.v4 subf,
   TRef.binary φ.v4 φ.v4 φ.v5 mulf,
   TRef.nullary φ.cst (constant S_ .f32 0x00000000#32),
   TRef.binary φ.v5 φ.cst φ.v6 (fun x v => Host.reduceAdd x v reducesTo_S2x256x16x384_S2x256x16_d3 h_S_),
   TRef.unary φ.v6 φ.v7 Host.negf]

/-- Minus the squared distance of each point to each centre. -/
def sqF (arg0 : (⟨S2x256x384, .f32⟩ : BufTy).Contents (Elt F)) (arg1 : (⟨S2x16x384, .f32⟩ : BufTy).Contents (Elt F)) : (⟨S2x256x16, .f32⟩ : BufTy).Contents (Elt F) :=
  let v0 : (⟨S2x256x1x384, .f32⟩ : BufTy).Contents (Elt F) := (broadcastInDim S2x256x1x384 ![0, 1, 3] bcast_S2x256x384_S2x256x1x384_0_1_3) arg0
  let v1 : (⟨S2x1x16x384, .f32⟩ : BufTy).Contents (Elt F) := (broadcastInDim S2x1x16x384 ![0, 2, 3] bcast_S2x16x384_S2x1x16x384_0_2_3) arg1
  let v2 : (⟨S2x256x16x384, .f32⟩ : BufTy).Contents (Elt F) := (broadcastInDim S2x256x16x384 ![0, 1, 2, 3] bcast_S2x256x1x384_S2x256x16x384_0_1_2_3) v0
  let v3 : (⟨S2x256x16x384, .f32⟩ : BufTy).Contents (Elt F) := (broadcastInDim S2x256x16x384 ![0, 1, 2, 3] bcast_S2x1x16x384_S2x256x16x384_0_1_2_3) v1
  let v4 : (⟨S2x256x16x384, .f32⟩ : BufTy).Contents (Elt F) := subf v2 v3
  let v5 : (⟨S2x256x16x384, .f32⟩ : BufTy).Contents (Elt F) := mulf v4 v4
  let cst : (⟨S_, .f32⟩ : BufTy).Contents (Elt F) := (constant S_ .f32 0x00000000#32)
  let v6 : (⟨S2x256x16, .f32⟩ : BufTy).Contents (Elt F) := (fun x v => Host.reduceAdd x v reducesTo_S2x256x16x384_S2x256x16_d3 h_S_) v5 cst
  let v7 : (⟨S2x256x16, .f32⟩ : BufTy).Contents (Elt F) := Host.negf v6
  v7

/-- What they leave. -/
theorem sq_val (arg0 : TRef sig ⟨S2x256x384, .f32⟩) (arg1 : TRef sig ⟨S2x16x384, .f32⟩) (φ : fn_pred_sq.Bufs) {W : Valuation τ sig (Elt F)} (h : Eqs (sqOps arg0 arg1 φ) W) :
    get W φ.v7 = sqF (get W arg0) (get W arg1) := by
  have e0 := h.head.unary
  replace h := h.tail
  have e1 := h.head.unary
  replace h := h.tail
  have e2 := h.head.unary
  replace h := h.tail
  have e3 := h.head.unary
  replace h := h.tail
  have e4 := h.head.binary
  replace h := h.tail
  have e5 := h.head.binary
  replace h := h.tail
  have e6 := h.head.nullary
  replace h := h.tail
  have e7 := h.head.binary
  replace h := h.tail
  have e8 := h.head.unary
  rw [e8, e7, e6, e5, e4, e3, e2, e1, e0]
  rfl

/-! ## One step of the clustering -/

/-- The operations of the lowest link. -/
def lowOps (arg2 : TRef sig ⟨S2x256x16, .f32⟩) (arg3 : TRef sig ⟨S2x256x256, .f32⟩) (φ : fn_kmean_step.Bufs) : List (HloOp τ sig (Elt F)) :=
  [TRef.unary arg2 φ.v0 (transpose S2x16x256 [0, 2, 1] · transposes_S2x256x16_S2x16x256_0_2_1),
   TRef.binary arg2 φ.v0 φ.v1 (fun l r => Host.dotGeneral dot_S2x256x16_S2x16x256_S2x256x256_2_1_1_2_0_0 none l r),
   TRef.binary arg3 φ.v1 φ.v2 mulf,
   TRef.nullary φ.cst (constant S_ .f32 0x3F800000#32),
   TRef.unary φ.cst φ.v3 (broadcastInDim S2x256x256 ![] bcast_S_S2x256x256),
   TRef.binary φ.v3 φ.v1 φ.v4 subf,
   TRef.nullary φ.cst_0 (constant S_ .f32 0xC9742400#32),
   TRef.unary φ.cst_0 φ.v5 (broadcastInDim S2x256x256 ![] bcast_S_S2x256x256),
   TRef.binary φ.v4 φ.v5 φ.v6 mulf,
   TRef.binary φ.v2 φ.v6 φ.v7 addf,
   TRef.nullary φ.cst_1 (constant S_ .f32 0xFF800000#32),
   TRef.binary φ.v7 φ.cst_1 φ.v8 (fun x v => Host.reduce FloatOps.maximumf x v reducesTo_S2x256x256_S2x256_d2 h_S_)]

/-- The greatest entry of each row of the graph, links only within a cluster. -/
def lowF (arg2 : (⟨S2x256x16, .f32⟩ : BufTy).Contents (Elt F)) (arg3 : (⟨S2x256x256, .f32⟩ : BufTy).Contents (Elt F)) : (⟨S2x256, .f32⟩ : BufTy).Contents (Elt F) :=
  let v0 : (⟨S2x16x256, .f32⟩ : BufTy).Contents (Elt F) := (transpose S2x16x256 [0, 2, 1] · transposes_S2x256x16_S2x16x256_0_2_1) arg2
  let v1 : (⟨S2x256x256, .f32⟩ : BufTy).Contents (Elt F) := (fun l r => Host.dotGeneral dot_S2x256x16_S2x16x256_S2x256x256_2_1_1_2_0_0 none l r) arg2 v0
  let v2 : (⟨S2x256x256, .f32⟩ : BufTy).Contents (Elt F) := mulf arg3 v1
  let cst : (⟨S_, .f32⟩ : BufTy).Contents (Elt F) := (constant S_ .f32 0x3F800000#32)
  let v3 : (⟨S2x256x256, .f32⟩ : BufTy).Contents (Elt F) := (broadcastInDim S2x256x256 ![] bcast_S_S2x256x256) cst
  let v4 : (⟨S2x256x256, .f32⟩ : BufTy).Contents (Elt F) := subf v3 v1
  let cst_0 : (⟨S_, .f32⟩ : BufTy).Contents (Elt F) := (constant S_ .f32 0xC9742400#32)
  let v5 : (⟨S2x256x256, .f32⟩ : BufTy).Contents (Elt F) := (broadcastInDim S2x256x256 ![] bcast_S_S2x256x256) cst_0
  let v6 : (⟨S2x256x256, .f32⟩ : BufTy).Contents (Elt F) := mulf v4 v5
  let v7 : (⟨S2x256x256, .f32⟩ : BufTy).Contents (Elt F) := addf v2 v6
  let cst_1 : (⟨S_, .f32⟩ : BufTy).Contents (Elt F) := (constant S_ .f32 0xFF800000#32)
  let v8 : (⟨S2x256, .f32⟩ : BufTy).Contents (Elt F) := (fun x v => Host.reduce FloatOps.maximumf x v reducesTo_S2x256x256_S2x256_d2 h_S_) v7 cst_1
  v8

/-- What they leave. -/
theorem low_val (arg2 : TRef sig ⟨S2x256x16, .f32⟩) (arg3 : TRef sig ⟨S2x256x256, .f32⟩) (φ : fn_kmean_step.Bufs) {W : Valuation τ sig (Elt F)} (h : Eqs (lowOps arg2 arg3 φ) W) :
    get W φ.v8 = lowF (get W arg2) (get W arg3) := by
  have e0 := h.head.unary
  replace h := h.tail
  have e1 := h.head.binary
  replace h := h.tail
  have e2 := h.head.binary
  replace h := h.tail
  have e3 := h.head.nullary
  replace h := h.tail
  have e4 := h.head.unary
  replace h := h.tail
  have e5 := h.head.binary
  replace h := h.tail
  have e6 := h.head.nullary
  replace h := h.tail
  have e7 := h.head.unary
  replace h := h.tail
  have e8 := h.head.binary
  replace h := h.tail
  have e9 := h.head.binary
  replace h := h.tail
  have e10 := h.head.nullary
  replace h := h.tail
  have e11 := h.head.binary
  rw [e11, e10, e9, e8, e7, e6, e5, e4, e3, e2, e1, e0]
  rfl

/-- The operations of the masked logits. -/
def logitOps (arg2 : TRef sig ⟨S2x256x16, .f32⟩) (v8 : TRef sig ⟨S2x256, .f32⟩) (φ : fn_kmean_step.Bufs) : List (HloOp τ sig (Elt F)) :=
  [TRef.unary arg2 φ.v9 (transpose S2x16x256 [0, 2, 1] · transposes_S2x256x16_S2x16x256_0_2_1),
   TRef.unary v8 φ.v10 (broadcastInDim S2x1x256 ![0, 2] bcast_S2x256_S2x1x256_0_2),
   TRef.unary φ.v10 φ.v11 (broadcastInDim S2x16x256 ![0, 1, 2] bcast_S2x1x256_S2x16x256_0_1_2),
   TRef.binary φ.v9 φ.v11 φ.v12 mulf,
   TRef.nullary φ.cst_2 (constant S_ .f32 0x3F800000#32),
   TRef.unary φ.cst_2 φ.v13 (broadcastInDim S2x16x256 ![] bcast_S_S2x16x256),
   TRef.binary φ.v13 φ.v9 φ.v14 subf,
   TRef.nullary φ.cst_3 (constant S_ .f32 0xC9742400#32),
   TRef.unary φ.cst_3 φ.v15 (broadcastInDim S2x16x256 ![] bcast_S_S2x16x256),
   TRef.binary φ.v14 φ.v15 φ.v16 mulf,
   TRef.binary φ.v12 φ.v16 φ.v17 addf]

/-- Each point's entry where it belongs to the cluster, a great negative number elsewhere. -/
def logitF (arg2 : (⟨S2x256x16, .f32⟩ : BufTy).Contents (Elt F)) (v8 : (⟨S2x256, .f32⟩ : BufTy).Contents (Elt F)) : (⟨S2x16x256, .f32⟩ : BufTy).Contents (Elt F) :=
  let v9 : (⟨S2x16x256, .f32⟩ : BufTy).Contents (Elt F) := (transpose S2x16x256 [0, 2, 1] · transposes_S2x256x16_S2x16x256_0_2_1) arg2
  let v10 : (⟨S2x1x256, .f32⟩ : BufTy).Contents (Elt F) := (broadcastInDim S2x1x256 ![0, 2] bcast_S2x256_S2x1x256_0_2) v8
  let v11 : (⟨S2x16x256, .f32⟩ : BufTy).Contents (Elt F) := (broadcastInDim S2x16x256 ![0, 1, 2] bcast_S2x1x256_S2x16x256_0_1_2) v10
  let v12 : (⟨S2x16x256, .f32⟩ : BufTy).Contents (Elt F) := mulf v9 v11
  let cst_2 : (⟨S_, .f32⟩ : BufTy).Contents (Elt F) := (constant S_ .f32 0x3F800000#32)
  let v13 : (⟨S2x16x256, .f32⟩ : BufTy).Contents (Elt F) := (broadcastInDim S2x16x256 ![] bcast_S_S2x16x256) cst_2
  let v14 : (⟨S2x16x256, .f32⟩ : BufTy).Contents (Elt F) := subf v13 v9
  let cst_3 : (⟨S_, .f32⟩ : BufTy).Contents (Elt F) := (constant S_ .f32 0xC9742400#32)
  let v15 : (⟨S2x16x256, .f32⟩ : BufTy).Contents (Elt F) := (broadcastInDim S2x16x256 ![] bcast_S_S2x16x256) cst_3
  let v16 : (⟨S2x16x256, .f32⟩ : BufTy).Contents (Elt F) := mulf v14 v15
  let v17 : (⟨S2x16x256, .f32⟩ : BufTy).Contents (Elt F) := addf v12 v16
  v17

/-- What they leave. -/
theorem logit_val (arg2 : TRef sig ⟨S2x256x16, .f32⟩) (v8 : TRef sig ⟨S2x256, .f32⟩) (φ : fn_kmean_step.Bufs) {W : Valuation τ sig (Elt F)} (h : Eqs (logitOps arg2 v8 φ) W) :
    get W φ.v17 = logitF (get W arg2) (get W v8) := by
  have e0 := h.head.unary
  replace h := h.tail
  have e1 := h.head.unary
  replace h := h.tail
  have e2 := h.head.unary
  replace h := h.tail
  have e3 := h.head.binary
  replace h := h.tail
  have e4 := h.head.nullary
  replace h := h.tail
  have e5 := h.head.unary
  replace h := h.tail
  have e6 := h.head.binary
  replace h := h.tail
  have e7 := h.head.nullary
  replace h := h.tail
  have e8 := h.head.unary
  replace h := h.tail
  have e9 := h.head.binary
  replace h := h.tail
  have e10 := h.head.binary
  rw [e10, e9, e8, e7, e6, e5, e4, e3, e2, e1, e0]
  rfl

/-- The operations of the softmax over the points. -/
def softOps (v17 : TRef sig ⟨S2x16x256, .f32⟩) (φ : fn_kmean_step.Bufs) : List (HloOp τ sig (Elt F)) :=
  [TRef.nullary φ.cst_4 (constant S_ .f32 0xFF800000#32),
   TRef.binary v17 φ.cst_4 φ.v18 (fun x v => Host.reduce FloatOps.maximumf x v reducesTo_S2x16x256_S2x16_d2 h_S_),
   TRef.nullary φ.cst_5 (constant S_ .f32 0xFF800000#32),
   TRef.unary φ.cst_5 φ.v19 (broadcastInDim S2x16 ![] bcast_S_S2x16),
   TRef.binary φ.v19 φ.v18 φ.v20 maximumf,
   TRef.unary φ.v20 φ.v21 (broadcastInDim S2x16x1 ![0, 1] bcast_S2x16_S2x16x1_0_1),
   TRef.unary φ.v21 φ.v22 (broadcastInDim S2x16x256 ![0, 1, 2] bcast_S2x16x1_S2x16x256_0_1_2),
   TRef.binary v17 φ.v22 φ.v23 subf,
   TRef.unary φ.v23 φ.v24 Host.exp,
   TRef.nullary φ.cst_6 (constant S_ .f32 0x00000000#32),
   TRef.binary φ.v24 φ.cst_6 φ.v25 (fun x v => Host.reduceAdd x v reducesTo_S2x16x256_S2x16_d2 h_S_),
   TRef.unary φ.v25 φ.v26 (broadcastInDim S2x16x1 ![0, 1] bcast_S2x16_S2x16x1_0_1),
   TRef.unary φ.v26 φ.v27 (broadcastInDim S2x16x256 ![0, 1, 2] bcast_S2x16x1_S2x16x256_0_1_2),
   TRef.binary φ.v24 φ.v27 φ.v28 Host.divf]

/-- The softmax along the points. -/
def softF (v17 : (⟨S2x16x256, .f32⟩ : BufTy).Contents (Elt F)) : (⟨S2x16x256, .f32⟩ : BufTy).Contents (Elt F) :=
  let cst_4 : (⟨S_, .f32⟩ : BufTy).Contents (Elt F) := (constant S_ .f32 0xFF800000#32)
  let v18 : (⟨S2x16, .f32⟩ : BufTy).Contents (Elt F) := (fun x v => Host.reduce FloatOps.maximumf x v reducesTo_S2x16x256_S2x16_d2 h_S_) v17 cst_4
  let cst_5 : (⟨S_, .f32⟩ : BufTy).Contents (Elt F) := (constant S_ .f32 0xFF800000#32)
  let v19 : (⟨S2x16, .f32⟩ : BufTy).Contents (Elt F) := (broadcastInDim S2x16 ![] bcast_S_S2x16) cst_5
  let v20 : (⟨S2x16, .f32⟩ : BufTy).Contents (Elt F) := maximumf v19 v18
  let v21 : (⟨S2x16x1, .f32⟩ : BufTy).Contents (Elt F) := (broadcastInDim S2x16x1 ![0, 1] bcast_S2x16_S2x16x1_0_1) v20
  let v22 : (⟨S2x16x256, .f32⟩ : BufTy).Contents (Elt F) := (broadcastInDim S2x16x256 ![0, 1, 2] bcast_S2x16x1_S2x16x256_0_1_2) v21
  let v23 : (⟨S2x16x256, .f32⟩ : BufTy).Contents (Elt F) := subf v17 v22
  let v24 : (⟨S2x16x256, .f32⟩ : BufTy).Contents (Elt F) := Host.exp v23
  let cst_6 : (⟨S_, .f32⟩ : BufTy).Contents (Elt F) := (constant S_ .f32 0x00000000#32)
  let v25 : (⟨S2x16, .f32⟩ : BufTy).Contents (Elt F) := (fun x v => Host.reduceAdd x v reducesTo_S2x16x256_S2x16_d2 h_S_) v24 cst_6
  let v26 : (⟨S2x16x1, .f32⟩ : BufTy).Contents (Elt F) := (broadcastInDim S2x16x1 ![0, 1] bcast_S2x16_S2x16x1_0_1) v25
  let v27 : (⟨S2x16x256, .f32⟩ : BufTy).Contents (Elt F) := (broadcastInDim S2x16x256 ![0, 1, 2] bcast_S2x16x1_S2x16x256_0_1_2) v26
  let v28 : (⟨S2x16x256, .f32⟩ : BufTy).Contents (Elt F) := Host.divf v24 v27
  v28

/-- What they leave. -/
theorem soft_val (v17 : TRef sig ⟨S2x16x256, .f32⟩) (φ : fn_kmean_step.Bufs) {W : Valuation τ sig (Elt F)} (h : Eqs (softOps v17 φ) W) :
    get W φ.v28 = softF (get W v17) := by
  have e0 := h.head.nullary
  replace h := h.tail
  have e1 := h.head.binary
  replace h := h.tail
  have e2 := h.head.nullary
  replace h := h.tail
  have e3 := h.head.unary
  replace h := h.tail
  have e4 := h.head.binary
  replace h := h.tail
  have e5 := h.head.unary
  replace h := h.tail
  have e6 := h.head.unary
  replace h := h.tail
  have e7 := h.head.binary
  replace h := h.tail
  have e8 := h.head.unary
  replace h := h.tail
  have e9 := h.head.nullary
  replace h := h.tail
  have e10 := h.head.binary
  replace h := h.tail
  have e11 := h.head.unary
  replace h := h.tail
  have e12 := h.head.unary
  replace h := h.tail
  have e13 := h.head.binary
  rw [e13, e12, e11, e10, e9, e8, e7, e6, e5, e4, e3, e2, e1, e0]
  rfl

/-- The operations of the new centres. -/
def centOps (v28 : TRef sig ⟨S2x16x256, .f32⟩) (arg0 : TRef sig ⟨S2x256x384, .f32⟩) (arg1 : TRef sig ⟨S2x16x384, .f32⟩) (φ : fn_kmean_step.Bufs) : List (HloOp τ sig (Elt F)) :=
  [TRef.binary v28 arg0 φ.v29 (fun l r => Host.dotGeneral dot_S2x16x256_S2x256x384_S2x16x384_2_1_1_2_0_0 none l r),
   TRef.nullary φ.cst_7 (constant S_ .f32 0x3F70F0F1#32),
   TRef.unary φ.cst_7 φ.v30 (broadcastInDim S2x16x384 ![] bcast_S_S2x16x384),
   TRef.binary φ.v30 φ.v29 φ.v31 mulf,
   TRef.nullary φ.cst_8 (constant S_ .f32 0x3D70F0F1#32),
   TRef.unary φ.cst_8 φ.v32 (broadcastInDim S2x16x384 ![] bcast_S_S2x16x384),
   TRef.binary φ.v32 arg1 φ.v33 mulf,
   TRef.binary φ.v31 φ.v33 φ.v34 addf]

/-- The weighted centres, mixed with the shots. -/
def centF (v28 : (⟨S2x16x256, .f32⟩ : BufTy).Contents (Elt F)) (arg0 : (⟨S2x256x384, .f32⟩ : BufTy).Contents (Elt F)) (arg1 : (⟨S2x16x384, .f32⟩ : BufTy).Contents (Elt F)) : (⟨S2x16x384, .f32⟩ : BufTy).Contents (Elt F) :=
  let v29 : (⟨S2x16x384, .f32⟩ : BufTy).Contents (Elt F) := (fun l r => Host.dotGeneral dot_S2x16x256_S2x256x384_S2x16x384_2_1_1_2_0_0 none l r) v28 arg0
  let cst_7 : (⟨S_, .f32⟩ : BufTy).Contents (Elt F) := (constant S_ .f32 0x3F70F0F1#32)
  let v30 : (⟨S2x16x384, .f32⟩ : BufTy).Contents (Elt F) := (broadcastInDim S2x16x384 ![] bcast_S_S2x16x384) cst_7
  let v31 : (⟨S2x16x384, .f32⟩ : BufTy).Contents (Elt F) := mulf v30 v29
  let cst_8 : (⟨S_, .f32⟩ : BufTy).Contents (Elt F) := (constant S_ .f32 0x3D70F0F1#32)
  let v32 : (⟨S2x16x384, .f32⟩ : BufTy).Contents (Elt F) := (broadcastInDim S2x16x384 ![] bcast_S_S2x16x384) cst_8
  let v33 : (⟨S2x16x384, .f32⟩ : BufTy).Contents (Elt F) := mulf v32 arg1
  let v34 : (⟨S2x16x384, .f32⟩ : BufTy).Contents (Elt F) := addf v31 v33
  v34

/-- What they leave. -/
theorem cent_val (v28 : TRef sig ⟨S2x16x256, .f32⟩) (arg0 : TRef sig ⟨S2x256x384, .f32⟩) (arg1 : TRef sig ⟨S2x16x384, .f32⟩) (φ : fn_kmean_step.Bufs) {W : Valuation τ sig (Elt F)} (h : Eqs (centOps v28 arg0 arg1 φ) W) :
    get W φ.v34 = centF (get W v28) (get W arg0) (get W arg1) := by
  have e0 := h.head.binary
  replace h := h.tail
  have e1 := h.head.nullary
  replace h := h.tail
  have e2 := h.head.unary
  replace h := h.tail
  have e3 := h.head.binary
  replace h := h.tail
  have e4 := h.head.nullary
  replace h := h.tail
  have e5 := h.head.unary
  replace h := h.tail
  have e6 := h.head.binary
  replace h := h.tail
  have e7 := h.head.binary
  rw [e7, e6, e5, e4, e3, e2, e1, e0]
  rfl

/-! ## One step of the assignment -/

/-- The operations of the sixteen best of each cluster. -/
def maskOps (arg1 : TRef sig ⟨S2x16x256, .f32⟩) (φ : fn_one_hot_step.Bufs) : List (HloOp τ sig (Elt F)) :=
  [TRef.unary arg1 φ.values (fun x => (Host.topK S2x16x16 2 (FloatOps.cmpfTotal .gt) x sliceFits_S2x16x256_S2x16x16).1),
   TRef.unary arg1 φ.indices (fun x => (Host.topK S2x16x16 2 (FloatOps.cmpfTotal .gt) x sliceFits_S2x16x256_S2x16x16).2),
   TRef.unary φ.values φ.v0 (extractStridedSlice S2x16x1 ![0, 0, 15] · slices_S2x16x16_S2x16x1_0_0_15),
   TRef.unary φ.v0 φ.v1 (broadcastInDim S2x16x256 ![0, 1, 2] bcast_S2x16x1_S2x16x256_0_1_2),
   TRef.binary arg1 φ.v1 φ.v2 (cmpf .oge),
   TRef.unary φ.v2 φ.v3 (uitofp .f32)]

/-- One at each cluster's sixteen best points. -/
def maskF (arg1 : (⟨S2x16x256, .f32⟩ : BufTy).Contents (Elt F)) : (⟨S2x16x256, .f32⟩ : BufTy).Contents (Elt F) :=
  let values : (⟨S2x16x16, .f32⟩ : BufTy).Contents (Elt F) := (fun x => (Host.topK S2x16x16 2 (FloatOps.cmpfTotal .gt) x sliceFits_S2x16x256_S2x16x16).1) arg1
  let indices : (⟨S2x16x16, .i32⟩ : BufTy).Contents (Elt F) := (fun x => (Host.topK S2x16x16 2 (FloatOps.cmpfTotal .gt) x sliceFits_S2x16x256_S2x16x16).2) arg1
  let v0 : (⟨S2x16x1, .f32⟩ : BufTy).Contents (Elt F) := (extractStridedSlice S2x16x1 ![0, 0, 15] · slices_S2x16x16_S2x16x1_0_0_15) values
  let v1 : (⟨S2x16x256, .f32⟩ : BufTy).Contents (Elt F) := (broadcastInDim S2x16x256 ![0, 1, 2] bcast_S2x16x1_S2x16x256_0_1_2) v0
  let v2 : (⟨S2x16x256, .i1⟩ : BufTy).Contents (Elt F) := (cmpf .oge) arg1 v1
  let v3 : (⟨S2x16x256, .f32⟩ : BufTy).Contents (Elt F) := (uitofp .f32) v2
  v3

/-- What they leave. -/
theorem mask_val (arg1 : TRef sig ⟨S2x16x256, .f32⟩) (φ : fn_one_hot_step.Bufs) {W : Valuation τ sig (Elt F)} (h : Eqs (maskOps arg1 φ) W) :
    get W φ.v3 = maskF (get W arg1) := by
  have e0 := h.head.unary
  replace h := h.tail
  replace h := h.tail
  have e2 := h.head.unary
  replace h := h.tail
  have e3 := h.head.unary
  replace h := h.tail
  have e4 := h.head.binary
  replace h := h.tail
  have e5 := h.head.unary
  rw [e5, e4, e3, e2, e0]
  rfl

/-- The operations of the test for points chosen twice. -/
def doneOps (v3 : TRef sig ⟨S2x16x256, .f32⟩) (φ : fn_one_hot_step.Bufs) : List (HloOp τ sig (Elt F)) :=
  [TRef.nullary φ.cst (constant S_ .f32 0x00000000#32),
   TRef.binary v3 φ.cst φ.v5 (fun x v => Host.reduceAdd x v reducesTo_S2x16x256_S2x256_d1 h_S_),
   TRef.nullary φ.cst_0 (constant S_ .f32 0x40000000#32),
   TRef.unary φ.cst_0 φ.v6 (broadcastInDim S2x256 ![] bcast_S_S2x256),
   TRef.binary φ.v5 φ.v6 φ.v7 (cmpf .olt),
   TRef.nullary φ.c (constantI S_ 1 1#1),
   TRef.binary φ.v7 φ.c φ.v8 (fun x v => Host.reduce IntOp.andi x v reducesTo_S2x256_S_d0_1 h_S_)]

/-- Whether no point is chosen twice. -/
def doneF (v3 : (⟨S2x16x256, .f32⟩ : BufTy).Contents (Elt F)) : (⟨S_, .i1⟩ : BufTy).Contents (Elt F) :=
  let cst : (⟨S_, .f32⟩ : BufTy).Contents (Elt F) := (constant S_ .f32 0x00000000#32)
  let v5 : (⟨S2x256, .f32⟩ : BufTy).Contents (Elt F) := (fun x v => Host.reduceAdd x v reducesTo_S2x16x256_S2x256_d1 h_S_) v3 cst
  let cst_0 : (⟨S_, .f32⟩ : BufTy).Contents (Elt F) := (constant S_ .f32 0x40000000#32)
  let v6 : (⟨S2x256, .f32⟩ : BufTy).Contents (Elt F) := (broadcastInDim S2x256 ![] bcast_S_S2x256) cst_0
  let v7 : (⟨S2x256, .i1⟩ : BufTy).Contents (Elt F) := (cmpf .olt) v5 v6
  let c : (⟨S_, .i1⟩ : BufTy).Contents (Elt F) := (constantI S_ 1 1#1)
  let v8 : (⟨S_, .i1⟩ : BufTy).Contents (Elt F) := (fun x v => Host.reduce IntOp.andi x v reducesTo_S2x256_S_d0_1 h_S_) v7 c
  v8

/-- What they leave. -/
theorem done_val (v3 : TRef sig ⟨S2x16x256, .f32⟩) (φ : fn_one_hot_step.Bufs) {W : Valuation τ sig (Elt F)} (h : Eqs (doneOps v3 φ) W) :
    get W φ.v8 = doneF (get W v3) := by
  have e0 := h.head.nullary
  replace h := h.tail
  have e1 := h.head.binary
  replace h := h.tail
  have e2 := h.head.nullary
  replace h := h.tail
  have e3 := h.head.unary
  replace h := h.tail
  have e4 := h.head.binary
  replace h := h.tail
  have e5 := h.head.nullary
  replace h := h.tail
  have e6 := h.head.binary
  rw [e6, e5, e4, e3, e2, e1, e0]
  rfl

/-- The operations of the next scores. -/
def pushOps (arg1 : TRef sig ⟨S2x16x256, .f32⟩) (v3 : TRef sig ⟨S2x16x256, .f32⟩) (φ : fn_one_hot_step.Bufs) : List (HloOp τ sig (Elt F)) :=
  [TRef.nullary φ.cst_1 (constant S_ .f32 0x3F800000#32),
   TRef.unary φ.cst_1 φ.v10 (broadcastInDim S2x16x256 ![] bcast_S_S2x16x256),
   TRef.binary φ.v10 v3 φ.v11 subf,
   TRef.nullary φ.cst_2 (constant S_ .f32 0x49742400#32),
   TRef.unary φ.cst_2 φ.v12 (broadcastInDim S2x16x256 ![] bcast_S_S2x16x256),
   TRef.binary φ.v11 φ.v12 φ.v13 mulf,
   TRef.binary arg1 φ.v13 φ.v14 subf,
   TRef.nullary φ.cst_3 (constant S_ .f32 0xFF800000#32),
   TRef.binary φ.v14 φ.cst_3 φ.v15 (fun x v => Host.reduce FloatOps.maximumf x v reducesTo_S2x16x256_S2x256_d1 h_S_),
   TRef.unary φ.v15 φ.v16 (broadcastInDim S2x1x256 ![0, 2] bcast_S2x256_S2x1x256_0_2),
   TRef.unary φ.v16 φ.v17 (broadcastInDim S2x16x256 ![0, 1, 2] bcast_S2x1x256_S2x16x256_0_1_2),
   TRef.binary φ.v14 φ.v17 φ.v18 (cmpf .oge),
   TRef.unary φ.v18 φ.v19 (uitofp .f32),
   TRef.binary φ.v19 v3 φ.v20 mulf,
   TRef.nullary φ.cst_4 (constant S_ .f32 0x00000000#32),
   TRef.binary φ.v20 φ.cst_4 φ.v21 (fun x v => Host.reduceAdd x v reducesTo_S2x16x256_S2x256_d1 h_S_),
   TRef.nullary φ.cst_5 (constant S_ .f32 0x3F000000#32),
   TRef.unary φ.cst_5 φ.v22 (broadcastInDim S2x256 ![] bcast_S_S2x256),
   TRef.binary φ.v21 φ.v22 φ.v23 (cmpf .ogt),
   TRef.unary φ.v23 φ.v24 (uitofp .f32),
   TRef.unary φ.v24 φ.v25 (broadcastInDim S2x1x256 ![0, 2] bcast_S2x256_S2x1x256_0_2),
   TRef.nullary φ.cst_6 (constant S_ .f32 0x49742400#32),
   TRef.unary φ.cst_6 φ.v26 (broadcastInDim S2x1x256 ![] bcast_S_S2x1x256),
   TRef.binary φ.v25 φ.v26 φ.v27 mulf,
   TRef.unary φ.v27 φ.v28 (broadcastInDim S2x16x256 ![0, 1, 2] bcast_S2x1x256_S2x16x256_0_1_2),
   TRef.binary arg1 φ.v28 φ.v29 subf,
   TRef.nullary φ.cst_7 (constant S_ .f32 0x00000000#32),
   TRef.binary φ.v20 φ.cst_7 φ.v30 (fun x v => Host.reduceAdd x v reducesTo_S2x16x256_S2x256_d1 h_S_),
   TRef.nullary φ.cst_8 (constant S_ .f32 0x3FC00000#32),
   TRef.unary φ.cst_8 φ.v31 (broadcastInDim S2x256 ![] bcast_S_S2x256),
   TRef.binary φ.v30 φ.v31 φ.v32 (cmpf .ogt),
   TRef.unary φ.v32 φ.v33 (uitofp .f32),
   TRef.unary φ.v33 φ.v34 (broadcastInDim S2x1x256 ![0, 2] bcast_S2x256_S2x1x256_0_2),
   TRef.nullary φ.cst_9 (constant S_ .f32 0x3F800000#32),
   TRef.unary φ.cst_9 φ.v35 (broadcastInDim S2x1x256 ![] bcast_S_S2x1x256),
   TRef.binary φ.v35 φ.v34 φ.v36 subf,
   TRef.unary φ.v36 φ.v37 (broadcastInDim S2x16x256 ![0, 1, 2] bcast_S2x1x256_S2x16x256_0_1_2),
   TRef.binary φ.v20 φ.v37 φ.v38 mulf,
   TRef.binary φ.v38 arg1 φ.v39 mulf,
   TRef.nullary φ.cst_10 (constant S_ .f32 0x3F800000#32),
   TRef.unary φ.cst_10 φ.v40 (broadcastInDim S2x16x256 ![] bcast_S_S2x16x256),
   TRef.binary φ.v40 φ.v38 φ.v41 subf,
   TRef.binary φ.v41 φ.v29 φ.v42 mulf,
   TRef.binary φ.v39 φ.v42 φ.v43 addf]

/-- The scores after every point chosen twice is kept for its best cluster. -/
def pushF (arg1 : (⟨S2x16x256, .f32⟩ : BufTy).Contents (Elt F)) (v3 : (⟨S2x16x256, .f32⟩ : BufTy).Contents (Elt F)) : (⟨S2x16x256, .f32⟩ : BufTy).Contents (Elt F) :=
  let cst_1 : (⟨S_, .f32⟩ : BufTy).Contents (Elt F) := (constant S_ .f32 0x3F800000#32)
  let v10 : (⟨S2x16x256, .f32⟩ : BufTy).Contents (Elt F) := (broadcastInDim S2x16x256 ![] bcast_S_S2x16x256) cst_1
  let v11 : (⟨S2x16x256, .f32⟩ : BufTy).Contents (Elt F) := subf v10 v3
  let cst_2 : (⟨S_, .f32⟩ : BufTy).Contents (Elt F) := (constant S_ .f32 0x49742400#32)
  let v12 : (⟨S2x16x256, .f32⟩ : BufTy).Contents (Elt F) := (broadcastInDim S2x16x256 ![] bcast_S_S2x16x256) cst_2
  let v13 : (⟨S2x16x256, .f32⟩ : BufTy).Contents (Elt F) := mulf v11 v12
  let v14 : (⟨S2x16x256, .f32⟩ : BufTy).Contents (Elt F) := subf arg1 v13
  let cst_3 : (⟨S_, .f32⟩ : BufTy).Contents (Elt F) := (constant S_ .f32 0xFF800000#32)
  let v15 : (⟨S2x256, .f32⟩ : BufTy).Contents (Elt F) := (fun x v => Host.reduce FloatOps.maximumf x v reducesTo_S2x16x256_S2x256_d1 h_S_) v14 cst_3
  let v16 : (⟨S2x1x256, .f32⟩ : BufTy).Contents (Elt F) := (broadcastInDim S2x1x256 ![0, 2] bcast_S2x256_S2x1x256_0_2) v15
  let v17 : (⟨S2x16x256, .f32⟩ : BufTy).Contents (Elt F) := (broadcastInDim S2x16x256 ![0, 1, 2] bcast_S2x1x256_S2x16x256_0_1_2) v16
  let v18 : (⟨S2x16x256, .i1⟩ : BufTy).Contents (Elt F) := (cmpf .oge) v14 v17
  let v19 : (⟨S2x16x256, .f32⟩ : BufTy).Contents (Elt F) := (uitofp .f32) v18
  let v20 : (⟨S2x16x256, .f32⟩ : BufTy).Contents (Elt F) := mulf v19 v3
  let cst_4 : (⟨S_, .f32⟩ : BufTy).Contents (Elt F) := (constant S_ .f32 0x00000000#32)
  let v21 : (⟨S2x256, .f32⟩ : BufTy).Contents (Elt F) := (fun x v => Host.reduceAdd x v reducesTo_S2x16x256_S2x256_d1 h_S_) v20 cst_4
  let cst_5 : (⟨S_, .f32⟩ : BufTy).Contents (Elt F) := (constant S_ .f32 0x3F000000#32)
  let v22 : (⟨S2x256, .f32⟩ : BufTy).Contents (Elt F) := (broadcastInDim S2x256 ![] bcast_S_S2x256) cst_5
  let v23 : (⟨S2x256, .i1⟩ : BufTy).Contents (Elt F) := (cmpf .ogt) v21 v22
  let v24 : (⟨S2x256, .f32⟩ : BufTy).Contents (Elt F) := (uitofp .f32) v23
  let v25 : (⟨S2x1x256, .f32⟩ : BufTy).Contents (Elt F) := (broadcastInDim S2x1x256 ![0, 2] bcast_S2x256_S2x1x256_0_2) v24
  let cst_6 : (⟨S_, .f32⟩ : BufTy).Contents (Elt F) := (constant S_ .f32 0x49742400#32)
  let v26 : (⟨S2x1x256, .f32⟩ : BufTy).Contents (Elt F) := (broadcastInDim S2x1x256 ![] bcast_S_S2x1x256) cst_6
  let v27 : (⟨S2x1x256, .f32⟩ : BufTy).Contents (Elt F) := mulf v25 v26
  let v28 : (⟨S2x16x256, .f32⟩ : BufTy).Contents (Elt F) := (broadcastInDim S2x16x256 ![0, 1, 2] bcast_S2x1x256_S2x16x256_0_1_2) v27
  let v29 : (⟨S2x16x256, .f32⟩ : BufTy).Contents (Elt F) := subf arg1 v28
  let cst_7 : (⟨S_, .f32⟩ : BufTy).Contents (Elt F) := (constant S_ .f32 0x00000000#32)
  let v30 : (⟨S2x256, .f32⟩ : BufTy).Contents (Elt F) := (fun x v => Host.reduceAdd x v reducesTo_S2x16x256_S2x256_d1 h_S_) v20 cst_7
  let cst_8 : (⟨S_, .f32⟩ : BufTy).Contents (Elt F) := (constant S_ .f32 0x3FC00000#32)
  let v31 : (⟨S2x256, .f32⟩ : BufTy).Contents (Elt F) := (broadcastInDim S2x256 ![] bcast_S_S2x256) cst_8
  let v32 : (⟨S2x256, .i1⟩ : BufTy).Contents (Elt F) := (cmpf .ogt) v30 v31
  let v33 : (⟨S2x256, .f32⟩ : BufTy).Contents (Elt F) := (uitofp .f32) v32
  let v34 : (⟨S2x1x256, .f32⟩ : BufTy).Contents (Elt F) := (broadcastInDim S2x1x256 ![0, 2] bcast_S2x256_S2x1x256_0_2) v33
  let cst_9 : (⟨S_, .f32⟩ : BufTy).Contents (Elt F) := (constant S_ .f32 0x3F800000#32)
  let v35 : (⟨S2x1x256, .f32⟩ : BufTy).Contents (Elt F) := (broadcastInDim S2x1x256 ![] bcast_S_S2x1x256) cst_9
  let v36 : (⟨S2x1x256, .f32⟩ : BufTy).Contents (Elt F) := subf v35 v34
  let v37 : (⟨S2x16x256, .f32⟩ : BufTy).Contents (Elt F) := (broadcastInDim S2x16x256 ![0, 1, 2] bcast_S2x1x256_S2x16x256_0_1_2) v36
  let v38 : (⟨S2x16x256, .f32⟩ : BufTy).Contents (Elt F) := mulf v20 v37
  let v39 : (⟨S2x16x256, .f32⟩ : BufTy).Contents (Elt F) := mulf v38 arg1
  let cst_10 : (⟨S_, .f32⟩ : BufTy).Contents (Elt F) := (constant S_ .f32 0x3F800000#32)
  let v40 : (⟨S2x16x256, .f32⟩ : BufTy).Contents (Elt F) := (broadcastInDim S2x16x256 ![] bcast_S_S2x16x256) cst_10
  let v41 : (⟨S2x16x256, .f32⟩ : BufTy).Contents (Elt F) := subf v40 v38
  let v42 : (⟨S2x16x256, .f32⟩ : BufTy).Contents (Elt F) := mulf v41 v29
  let v43 : (⟨S2x16x256, .f32⟩ : BufTy).Contents (Elt F) := addf v39 v42
  v43

/-- What they leave. -/
theorem push_val (arg1 : TRef sig ⟨S2x16x256, .f32⟩) (v3 : TRef sig ⟨S2x16x256, .f32⟩) (φ : fn_one_hot_step.Bufs) {W : Valuation τ sig (Elt F)} (h : Eqs (pushOps arg1 v3 φ) W) :
    get W φ.v43 = pushF (get W arg1) (get W v3) := by
  have e0 := h.head.nullary
  replace h := h.tail
  have e1 := h.head.unary
  replace h := h.tail
  have e2 := h.head.binary
  replace h := h.tail
  have e3 := h.head.nullary
  replace h := h.tail
  have e4 := h.head.unary
  replace h := h.tail
  have e5 := h.head.binary
  replace h := h.tail
  have e6 := h.head.binary
  replace h := h.tail
  have e7 := h.head.nullary
  replace h := h.tail
  have e8 := h.head.binary
  replace h := h.tail
  have e9 := h.head.unary
  replace h := h.tail
  have e10 := h.head.unary
  replace h := h.tail
  have e11 := h.head.binary
  replace h := h.tail
  have e12 := h.head.unary
  replace h := h.tail
  have e13 := h.head.binary
  replace h := h.tail
  have e14 := h.head.nullary
  replace h := h.tail
  have e15 := h.head.binary
  replace h := h.tail
  have e16 := h.head.nullary
  replace h := h.tail
  have e17 := h.head.unary
  replace h := h.tail
  have e18 := h.head.binary
  replace h := h.tail
  have e19 := h.head.unary
  replace h := h.tail
  have e20 := h.head.unary
  replace h := h.tail
  have e21 := h.head.nullary
  replace h := h.tail
  have e22 := h.head.unary
  replace h := h.tail
  have e23 := h.head.binary
  replace h := h.tail
  have e24 := h.head.unary
  replace h := h.tail
  have e25 := h.head.binary
  replace h := h.tail
  have e26 := h.head.nullary
  replace h := h.tail
  have e27 := h.head.binary
  replace h := h.tail
  have e28 := h.head.nullary
  replace h := h.tail
  have e29 := h.head.unary
  replace h := h.tail
  have e30 := h.head.binary
  replace h := h.tail
  have e31 := h.head.unary
  replace h := h.tail
  have e32 := h.head.unary
  replace h := h.tail
  have e33 := h.head.nullary
  replace h := h.tail
  have e34 := h.head.unary
  replace h := h.tail
  have e35 := h.head.binary
  replace h := h.tail
  have e36 := h.head.unary
  replace h := h.tail
  have e37 := h.head.binary
  replace h := h.tail
  have e38 := h.head.binary
  replace h := h.tail
  have e39 := h.head.nullary
  replace h := h.tail
  have e40 := h.head.unary
  replace h := h.tail
  have e41 := h.head.binary
  replace h := h.tail
  have e42 := h.head.binary
  replace h := h.tail
  have e43 := h.head.binary
  rw [e43, e42, e41, e40, e39, e38, e37, e36, e35, e34, e33, e32, e31, e30, e29, e28, e27, e26, e25, e24, e23, e22, e21, e20, e19, e18, e17, e16, e15, e14, e13, e12, e11, e10, e9, e8, e7, e6, e5, e4, e3, e2, e1, e0]
  rfl

/-- `a` while `p` holds, `b` otherwise. -/
def whereF (p : (⟨S_, .i1⟩ : BufTy).Contents (Elt F)) (a b : (⟨S2x16x256, .f32⟩ : BufTy).Contents (Elt F)) : (⟨S2x16x256, .f32⟩ : BufTy).Contents (Elt F) :=
  select (broadcastInDim S2x16x256 ![] bcast_S_S2x16x256 p) a b

end Cert.ReferenceIdeal.Line

end
-- ==== Proof.Reference.Program.lean ====
/-
  The reference's program as four straight lines with its three counted loops between them, each line's buffers in
  increasing order.
-/
module

public import proofs.«01_k».proof.Proof.Reference.Ops

@[expose] public section

set_option maxRecDepth 65536

noncomputable section

namespace Cert.ReferenceIdeal.Line

open Idealize.ShloMosaic Idealize.SL.Sem Cert.ReferenceIdeal Cert.ReferenceIdeal.Facts₀
open Idealize.ShloMosaic.StableHlo (TRef after nary seq)

variable {F : FTy → Type} [FloatOps F]

/-! ## The functions' operations -/

/-- The attention's operations. -/
def gatOps (a0 : TRef sig ⟨S2x272x256, .f32⟩) (a1 : TRef sig ⟨S256x128, .f32⟩) (a2 : TRef sig ⟨S128, .f32⟩) (a3 : TRef sig ⟨S256x128, .f32⟩)
    (a4 : TRef sig ⟨S128, .f32⟩) (a5 : TRef sig ⟨S256x128, .f32⟩) (a6 : TRef sig ⟨S128, .f32⟩) (a7 : TRef sig ⟨S128x128, .f32⟩) (a8 : TRef sig ⟨S128, .f32⟩)
    (φ : fn_gat.Bufs) : List (HloOp τ sig (Elt F)) :=
  gatQOps a0 a1 a2 φ ++ (gatKOps a0 a3 a4 φ ++ (gatVOps a0 a5 a6 φ ++ (gatSOps φ.v5 φ.v11 φ ++ (gatEOps φ.v19 φ ++ gatOOps φ.v30 φ.v17 a7 a8 φ))))

/-- One clustering step's operations. -/
def kmeanOps (a0 : TRef sig ⟨S2x256x384, .f32⟩) (a1 : TRef sig ⟨S2x16x384, .f32⟩) (a2 : TRef sig ⟨S2x256x16, .f32⟩) (a3 : TRef sig ⟨S2x256x256, .f32⟩)
    (φ : fn_kmean_step.Bufs) : List (HloOp τ sig (Elt F)) :=
  lowOps a2 a3 φ ++ (logitOps a2 φ.v8 φ ++ (softOps φ.v17 φ ++ (centOps φ.v28 a0 a1 φ ++ sqOps a0 φ.v34 φ.call0)))

/-- The later steps' records as the first's. -/
def up (φ : fn_kmean_step_1.Bufs) : fn_kmean_step.Bufs := { v0 := φ.v0, v1 := φ.v1, v2 := φ.v2, cst := φ.cst, v3 := φ.v3, v4 := φ.v4, cst_0 := φ.cst_0, v5 := φ.v5, v6 := φ.v6, v7 := φ.v7, cst_1 := φ.cst_1, v8 := φ.v8, v9 := φ.v9, v10 := φ.v10, v11 := φ.v11, v12 := φ.v12, cst_2 := φ.cst_2, v13 := φ.v13, v14 := φ.v14, cst_3 := φ.cst_3, v15 := φ.v15, v16 := φ.v16, v17 := φ.v17, cst_4 := φ.cst_4, v18 := φ.v18, cst_5 := φ.cst_5, v19 := φ.v19, v20 := φ.v20, v21 := φ.v21, v22 := φ.v22, v23 := φ.v23, v24 := φ.v24, cst_6 := φ.cst_6, v25 := φ.v25, v26 := φ.v26, v27 := φ.v27, v28 := φ.v28, v29 := φ.v29, cst_7 := φ.cst_7, v30 := φ.v30, v31 := φ.v31, cst_8 := φ.cst_8, v32 := φ.v32, v33 := φ.v33, v34 := φ.v34, call0 := φ.call0 }

/-- One assignment step's operations. -/
def stepOps (a1 a2 : TRef sig ⟨S2x16x256, .f32⟩) (a3 : TRef sig ⟨S_, .i1⟩) (φ : fn_one_hot_step.Bufs) : List (HloOp τ sig (Elt F)) :=
  maskOps a1 φ ++ (TRef.ternary a3 a2 φ.v3 φ.call0.v0 whereF :: (doneOps φ.v3 φ ++ (TRef.binary a3 φ.v8 φ.v9 ori :: (pushOps a1 φ.v3 φ
    ++ [TRef.ternary φ.v9 a1 φ.v43 φ.call1.v0 whereF]))))

/-- The loop's condition. -/
def condOps (φ : fn_to_one_hot.Bufs) : List (HloOp τ sig (Elt F)) :=
  [TRef.nullary φ.while0c_c_6 (constantI S_ 32 11#32), TRef.binary φ.v2_0 φ.while0c_c_6 φ.while0c_v4 (cmpi .slt)]

/-- The loop's body before it writes the carried buffers. -/
def iterOps (φ : fn_to_one_hot.Bufs) : List (HloOp τ sig (Elt F)) :=
  TRef.nullary φ.while0b_c_6 (constantI S_ 32 1#32) :: TRef.binary φ.v2_1 φ.while0b_c_6 φ.while0b_v4 addi ::
    (stepOps φ.v2_2 φ.v2_3 φ.v2_4 φ.while0b_call0 ++
      [TRef.nullary φ.while0b_c_7 (constantI S_ 32 1#32), TRef.binary φ.v2_0 φ.while0b_c_7 φ.while0b_v6 addi])

/-- The copies into the carried buffers. -/
def copyOps (φ : fn_to_one_hot.Bufs) : List (HloOp τ sig (Elt F)) :=
  [TRef.unary φ.while0b_v6 φ.v2_0 id, TRef.unary φ.while0b_v4 φ.v2_1 id, TRef.unary φ.while0b_call0.call1.v0 φ.v2_2 id,
   TRef.unary φ.while0b_call0.call0.v0 φ.v2_3 id, TRef.unary φ.while0b_call0.v9 φ.v2_4 id]

/-- What goes before the loop. -/
def openOps (a : TRef sig ⟨S2x256x16, .f32⟩) (φ : fn_to_one_hot.Bufs) : List (HloOp τ sig (Elt F)) :=
  [TRef.unary a φ.v0 (transpose S2x16x256 [0, 2, 1] · transposes_S2x256x16_S2x16x256_0_2_1),
   TRef.nullary φ.cst (constant S_ .f32 0x00000000#32),
   TRef.unary φ.cst φ.v1 (broadcastInDim S2x16x256 ![] bcast_S_S2x16x256),
   TRef.nullary φ.c (constantI S_ 32 0#32), TRef.nullary φ.c_0 (constantI S_ 1 0#1), TRef.nullary φ.c_1 (constantI S_ 32 0#32),
   TRef.unary φ.c_1 φ.v2_0 id, TRef.unary φ.c φ.v2_1 id, TRef.unary φ.v0 φ.v2_2 id, TRef.unary φ.v1 φ.v2_3 id, TRef.unary φ.c_0 φ.v2_4 id]

/-- What goes after the loop. -/
def closeOps (φ : fn_to_one_hot.Bufs) : List (HloOp τ sig (Elt F)) :=
  [TRef.unary φ.v2_3 φ.v3 (transpose S2x256x16 [0, 2, 1] · transposes_S2x16x256_S2x256x16_0_2_1)]

/-! ## The whole program's lines -/

/-- The nodes. -/
def headOps : List (HloOp τ sig (Elt F)) :=
  [TRef.binary (.of main_arg0 : TRef sig ⟨S2x256x256, .f32⟩) (.of main_arg1 : TRef sig ⟨S2x16x256, .f32⟩) (.of main_v0 : TRef sig ⟨S2x272x256, .f32⟩) (fun a b => concatenate S2x272x256 1 [⟨S2x256x256, a⟩, ⟨S2x16x256, b⟩] concatenates_S2x256x256_S2x16x256_S2x272x256_d1)]

/-- The attended nodes, and their two parts. -/
def catOps : List (HloOp τ sig (Elt F)) :=
  [TRef.binary (.of main_v1 : TRef sig ⟨S2x272x128, .f32⟩) (.of main_v0 : TRef sig ⟨S2x272x256, .f32⟩) (.of main_v2 : TRef sig ⟨S2x272x384, .f32⟩) (fun a b => concatenate S2x272x384 2 [⟨S2x272x128, a⟩, ⟨S2x272x256, b⟩] concatenates_S2x272x128_S2x272x256_S2x272x384_d2),
   TRef.unary (.of main_v2 : TRef sig ⟨S2x272x384, .f32⟩) (.of main_v3 : TRef sig ⟨S2x16x384, .f32⟩) (extractStridedSlice S2x16x384 ![0, 256, 0] · slices_S2x272x384_S2x16x384_0_256_0),
   TRef.unary (.of main_v2 : TRef sig ⟨S2x272x384, .f32⟩) (.of main_v4 : TRef sig ⟨S2x256x384, .f32⟩) (extractStridedSlice S2x256x384 ![0, 0, 0] · slices_S2x272x384_S2x256x384_0_0_0)]

/-- The diagonal, and the graph. -/
def eyeOps : List (HloOp τ sig (Elt F)) :=
  [TRef.nullary (.of main_v6 : TRef sig ⟨S256x256, .i32⟩) (iotaInDim S256x256 32 0),
   TRef.nullary (.of main_v7 : TRef sig ⟨S256x256, .i32⟩) (iotaInDim S256x256 32 1),
   TRef.nullary (.of main_c : TRef sig ⟨S_, .i32⟩) (constantI S_ 32 0#32),
   TRef.unary (.of main_c : TRef sig ⟨S_, .i32⟩) (.of main_v8 : TRef sig ⟨S256x256, .i32⟩) (broadcastInDim S256x256 ![] bcast_S_S256x256),
   TRef.binary (.of main_v6 : TRef sig ⟨S256x256, .i32⟩) (.of main_v8 : TRef sig ⟨S256x256, .i32⟩) (.of main_v9 : TRef sig ⟨S256x256, .i32⟩) (addi),
   TRef.binary (.of main_v9 : TRef sig ⟨S256x256, .i32⟩) (.of main_v7 : TRef sig ⟨S256x256, .i32⟩) (.of main_v10 : TRef sig ⟨S256x256, .i1⟩) (cmpi .eq),
   TRef.unary (.of main_v10 : TRef sig ⟨S256x256, .i1⟩) (.of main_v11 : TRef sig ⟨S256x256, .f32⟩) (uitofp .f32),
   TRef.unary (.of main_v11 : TRef sig ⟨S256x256, .f32⟩) (.of main_v12 : TRef sig ⟨S1x256x256, .f32⟩) (broadcastInDim S1x256x256 ![1, 2] bcast_S256x256_S1x256x256_1_2),
   TRef.nullary (.of main_cst : TRef sig ⟨S_, .f32⟩) (constant S_ .f32 0xC9742400#32),
   TRef.unary (.of main_cst : TRef sig ⟨S_, .f32⟩) (.of main_v13 : TRef sig ⟨S1x256x256, .f32⟩) (broadcastInDim S1x256x256 ![] bcast_S_S1x256x256),
   TRef.binary (.of main_v12 : TRef sig ⟨S1x256x256, .f32⟩) (.of main_v13 : TRef sig ⟨S1x256x256, .f32⟩) (.of main_v14 : TRef sig ⟨S1x256x256, .f32⟩) (mulf),
   TRef.unary (.of main_v14 : TRef sig ⟨S1x256x256, .f32⟩) (.of main_v15 : TRef sig ⟨S2x256x256, .f32⟩) (broadcastInDim S2x256x256 ![0, 1, 2] bcast_S1x256x256_S2x256x256_0_1_2),
   TRef.binary (.of main_v5 : TRef sig ⟨S2x256x256, .f32⟩) (.of main_v15 : TRef sig ⟨S2x256x256, .f32⟩) (.of main_v16 : TRef sig ⟨S2x256x256, .f32⟩) (addf)]

/-- The mean of the four predictions. -/
def tailOps : List (HloOp τ sig (Elt F)) :=
  [TRef.unary (.of main_v17 : TRef sig ⟨S2x256x16, .f32⟩) (.of main_v24 : TRef sig ⟨S1x2x256x16, .f32⟩) (broadcastInDim S1x2x256x16 ![1, 2, 3] bcast_S2x256x16_S1x2x256x16_1_2_3),
   TRef.unary (.of main_v19 : TRef sig ⟨S2x256x16, .f32⟩) (.of main_v25 : TRef sig ⟨S1x2x256x16, .f32⟩) (broadcastInDim S1x2x256x16 ![1, 2, 3] bcast_S2x256x16_S1x2x256x16_1_2_3),
   TRef.unary (.of main_v21 : TRef sig ⟨S2x256x16, .f32⟩) (.of main_v26 : TRef sig ⟨S1x2x256x16, .f32⟩) (broadcastInDim S1x2x256x16 ![1, 2, 3] bcast_S2x256x16_S1x2x256x16_1_2_3),
   TRef.unary (.of main_v23 : TRef sig ⟨S2x256x16, .f32⟩) (.of main_v27 : TRef sig ⟨S1x2x256x16, .f32⟩) (broadcastInDim S1x2x256x16 ![1, 2, 3] bcast_S2x256x16_S1x2x256x16_1_2_3),
   nary ![main_v24, main_v25, main_v26, main_v27] main_v28 (fun u => (concatenate S4x2x256x16 0 [⟨S1x2x256x16, (u 0 : (⟨S1x2x256x16, .f32⟩ : BufTy).Contents (Elt F))⟩, ⟨S1x2x256x16, (u 1 : (⟨S1x2x256x16, .f32⟩ : BufTy).Contents (Elt F))⟩, ⟨S1x2x256x16, (u 2 : (⟨S1x2x256x16, .f32⟩ : BufTy).Contents (Elt F))⟩, ⟨S1x2x256x16, (u 3 : (⟨S1x2x256x16, .f32⟩ : BufTy).Contents (Elt F))⟩] concatenates_S1x2x256x16_S1x2x256x16_S1x2x256x16_S1x2x256x16_S4x2x256x16_d0 : (⟨S4x2x256x16, .f32⟩ : BufTy).Contents (Elt F))),
   TRef.nullary (.of main_cst_0 : TRef sig ⟨S_, .f32⟩) (constant S_ .f32 0x00000000#32),
   TRef.binary (.of main_v28 : TRef sig ⟨S4x2x256x16, .f32⟩) (.of main_cst_0 : TRef sig ⟨S_, .f32⟩) (.of main_v29 : TRef sig ⟨S2x256x16, .f32⟩) (fun x v => Host.reduceAdd x v reducesTo_S4x2x256x16_S2x256x16_d0 h_S_),
   TRef.nullary (.of main_cst_1 : TRef sig ⟨S_, .f32⟩) (constant S_ .f32 0x40800000#32),
   TRef.unary (.of main_cst_1 : TRef sig ⟨S_, .f32⟩) (.of main_v30 : TRef sig ⟨S2x256x16, .f32⟩) (broadcastInDim S2x256x16 ![] bcast_S_S2x256x16),
   TRef.binary (.of main_v29 : TRef sig ⟨S2x256x16, .f32⟩) (.of main_v30 : TRef sig ⟨S2x256x16, .f32⟩) (.of main_v31 : TRef sig ⟨S2x256x16, .f32⟩) (Host.divf)]

/-- The line before the first loop. -/
def line0 : List (HloOp τ sig (Elt F)) :=
  headOps ++ (gatOps (.of main_v0) (.of main_arg3) (.of main_arg4) (.of main_arg5) (.of main_arg6) (.of main_arg7) (.of main_arg8) (.of main_arg9) (.of main_arg10) main_call0
    ++ (catOps ++ (sqrtOps (.of main_v4) (.of main_v4) main_call1 ++ (eyeOps
    ++ (kmeanOps (.of main_v4) (.of main_v3) (.of main_arg2) (.of main_v16) main_call2 ++ openOps (.of main_v17) main_call3)))))

/-- The lines after it. -/
def line1 : List (HloOp τ sig (Elt F)) :=
  closeOps main_call3 ++ (kmeanOps (.of main_v4) (.of main_v3) (.of main_v18) (.of main_v16) (up main_call4) ++ openOps (.of main_v19) main_call5)
@[inherit_doc line1]
def line2 : List (HloOp τ sig (Elt F)) :=
  closeOps main_call5 ++ (kmeanOps (.of main_v4) (.of main_v3) (.of main_v20) (.of main_v16) (up main_call6) ++ openOps (.of main_v21) main_call7)
@[inherit_doc line1]
def line3 : List (HloOp τ sig (Elt F)) :=
  closeOps main_call7 ++ (kmeanOps (.of main_v4) (.of main_v3) (.of main_v22) (.of main_v16) (up main_call8) ++ tailOps)

/-- The program is the lines with the loops between. -/
theorem main_eq (c : Dev nD) : main (F := F) c = Pipeline.chain [seq line0, HostLoop.enter 0, seq line1, HostLoop.enter 1, seq line2, HostLoop.enter 2, seq line3] := by
  chain_rfl

/-- The loop's body is its operations. -/
theorem body_eq (a : TRef sig ⟨S2x256x16, .f32⟩) (φ : fn_to_one_hot.Bufs) :
    fn_to_one_hot.while0_body (F := F) a φ = Pipeline.chain ([iterOps φ ++ copyOps φ].map fun ops => (seq ops : Prog _ PUnit)) := by
  chain_rfl

end Cert.ReferenceIdeal.Line

end
-- ==== Proof.Reference.Order.lean ====
/-
  Every line of the reference's program writes its buffers in increasing order.
-/
module

public import proofs.«01_k».proof.Proof.Reference.Program

@[expose] public section

set_option maxRecDepth 65536
set_option maxHeartbeats 4000000

noncomputable section

namespace Cert.ReferenceIdeal.Line

open Idealize.ShloMosaic Idealize.SL.Sem Cert.ReferenceIdeal Cert.ReferenceIdeal.Facts₀
open Idealize.ShloMosaic.StableHlo (TRef after nary seq)

variable {F : FTy → Type} [FloatOps F]

/-- What a loop's body writes before the carried buffers comes after them, and they lie in order. -/
def Laid (F : FTy → Type) [FloatOps F] (φ : fn_to_one_hot.Bufs) : Prop :=
  Asc (F := F) (rk φ.v2_4.ref + 1) (condOps φ ++ iterOps φ)
    ∧ (rk φ.v2_0.ref < rk φ.v2_1.ref ∧ rk φ.v2_1.ref < rk φ.v2_2.ref ∧ rk φ.v2_2.ref < rk φ.v2_3.ref ∧ rk φ.v2_3.ref < rk φ.v2_4.ref)
    ∧ rk φ.v2_4.ref < rk φ.while0c_c_6.ref ∧ rk φ.v2_4.ref < rk φ.while0b_v4.ref ∧ rk φ.v2_4.ref < rk φ.while0b_v6.ref
    ∧ rk φ.v2_4.ref < rk φ.while0b_call0.call1.v0.ref ∧ rk φ.v2_4.ref < rk φ.while0b_call0.call0.v0.ref ∧ rk φ.v2_4.ref < rk φ.while0b_call0.v9.ref

/-- All the lines are increasing, and the three loops laid out. -/
theorem order : Asc (F := F) 11 line0 ∧ Asc (F := F) (rk main_v18) line1 ∧ Asc (F := F) (rk main_v20) line2 ∧ Asc (F := F) (rk main_v22) line3
    ∧ Laid F main_call3 ∧ Laid F main_call5 ∧ Laid F main_call7 := by
  refine ⟨?_, ?_, ?_, ?_, ⟨?_, by decide⟩, ⟨?_, by decide⟩, ⟨?_, by decide⟩⟩ <;>
  · simp only [line0, line1, line2, line3, headOps, gatOps, gatQOps, gatKOps, gatVOps, gatSOps, gatEOps, gatOOps, catOps, sqrtOps, eyeOps, kmeanOps, lowOps,
      logitOps, softOps, centOps, sqOps, openOps, closeOps, tailOps, condOps, iterOps, stepOps, maskOps, doneOps, pushOps, List.cons_append, List.nil_append]
    repeat with_reducible first
      | refine Asc.unary (by decide) (by decide) ?_
      | refine Asc.binary (by decide) (by decide) (by decide) ?_
      | refine Asc.nullary (by decide) ?_
      | refine Asc.reshape (by decide) (by decide) ?_
      | refine Asc.ternary (by decide) (by decide) (by decide) (by decide) ?_
      | refine Asc.nary (by decide) (by decide) ?_
    exact trivial

end Cert.ReferenceIdeal.Line

end
-- ==== Proof.Reference.Loop.lean ====
/-
  What the counted loop of the reference leaves: its three carried tensors are the eleven-fold iterate of one step.
-/
module

public import proofs.«01_k».proof.Proof.Reference.Order

@[expose] public section

set_option maxRecDepth 65536

noncomputable section

namespace Cert.ReferenceIdeal.Line

open Idealize.ShloMosaic Idealize.SL.Sem Cert.ReferenceIdeal Cert.ReferenceIdeal.Facts₀
open Idealize.ShloMosaic.StableHlo (TRef after nary seq atTrip afterL)

variable {F : FTy → Type} [FloatOps F]

/-- Scores, the mask kept, and whether it is kept for good. -/
abbrev St (F : FTy → Type) : Type :=
  (⟨S2x16x256, .f32⟩ : BufTy).Contents (Elt F) × (⟨S2x16x256, .f32⟩ : BufTy).Contents (Elt F) × (⟨S_, .i1⟩ : BufTy).Contents (Elt F)

/-- One step of the assignment. -/
def stepF (s : St F) : St F :=
  (whereF (ori s.2.2 (doneF (maskF s.1))) s.1 (pushF s.1 (maskF s.1)), whereF s.2.2 s.2.1 (maskF s.1), ori s.2.2 (doneF (maskF s.1)))

/-- The step's operations compute it. -/
theorem step_val (a1 a2 : TRef sig ⟨S2x16x256, .f32⟩) (a3 : TRef sig ⟨S_, .i1⟩) (φ : fn_one_hot_step.Bufs) {W : Valuation τ sig (Elt F)}
    (h : Eqs (stepOps a1 a2 a3 φ) W) : (get W φ.call1.v0, get W φ.call0.v0, get W φ.v9) = stepF (get W a1, get W a2, get W a3) := by
  unfold stepOps at h
  have hm := mask_val a1 φ h.left
  have h1 := h.right
  have hk := h1.head.ternary
  have h2 := h1.tail
  have hd := done_val φ.v3 φ h2.left
  have h3 := h2.right
  have ho := h3.head.binary
  have hp := push_val a1 φ.v3 φ h3.tail.left
  have hn := h3.tail.right.head.ternary
  unfold stepF
  rw [hn, hk, ho, hp, hd, hm]

/-- The carried tensors in some contents. -/
def carried (φ : fn_to_one_hot.Bufs) (W : Valuation τ sig (Elt F)) : St F := (get W φ.v2_2, get W φ.v2_3, get W φ.v2_4)

section Copies

variable {T Tx Ty : BufTy} {V : Valuation τ sig (Elt F)}

/-- An operation leaves the other references as they were. -/
theorem get_ne {x : TRef sig Tx} {y : TRef sig Ty} {f : Tx.Contents (Elt F) → Ty.Contents (Elt F)} {t : TRef sig T} (h : rk t.ref ≠ rk y.ref) :
    get ((TRef.unary x y f).result V) t = get V t := by
  unfold get
  rw [HloOp.result_of_not_mem]
  intro hb
  exact h (congrArg rank (Finset.mem_singleton.mp hb))

/-- After a copy the target holds what the source held. -/
theorem get_copy {x y : TRef sig T} : get ((TRef.unary x y id).result V) y = get V x := by
  unfold get
  rw [StableHlo.unary_result, StableHlo.TRef.ofBuf_toBuf, id]

/-- The copies carry the step's results over. -/
theorem copy_val {φ : fn_to_one_hot.Bufs} (hφ : Laid F φ) :
    get (after (copyOps φ) V) φ.v2_0 = get V φ.while0b_v6
      ∧ carried φ (after (copyOps φ) V) = (get V φ.while0b_call0.call1.v0, get V φ.while0b_call0.call0.v0, get V φ.while0b_call0.v9)
      ∧ ∀ b, rank b < rk φ.v2_0.ref → after (copyOps φ) V b = V b := by
  obtain ⟨-, ⟨h01, h12, h23, h34⟩, -, h5, h6, h7, h8, h9⟩ := hφ
  unfold copyOps carried
  simp only [StableHlo.after_cons, StableHlo.after_nil]
  refine ⟨?_, ?_, fun b hb => ?_⟩
  · rw [get_ne (by omega), get_ne (by omega), get_ne (by omega), get_ne (by omega), get_copy]
  · refine Prod.ext ?_ (Prod.ext ?_ ?_)
    · show get _ φ.v2_2 = _
      rw [get_ne (by omega), get_ne (by omega), get_copy, get_ne (by omega), get_ne (by omega)]
    · show get _ φ.v2_3 = _
      rw [get_ne (by omega), get_copy, get_ne (by omega), get_ne (by omega), get_ne (by omega)]
    · show get _ φ.v2_4 = _
      rw [get_copy, get_ne (by omega), get_ne (by omega), get_ne (by omega), get_ne (by omega)]
  · have hn : ∀ {Tx Ty : BufTy} (x : TRef sig Tx) (y : TRef sig Ty) (f : Tx.Contents (Elt F) → Ty.Contents (Elt F)) (V' : Valuation τ sig (Elt F)),
        rank b ≠ rk y.ref → (TRef.unary x y f).result V' b = V' b := fun x y f V' h => HloOp.result_of_not_mem _ _ fun hm =>
      h (congrArg rank (Finset.mem_singleton.mp hm))
    rw [hn _ _ _ _ (by omega), hn _ _ _ _ (by omega), hn _ _ _ _ (by omega), hn _ _ _ _ (by omega), hn _ _ _ _ (by omega)]

end Copies

/-- The counter, the carried tensors and everything below them before the `k`-th condition. -/
theorem trip {φ : fn_to_one_hot.Bufs} (hφ : Laid F φ) (W₀ : Dev nD → Valuation τ sig (Elt F)) (c : Dev nD) (h0 : get (W₀ c) φ.v2_0 = fun _ => (0#32 : BitVec 32)) :
    ∀ k : ℕ, get (atTrip (condOps φ) [iterOps φ ++ copyOps φ] W₀ k c) φ.v2_0 = (fun _ => BitVec.ofNat 32 k)
      ∧ carried φ (atTrip (condOps φ) [iterOps φ ++ copyOps φ] W₀ k c) = stepF^[k] (carried φ (W₀ c))
      ∧ ∀ b, rank b < rk φ.v2_0.ref → atTrip (condOps φ) [iterOps φ ++ copyOps φ] W₀ k c b = W₀ c b
  | 0 => ⟨h0, rfl, fun _ _ => rfl⟩
  | k + 1 => by
    obtain ⟨i1, i2, i3⟩ := trip hφ W₀ c h0 k
    rw [StableHlo.atTrip_succ]
    generalize atTrip (condOps φ) [iterOps φ ++ copyOps φ] W₀ k c = V at i1 i2 i3 ⊢
    rw [StableHlo.afterL_cons, StableHlo.afterL_nil, StableHlo.after_append, ← StableHlo.after_append (condOps φ)]
    obtain ⟨c1, c2, c3⟩ := copy_val (V := after (condOps φ ++ iterOps φ) V) hφ
    have he := hφ.1.eqs V
    have hb : ∀ b, rank b ≤ rk φ.v2_4.ref → after (condOps φ ++ iterOps φ) V b = V b := fun b h => hφ.1.below V b (by omega)
    obtain ⟨-, ⟨h01, h12, h23, h34⟩, -⟩ := hφ
    generalize after (condOps φ ++ iterOps φ) V = W at c1 c2 c3 he hb ⊢
    have hr := he.right
    unfold iterOps at hr
    have hs := step_val _ _ _ _ hr.tail.tail.left
    have hc6 := hr.tail.tail.right.head.nullary
    have hv6 := hr.tail.tail.right.tail.head.binary
    have g : ∀ {T : BufTy} (t : TRef sig T), rk t.ref ≤ rk φ.v2_4.ref → get W t = get V t := fun t h => by
      unfold get; rw [hb _ h]
    refine ⟨?_, ?_, fun b h => ?_⟩
    · rw [c1, hv6, hc6, g _ (by omega), i1]
      funext i
      exact (BitVec.ofNat_add k 1).symm
    · rw [c2, hs, g _ (by omega), g _ (by omega), g _ (by omega), Function.iterate_succ_apply', ← i2]; rfl
    · rw [c3 b h, hb b (by omega), i3 b h]

/-- The contents the loop leaves: after eleven trips and the failing condition. -/
def loopOut (φ : fn_to_one_hot.Bufs) (W₀ : Dev nD → Valuation τ sig (Elt F)) (c : Dev nD) : Valuation τ sig (Elt F) :=
  after (condOps φ) (atTrip (condOps φ) [iterOps φ ++ copyOps φ] W₀ 11 c)

/-- An increasing line's first part is increasing. -/
theorem Asc.left : ∀ {l r : List (HloOp τ sig (Elt F))} {lo : ℕ}, Asc lo (l ++ r) → Asc lo l
  | [], _, _, _ => trivial
  | _ :: _, _, _, ⟨n, h1, h2, h3, h4, h5⟩ => ⟨n, h1, h2, h3, h4, Asc.left h5⟩

/-- What the loop leaves: the mask of the last step, and everything below the carried buffers untouched. -/
theorem loopOut_val {φ : fn_to_one_hot.Bufs} (hφ : Laid F φ) (W₀ : Dev nD → Valuation τ sig (Elt F)) (c : Dev nD) (h0 : get (W₀ c) φ.v2_0 = fun _ => (0#32 : BitVec 32)) :
    get (loopOut φ W₀ c) φ.v2_3 = (stepF^[11] (carried φ (W₀ c))).2.1 ∧ ∀ b, rank b < rk φ.v2_0.ref → loopOut φ W₀ c b = W₀ c b := by
  obtain ⟨-, i2, i3⟩ := trip hφ W₀ c h0 11
  have hb : ∀ b, rank b ≤ rk φ.v2_4.ref → loopOut φ W₀ c b = atTrip (condOps φ) [iterOps φ ++ copyOps φ] W₀ 11 c b := fun b h => hφ.1.left.below _ b (by omega)
  obtain ⟨-, ⟨h01, h12, h23, h34⟩, -⟩ := hφ
  refine ⟨?_, fun b h => by rw [hb b (by omega), i3 b h]⟩
  rw [← i2]
  unfold get carried
  rw [hb _ h34.le]

end Cert.ReferenceIdeal.Line

end
-- ==== Proof.Reference.Run.lean ====
/-
  The reference's run: it ends, its arguments unchanged, every counter at zero, and its result is the composition of the
  functions of its four lines and three loops.
-/
module

public import proofs.«01_k».proof.Proof.Reference.Loop
public import Idealize.ShloMosaic.Lib.Quiescent

@[expose] public section

set_option maxRecDepth 65536

noncomputable section

namespace Cert.ReferenceIdeal.Line

open Cert.ReferenceIdeal Cert.ReferenceIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (TRef after held seq atTrip segsOf loopSeg LoopCond Plain launchContents)
open Idealize.ShloMosaic.Pipeline (CSeg Ticket ucRefs sub_ucRefs)

variable {F : FTy → Type} [FloatOps F]

local notation "𝕄" => MT nD τ sig Unit (Elt F) ℕ (Option PUnit) ℕ

/-- There is no pipeline, so no choice to admit, no ticket, no level and no staging cell. -/
abbrev noAdm : (p : Fin 0) → (pcfgs (F := F) p).Adm := fun p => p.elim0
@[inherit_doc noAdm]
abbrev noTk : Fin 0 → Ticket (Ix := Unit) (Name := ℕ) (U := Option PUnit) (Lvl := ℕ) (nD := nD) (τ := τ) (pcfgs (F := F)) noAdm := fun j => j.elim0
@[inherit_doc noAdm]
abbrev noL : GSem nD τ sig → Finset Unit := fun _ => ∅
@[inherit_doc noAdm]
abbrev noLv : GSem nD τ sig → Unit → ℕ := fun _ _ => 0
@[inherit_doc noAdm]
theorem noCell : Function.Injective (Pipeline.cellOf (nD := nD) (τ := τ) (Pipeline.pin (pcfgs (F := F)) noAdm)) := fun k => k.1.elim0

/-- The core's debt, nothing, beside the buffers. -/
abbrev Debt (c : Dev nD) : sProp 𝕄 := iprop(∃ W, owes (c : Thread nD τ) (0 : CellTallies nD τ sig Unit) W)

/-- The comparison of the counter with eleven. -/
theorem counts (k : ℕ) (hk : k ≤ 11) : Iff (IntOp.cmpi .slt (BitVec.ofNat 32 k) 11#32 = 1#1) (k < 11) := by
  revert k; decide

set_option backward.isDefEq.respectTransparency.types false in
/-- The condition's run: one exactly while fewer than eleven trips have been made. -/
theorem cond_run {φ : fn_to_one_hot.Bufs} (hφ : Laid F φ) (a : TRef sig ⟨S2x256x16, .f32⟩) (W₀ : Dev nD → Valuation τ sig (Elt F))
    (h0 : ∀ c, get (W₀ c) φ.v2_0 = fun _ => (0#32 : BitVec 32)) :
    LoopCond (Ix := Unit) (Name := ℕ) (U := Option PUnit) (Lvl := ℕ) (pcfgs (F := F)) defs₀ Variants.none loops Debt (fn_to_one_hot.while0_cond a φ) (condOps φ) [iterOps φ ++ copyOps φ] W₀ 11 := fun k hk c bd => by
  have hctr := (trip hφ W₀ c (h0 c) k).1
  have hne : rk φ.v2_0.ref ≠ rk φ.while0c_c_6.ref := by have := hφ.2.1; have := hφ.2.2.1; omega
  generalize atTrip (condOps φ) [iterOps φ ++ copyOps φ] W₀ k c = V at hctr ⊢
  unfold fn_to_one_hot.while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    refine (iff_of_eq (congrArg (· = 1#1) (?_ : _ = IntOp.cmpi .slt (BitVec.ofNat 32 k) 11#32))).trans (counts k hk)
    refine (congrFun (congrArg (cast _) (HloOp.result_of_mem _ _ (Finset.mem_singleton_self _)).symm) _).trans ?_
    rw [StableHlo.binary_result]
    refine (congrFun (StableHlo.TRef.ofBuf_toBuf φ.while0c_v4 _) _).trans ?_
    rw [StableHlo.nullary_result, StableHlo.TRef.ofBuf_toBuf, HloOp.result_of_not_mem _ _ fun hm => hne (congrArg rank (Finset.mem_singleton.mp hm))]
    exact congrArg (fun x => IntOp.cmpi .slt x 11#32) (congrFun hctr HostLoop.idx0)
  isplitl [Hb]; · iexact Hb
  isplitl [Hh]; · unfold condOps; rw [StableHlo.after_cons, StableHlo.after_cons, StableHlo.after_nil]; iexact Hh
  iexact HR

/-- Tame copies. -/
theorem copy_tame (φ : fn_to_one_hot.Bufs) : ∀ op ∈ copyOps (F := F) φ, Tame op := by
  unfold copyOps
  simp only [List.forall_mem_cons]
  exact ⟨⟨StableHlo.unary_bufs_sub .., rfl⟩, ⟨StableHlo.unary_bufs_sub .., rfl⟩, ⟨StableHlo.unary_bufs_sub .., rfl⟩, ⟨StableHlo.unary_bufs_sub .., rfl⟩,
    ⟨StableHlo.unary_bufs_sub .., rfl⟩, fun _ h => nomatch h⟩

/-- The loop's body is a plain stretch. -/
theorem body_plain {φ : fn_to_one_hot.Bufs} (hφ : Laid F φ) : Plain [iterOps (F := F) φ ++ copyOps φ] :=
  plain_of_tame fun op ho => (List.mem_append.mp ho).elim (fun h => hφ.1.tame op (List.mem_append_right _ h)) (copy_tame φ op)

/-- The stretches are plain. -/
theorem lines_plain : Plain [line0 (F := F)] ∧ Plain [line1 (F := F)] ∧ Plain [line2 (F := F)] ∧ Plain [line3 (F := F)] :=
  ⟨plain_of_tame order.1.tame, plain_of_tame order.2.1.tame, plain_of_tame order.2.2.1.tame, plain_of_tame order.2.2.2.1.tame⟩

/-! ## The contents at each cut -/

variable (m : (ℓ : Loc nD τ sig) → Buf (Elt F) ℓ)

/-- The contents after the first line, after the first loop, and so on to the end. -/
def at0 (c : Dev nD) : Valuation τ sig (Elt F) := after line0 (launchContents m c)
@[inherit_doc at0]
def at1 (c : Dev nD) : Valuation τ sig (Elt F) := after line1 (loopOut main_call3 (at0 m) c)
@[inherit_doc at0]
def at2 (c : Dev nD) : Valuation τ sig (Elt F) := after line2 (loopOut main_call5 (at1 m) c)
@[inherit_doc at0]
def at3 (c : Dev nD) : Valuation τ sig (Elt F) := after line3 (loopOut main_call7 (at2 m) c)

/-- A line that opens a loop leaves the loop's counter at zero, the scores transposed, and an empty mask. -/
theorem open_val (a : TRef sig ⟨S2x256x16, .f32⟩) (φ : fn_to_one_hot.Bufs) {W : Valuation τ sig (Elt F)} (h : Eqs (openOps a φ) W) :
    get W φ.v2_0 = (fun _ => (0#32 : BitVec 32))
      ∧ carried φ W = (transpose S2x16x256 [0, 2, 1] (get W a) transposes_S2x256x16_S2x16x256_0_2_1,
          broadcastInDim S2x16x256 ![] bcast_S_S2x16x256 (constant S_ .f32 0x00000000#32), constantI S_ 1 0#1) := by
  unfold openOps at h
  have e0 := h.head.unary
  have h1 := h.tail
  have e1 := h1.head.nullary
  have e2 := h1.tail.head.unary
  have h3 := h1.tail.tail.tail
  have e4 := h3.head.nullary
  have e5 := h3.tail.head.nullary
  have h6 := h3.tail.tail
  have e6 := h6.head.unary
  have h8 := h6.tail.tail
  have e8 := h8.head.unary
  have e9 := h8.tail.head.unary
  have e10 := h8.tail.tail.head.unary
  refine ⟨by rw [e6, e5]; rfl, ?_⟩
  unfold carried
  rw [e8, e0, e9, e2, e1, e10, e4]; rfl

/-- The three loops are entered with their counters at zero. -/
theorem opened : (∀ c, get (at0 m c) main_call3.v2_0 = fun _ => (0#32 : BitVec 32)) ∧ (∀ c, get (at1 m c) main_call5.v2_0 = fun _ => (0#32 : BitVec 32))
    ∧ ∀ c, get (at2 m c) main_call7.v2_0 = fun _ => (0#32 : BitVec 32) :=
  ⟨fun c => (open_val _ _ (order.1.eqs (launchContents m c)).right.right.right.right.right.right).1,
   fun c => (open_val _ _ (order.2.1.eqs (loopOut main_call3 (at0 m) c)).right.right).1,
   fun c => (open_val _ _ (order.2.2.1.eqs (loopOut main_call5 (at1 m) c)).right.right).1⟩

/-- The program's segments. -/
def segs : List (CSeg (Ix := Unit) (Name := ℕ) (U := Option PUnit) (Lvl := ℕ) (pcfgs (F := F)) noAdm defs₀ Variants.none noL noLv loops noTk) :=
  segsOf _ _ _ _ _ _ _ _ Debt [line0] lines_plain.1 (launchContents m)
    ++ loopSeg _ _ _ _ _ _ _ _ 0 main_while0_cond main_while0_body rfl (condOps main_call3) [iterOps main_call3 ++ copyOps main_call3]
        (body_plain order.2.2.2.2.1) (body_eq _ _) 11 (at0 m) Debt (cond_run order.2.2.2.2.1 (.of main_v17) (at0 m) (opened m).1)
      :: (segsOf _ _ _ _ _ _ _ _ Debt [line1] lines_plain.2.1 (loopOut main_call3 (at0 m))
    ++ loopSeg _ _ _ _ _ _ _ _ 1 main_while1_cond main_while1_body rfl (condOps main_call5) [iterOps main_call5 ++ copyOps main_call5]
        (body_plain order.2.2.2.2.2.1) (body_eq _ _) 11 (at1 m) Debt (cond_run order.2.2.2.2.2.1 (.of main_v19) (at1 m) (opened m).2.1)
      :: (segsOf _ _ _ _ _ _ _ _ Debt [line2] lines_plain.2.2.1 (loopOut main_call5 (at1 m))
    ++ loopSeg _ _ _ _ _ _ _ _ 2 main_while2_cond main_while2_body rfl (condOps main_call7) [iterOps main_call7 ++ copyOps main_call7]
        (body_plain order.2.2.2.2.2.2) (body_eq _ _) 11 (at2 m) Debt (cond_run order.2.2.2.2.2.2 (.of main_v21) (at2 m) (opened m).2.2)
      :: segsOf _ _ _ _ _ _ _ _ Debt [line3] lines_plain.2.2.2 (loopOut main_call7 (at2 m))))

/-- They follow one another from the launch to the end. -/
theorem segs_chains : CSeg.Chains (fun c => iprop(held (c : Thread nD τ) (ucRefs τ sig) (launchContents m c) ∗ Debt c)) (segs m)
    (fun c => iprop(iprop(held (c : Thread nD τ) (ucRefs τ sig) (at3 m c)) ∗ ∃ W, owes (c : Thread nD τ) (0 : CellTallies nD τ sig Unit) W)) := by
  unfold segs
  exact CSeg.Chains.append (StableHlo.segsOf_chains _ _ _ _ _ _ _ _ Debt [line0] lines_plain.1 _) ⟨fun _ => .rfl,
    CSeg.Chains.append (StableHlo.segsOf_chains _ _ _ _ _ _ _ _ Debt [line1] lines_plain.2.1 _) ⟨fun _ => .rfl,
    CSeg.Chains.append (StableHlo.segsOf_chains _ _ _ _ _ _ _ _ Debt [line2] lines_plain.2.2.1 _) ⟨fun _ => .rfl,
    StableHlo.segsOf_chains _ _ _ _ _ _ _ _ Debt [line3] lines_plain.2.2.2 _⟩⟩⟩

/-- Their programs in order are the program's. -/
theorem segs_prog : (segs m).map CSeg.prog = [seq line0, HostLoop.enter 0, seq line1, HostLoop.enter 1, seq line2, HostLoop.enter 2, seq line3] := rfl

/-- THE RUN: every buffer ends at its contents after the last line, and every counter at zero. -/
theorem run_all [∀ e, Nonempty (Elt F e)] (ρ : Dev nD → PrngReg) :
    θ_run (defs (F := F)) (onTc (τ := τ) (main (F := F))) ⟨m, fun _ => 0, ρ⟩
      (fun r => (∀ (c : Dev nD), ∀ b ∈ ucRefs τ sig, r.2.mem (c, b) = at3 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell defs₀ Variants.none noL noLv loops noTk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Debt c))
    (Tₙ := fun c => iprop(held (c : Thread nD τ) (ucRefs τ sig) (at3 m c)))
    (hch := segs_chains m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = at3 m c b)
    (hfin := fun c s' => by
      unfold held
      iintro ⟨Hh, HSI⟩
      ihave Hr := (pointsTo_read_all (ucRefs τ sig) (fun b => ((c : Dev nD), b)) (fun b => at3 m c b) s') $$ [Hh HSI]
      · isplitl [Hh] <;> iassumption
      icases Hr with ⟨%h, HSI⟩
      imodintro
      isplitr; · ipureintro; exact h
      iexact HSI)
    (hQ := fun s h _ => ⟨fun c b hb => h c b hb, sem_eq_zero_of_no_sems rfl s⟩)

end Cert.ReferenceIdeal.Line

end
-- ==== Proof.Reference.Value.lean ====
/-
  The reference's result as a function of its eleven arguments.
-/
module

public import proofs.«01_k».proof.Proof.Reference.Run

@[expose] public section

set_option maxRecDepth 65536

noncomputable section

namespace Cert.ReferenceIdeal.Line

open Cert.ReferenceIdeal Cert.ReferenceIdeal.Facts₀
open Idealize.ShloMosaic Idealize.ShloMosaic.TcCoe
open Idealize.SL Idealize.SL.Sem
open Idealize.ShloMosaic.StableHlo (TRef after seq atTrip launchContents)
open Idealize.ShloMosaic.Pipeline (ucRefs)

variable {F : FTy → Type} [FloatOps F]

/-- A tensor's contents. -/
abbrev Ten (F : FTy → Type) (s : Shape) : Type := (⟨s, .f32⟩ : BufTy).Contents (Elt F)

/-- The nodes: images, then prompts. -/
def nodesF (a : Ten F S2x256x256) (b : Ten F S2x16x256) : Ten F S2x272x256 :=
  concatenate S2x272x256 1 [⟨S2x256x256, a⟩, ⟨S2x16x256, b⟩] concatenates_S2x256x256_S2x16x256_S2x272x256_d1

/-- The attention. -/
def gatF (x : Ten F S2x272x256) (w1 : Ten F S256x128) (b1 : Ten F S128) (w2 : Ten F S256x128) (b2 : Ten F S128) (w3 : Ten F S256x128) (b3 : Ten F S128)
    (w4 : Ten F S128x128) (b4 : Ten F S128) : Ten F S2x272x128 :=
  gatOF (gatEF (gatSF (gatQF x w1 b1) (gatQF x w2 b2))) (gatQF x w3 b3) w4 b4

/-- The attended nodes beside the nodes. -/
def wideF (y : Ten F S2x272x128) (x : Ten F S2x272x256) : Ten F S2x272x384 :=
  concatenate S2x272x384 2 [⟨S2x272x128, y⟩, ⟨S2x272x256, x⟩] concatenates_S2x272x128_S2x272x256_S2x272x384_d2

/-- The shots' rows, and the points' rows. -/
def shotsF (w : Ten F S2x272x384) : Ten F S2x16x384 := extractStridedSlice S2x16x384 ![0, 256, 0] w slices_S2x272x384_S2x16x384_0_256_0
@[inherit_doc shotsF]
def pointsF (w : Ten F S2x272x384) : Ten F S2x256x384 := extractStridedSlice S2x256x384 ![0, 0, 0] w slices_S2x272x384_S2x256x384_0_0_0

/-- A great negative number on the diagonal. -/
def eyeF : Ten F S2x256x256 :=
  broadcastInDim S2x256x256 ![0, 1, 2] bcast_S1x256x256_S2x256x256_0_1_2
    (mulf (broadcastInDim S1x256x256 ![1, 2] bcast_S256x256_S1x256x256_1_2
        (uitofp .f32 (cmpi .eq (addi (iotaInDim S256x256 32 0) (broadcastInDim S256x256 ![] bcast_S_S256x256 (constantI S_ 32 0#32))) (iotaInDim S256x256 32 1))))
      (broadcastInDim S1x256x256 ![] bcast_S_S1x256x256 (constant S_ .f32 0xC9742400#32)))

/-- The points' graph. -/
def graphF (p : Ten F S2x256x384) : Ten F S2x256x256 := addf (sqrtF p p) eyeF

/-- One clustering step. -/
def kmeanF (p : Ten F S2x256x384) (s : Ten F S2x16x384) (lab : Ten F S2x256x16) (g : Ten F S2x256x256) : Ten F S2x256x16 :=
  sqF p (centF (softF (logitF lab (lowF lab g))) p s)

/-- What the assignment starts from. -/
def startF (lab : Ten F S2x256x16) : St F :=
  (transpose S2x16x256 [0, 2, 1] lab transposes_S2x256x16_S2x16x256_0_2_1,
   broadcastInDim S2x16x256 ![] bcast_S_S2x16x256 (constant S_ .f32 0x00000000#32), constantI S_ 1 0#1)

/-- The assignment of the points to the clusters. -/
def hotF (lab : Ten F S2x256x16) : Ten F S2x256x16 :=
  transpose S2x256x16 [0, 2, 1] (stepF^[11] (startF lab)).2.1 transposes_S2x16x256_S2x256x16_0_2_1

/-- The mean of four predictions. -/
def meanF (a b c d : Ten F S2x256x16) : Ten F S2x256x16 :=
  Host.divf (Host.reduceAdd (concatenate S4x2x256x16 0
      [⟨S1x2x256x16, broadcastInDim S1x2x256x16 ![1, 2, 3] bcast_S2x256x16_S1x2x256x16_1_2_3 a⟩,
       ⟨S1x2x256x16, broadcastInDim S1x2x256x16 ![1, 2, 3] bcast_S2x256x16_S1x2x256x16_1_2_3 b⟩,
       ⟨S1x2x256x16, broadcastInDim S1x2x256x16 ![1, 2, 3] bcast_S2x256x16_S1x2x256x16_1_2_3 c⟩,
       ⟨S1x2x256x16, broadcastInDim S1x2x256x16 ![1, 2, 3] bcast_S2x256x16_S1x2x256x16_1_2_3 d⟩]
      concatenates_S1x2x256x16_S1x2x256x16_S1x2x256x16_S1x2x256x16_S4x2x256x16_d0)
      (constant S_ .f32 0x00000000#32) reducesTo_S4x2x256x16_S2x256x16_d0 h_S_)
    (broadcastInDim S2x256x16 ![] bcast_S_S2x256x16 (constant S_ .f32 0x40800000#32))

/-- The four predictions' mean, from the attended nodes and the first labels. -/
def predsF (w : Ten F S2x272x384) (lab : Ten F S2x256x16) : Ten F S2x256x16 :=
  let k := fun l => kmeanF (pointsF w) (shotsF w) l (graphF (pointsF w))
  meanF (k lab) (k (hotF (k lab))) (k (hotF (k (hotF (k lab))))) (k (hotF (k (hotF (k (hotF (k lab)))))))

/-- THE REFERENCE'S RESULT. -/
def refF (a0 : Ten F S2x256x256) (a1 : Ten F S2x16x256) (a2 : Ten F S2x256x16) (a3 : Ten F S256x128) (a4 : Ten F S128) (a5 : Ten F S256x128) (a6 : Ten F S128)
    (a7 : Ten F S256x128) (a8 : Ten F S128) (a9 : Ten F S128x128) (a10 : Ten F S128) : Ten F S2x256x16 :=
  predsF (wideF (gatF (nodesF a0 a1) a3 a4 a5 a6 a7 a8 a9 a10) (nodesF a0 a1)) a2

/-! ## The lines' values -/

section Vals

variable {W : Valuation τ sig (Elt F)}

/-- A k-means round writes `kmeanF` of its arguments. -/
theorem kmean_val (a0 : TRef sig ⟨S2x256x384, .f32⟩) (a1 : TRef sig ⟨S2x16x384, .f32⟩) (a2 : TRef sig ⟨S2x256x16, .f32⟩) (a3 : TRef sig ⟨S2x256x256, .f32⟩)
    (φ : fn_kmean_step.Bufs) (h : Eqs (kmeanOps a0 a1 a2 a3 φ) W) :
    get W φ.call0.v7 = kmeanF (get W a0) (get W a1) (get W a2) (get W a3) := by
  unfold kmeanOps at h
  have e0 := low_val a2 a3 φ h.left
  have e1 := logit_val a2 φ.v8 φ h.right.left
  have e2 := soft_val φ.v17 φ h.right.right.left
  have e3 := cent_val φ.v28 a0 a1 φ h.right.right.right.left
  have e4 := sq_val a0 φ.v34 φ.call0 h.right.right.right.right
  unfold kmeanF
  rw [e4, e3, e2, e1, e0]

/-- The attention writes `gatF` of its arguments. -/
theorem gat_val (a0 : TRef sig ⟨S2x272x256, .f32⟩) (a1 : TRef sig ⟨S256x128, .f32⟩) (a2 : TRef sig ⟨S128, .f32⟩) (a3 : TRef sig ⟨S256x128, .f32⟩)
    (a4 : TRef sig ⟨S128, .f32⟩) (a5 : TRef sig ⟨S256x128, .f32⟩) (a6 : TRef sig ⟨S128, .f32⟩) (a7 : TRef sig ⟨S128x128, .f32⟩) (a8 : TRef sig ⟨S128, .f32⟩)
    (φ : fn_gat.Bufs) (h : Eqs (gatOps a0 a1 a2 a3 a4 a5 a6 a7 a8 φ) W) :
    get W φ.v37 = gatF (get W a0) (get W a1) (get W a2) (get W a3) (get W a4) (get W a5) (get W a6) (get W a7) (get W a8) := by
  unfold gatOps at h
  have e0 := gatQ_val a0 a1 a2 φ h.left
  have e1 := gatK_val a0 a3 a4 φ h.right.left
  have e2 := gatV_val a0 a5 a6 φ h.right.right.left
  have e3 := gatS_val φ.v5 φ.v11 φ h.right.right.right.left
  have e4 := gatE_val φ.v19 φ h.right.right.right.right.left
  have e5 := gatO_val φ.v30 φ.v17 a7 a8 φ h.right.right.right.right.right
  unfold gatF
  rw [e5, e4, e3, e2, e1, e0]

/-- These operations add the diagonal to the distances. -/
theorem eye_val (h : Eqs eyeOps W) : get W (.of main_v16 : TRef sig ⟨S2x256x256, .f32⟩) = addf (get W (.of main_v5 : TRef sig ⟨S2x256x256, .f32⟩)) eyeF := by
  unfold eyeOps at h
  have e0 := h.head.nullary
  have e1 := h.tail.head.nullary
  replace h := h.tail.tail
  have e2 := h.head.nullary
  have e3 := h.tail.head.unary
  replace h := h.tail.tail
  have e4 := h.head.binary
  have e5 := h.tail.head.binary
  replace h := h.tail.tail
  have e6 := h.head.unary
  have e7 := h.tail.head.unary
  replace h := h.tail.tail
  have e8 := h.head.nullary
  have e9 := h.tail.head.unary
  replace h := h.tail.tail
  have e10 := h.head.binary
  have e11 := h.tail.head.unary
  have e12 := h.tail.tail.head.binary
  rw [e12, e11, e10, e9, e8, e7, e6, e5, e4, e3, e2, e1, e0]
  rfl

/-- The last operations write the mean of the four predictions. -/
theorem tail_val (h : Eqs tailOps W) : get W (.of main_v31 : TRef sig ⟨S2x256x16, .f32⟩)
    = meanF (get W (.of main_v17 : TRef sig ⟨S2x256x16, .f32⟩)) (get W (.of main_v19 : TRef sig ⟨S2x256x16, .f32⟩))
        (get W (.of main_v21 : TRef sig ⟨S2x256x16, .f32⟩)) (get W (.of main_v23 : TRef sig ⟨S2x256x16, .f32⟩)) := by
  unfold tailOps at h
  have e0 := h.head.unary
  have e1 := h.tail.head.unary
  replace h := h.tail.tail
  have e2 := h.head.unary
  have e3 := h.tail.head.unary
  replace h := h.tail.tail
  have e4 := h.head _ (Finset.mem_singleton_self _)
  replace h := h.tail
  have e5 := h.head.nullary
  have e6 := h.tail.head.binary
  replace h := h.tail.tail
  have e7 := h.head.nullary
  have e8 := h.tail.head.unary
  have e9 := h.tail.tail.head.binary
  rw [StableHlo.nary_result] at e4
  have e4' : get W (.of main_v28 : TRef sig ⟨S4x2x256x16, .f32⟩) = concatenate S4x2x256x16 0
      [⟨S1x2x256x16, get W (.of main_v24 : TRef sig ⟨S1x2x256x16, .f32⟩)⟩, ⟨S1x2x256x16, get W (.of main_v25 : TRef sig ⟨S1x2x256x16, .f32⟩)⟩,
       ⟨S1x2x256x16, get W (.of main_v26 : TRef sig ⟨S1x2x256x16, .f32⟩)⟩, ⟨S1x2x256x16, get W (.of main_v27 : TRef sig ⟨S1x2x256x16, .f32⟩)⟩]
      concatenates_S1x2x256x16_S1x2x256x16_S1x2x256x16_S1x2x256x16_S4x2x256x16_d0 := e4
  rw [e9, e8, e7, e6, e5, e4', e3, e2, e1, e0]
  rfl

end Vals

/-! ## From cut to cut -/

section Cuts

variable (m : (ℓ : Loc nD τ sig) → Buf (Elt F) ℓ) (c : Dev nD)

/-- Below a loop's result nothing changes from one cut to the next. -/
theorem cut1 (b : DevRef τ sig) (h : rank b < rk main_call3.v2_0.ref) : at1 m c b = at0 m c b := by
  unfold at1
  rw [order.2.1.below _ b (h.trans (by decide)), (loopOut_val order.2.2.2.2.1 (at0 m) c ((opened m).1 c)).2 b h]
@[inherit_doc cut1]
theorem cut2 (b : DevRef τ sig) (h : rank b < rk main_call5.v2_0.ref) : at2 m c b = at1 m c b := by
  unfold at2
  rw [order.2.2.1.below _ b (h.trans (by decide)), (loopOut_val order.2.2.2.2.2.1 (at1 m) c ((opened m).2.1 c)).2 b h]
@[inherit_doc cut1]
theorem cut3 (b : DevRef τ sig) (h : rank b < rk main_call7.v2_0.ref) : at3 m c b = at2 m c b := by
  unfold at3
  rw [order.2.2.2.1.below _ b (h.trans (by decide)), (loopOut_val order.2.2.2.2.2.2 (at2 m) c ((opened m).2.2 c)).2 b h]

/-- What is written before the first loop ends as it was there. -/
theorem kept0 (b : DevRef τ sig) (h : rank b < rk main_call3.v2_0.ref) : at3 m c b = at0 m c b := by
  rw [cut3 m c b (h.trans (by decide)), cut2 m c b (h.trans (by decide)), cut1 m c b h]

/-- THE ARGUMENTS ARE KEPT. -/
theorem args_kept (b : DevRef τ sig) (h : rank b < 11) : at3 m c b = m (c, b) := by
  rw [kept0 m c b (h.trans (by decide))]
  exact order.1.below _ b h

/-- The loop's result, transposed, in terms of what the loop was opened on. -/
theorem closed {φ : fn_to_one_hot.Bufs} (hφ : Laid F φ) (W₀ : Dev nD → Valuation τ sig (Elt F)) (h0 : get (W₀ c) φ.v2_0 = fun _ => (0#32 : BitVec 32))
    (a : TRef sig ⟨S2x256x16, .f32⟩) (ho : Eqs (openOps a φ) (W₀ c)) {W : Valuation τ sig (Elt F)} (hc : Eqs (closeOps φ) W)
    (hb : W (Proc.devRef .tc φ.v2_3.ref) = loopOut φ W₀ c (Proc.devRef .tc φ.v2_3.ref)) : get W φ.v3 = hotF (get (W₀ c) a) := by
  have e := hc.head.unary
  rw [e]
  unfold hotF startF
  rw [← (open_val a φ ho).2, ← (loopOut_val hφ W₀ c h0).1]
  unfold get
  rw [hb]

end Cuts

/-- THE RESULT. -/
theorem result_val (m : (ℓ : Loc nD τ sig) → Buf (Elt F) ℓ) (c : Dev nD) :
    get (at3 m c) (.of main_v31 : TRef sig ⟨S2x256x16, .f32⟩) = refF (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) (m (c, Proc.devRef .tc main_arg6))
      (m (c, Proc.devRef .tc main_arg7)) (m (c, Proc.devRef .tc main_arg8)) (m (c, Proc.devRef .tc main_arg9)) (m (c, Proc.devRef .tc main_arg10)) := by
  have E0 := order.1.eqs (launchContents m c)
  have E1 := order.2.1.eqs (loopOut main_call3 (at0 m) c)
  have E2 := order.2.2.1.eqs (loopOut main_call5 (at1 m) c)
  have E3 := order.2.2.2.1.eqs (loopOut main_call7 (at2 m) c)
  change Eqs line0 (at0 m c) at E0
  change Eqs line1 (at1 m c) at E1
  change Eqs line2 (at2 m c) at E2
  change Eqs line3 (at3 m c) at E3
  unfold line0 at E0
  unfold line1 at E1
  unfold line2 at E2
  unfold line3 at E3
  have hot1 := closed c order.2.2.2.2.1 (at0 m) ((opened m).1 c) (.of main_v17) E0.right.right.right.right.right.right E1.left
    (order.2.1.below _ _ (by decide))
  have hot2 := closed c order.2.2.2.2.2.1 (at1 m) ((opened m).2.1 c) (.of main_v19) E1.right.right E2.left (order.2.2.1.below _ _ (by decide))
  have hot3 := closed c order.2.2.2.2.2.2 (at2 m) ((opened m).2.2 c) (.of main_v21) E2.right.right E3.left (order.2.2.2.1.below _ _ (by decide))
  have km0 := kmean_val _ _ _ _ _ E0.right.right.right.right.right.left
  have km1 := kmean_val _ _ _ _ _ E1.right.left
  have km2 := kmean_val _ _ _ _ _ E2.right.left
  have km3 := kmean_val _ _ _ _ _ E3.right.left
  have hx := E0.left.head.binary
  have hg := gat_val _ _ _ _ _ _ _ _ _ _ E0.right.left
  have hw := E0.right.right.left.head.binary
  have hs := E0.right.right.left.tail.head.unary
  have hp := E0.right.right.left.tail.tail.head.unary
  have hd := sqrt_val _ _ _ E0.right.right.right.left
  have he := eye_val E0.right.right.right.right.left
  have hr := tail_val E3.right.right
  have k0 : ∀ {T : BufTy} (t : TRef sig T), rk t.ref < rk main_call3.v2_0.ref → get (at1 m c) t = get (at0 m c) t := fun t h => by unfold get; rw [cut1 m c _ h]
  have k1 : ∀ {T : BufTy} (t : TRef sig T), rk t.ref < rk main_call5.v2_0.ref → get (at2 m c) t = get (at1 m c) t := fun t h => by unfold get; rw [cut2 m c _ h]
  have k2 : ∀ {T : BufTy} (t : TRef sig T), rk t.ref < rk main_call7.v2_0.ref → get (at3 m c) t = get (at2 m c) t := fun t h => by unfold get; rw [cut3 m c _ h]
  have ka : ∀ {T : BufTy} (t : TRef sig T), rk t.ref < 11 → get (at0 m c) t = t.ofBuf (m (c, Proc.devRef .tc t.ref)) := fun t h => by
    unfold get; exact congrArg _ (order.1.below _ _ h)
  have hw' : get (at0 m c) (.of main_v2 : TRef sig ⟨S2x272x384, .f32⟩) = wideF (get (at0 m c) (.of main_v1 : TRef sig ⟨S2x272x128, .f32⟩)) (get (at0 m c) (.of main_v0 : TRef sig ⟨S2x272x256, .f32⟩)) := hw
  have hs' : get (at0 m c) (.of main_v3 : TRef sig ⟨S2x16x384, .f32⟩) = shotsF (get (at0 m c) (.of main_v2 : TRef sig ⟨S2x272x384, .f32⟩)) := hs
  have hp' : get (at0 m c) (.of main_v4 : TRef sig ⟨S2x256x384, .f32⟩) = pointsF (get (at0 m c) (.of main_v2 : TRef sig ⟨S2x272x384, .f32⟩)) := hp
  have hG : get (at0 m c) (.of main_v16 : TRef sig ⟨S2x256x256, .f32⟩) = graphF (get (at0 m c) (.of main_v4 : TRef sig ⟨S2x256x384, .f32⟩)) := he.trans (congrArg (addf · eyeF) hd)
  have hW : get (at0 m c) (.of main_v2 : TRef sig ⟨S2x272x384, .f32⟩) = wideF (gatF (nodesF (m (c, Proc.devRef .tc main_arg0)) (m (c, Proc.devRef .tc main_arg1)))
      (m (c, Proc.devRef .tc main_arg3)) (m (c, Proc.devRef .tc main_arg4)) (m (c, Proc.devRef .tc main_arg5)) (m (c, Proc.devRef .tc main_arg6))
      (m (c, Proc.devRef .tc main_arg7)) (m (c, Proc.devRef .tc main_arg8)) (m (c, Proc.devRef .tc main_arg9)) (m (c, Proc.devRef .tc main_arg10)))
      (nodesF (m (c, Proc.devRef .tc main_arg0)) (m (c, Proc.devRef .tc main_arg1))) := by
    have hx' : get (at0 m c) (.of main_v0 : TRef sig ⟨S2x272x256, .f32⟩) = nodesF (m (c, Proc.devRef .tc main_arg0)) (m (c, Proc.devRef .tc main_arg1)) := by
      rw [hx, ka _ (by decide), ka _ (by decide)]; rfl
    rw [hw']
    refine congrArg₂ wideF (hg.trans ?_) hx'
    rw [hx', ka _ (by decide), ka _ (by decide), ka _ (by decide), ka _ (by decide), ka _ (by decide), ka _ (by decide), ka _ (by decide), ka _ (by decide)]
    rfl
  unfold refF
  rw [← hW]
  generalize hz : get (at0 m c) (.of main_v2 : TRef sig ⟨S2x272x384, .f32⟩) = w at hs' hp'
  have p0 := hp'
  have s0 := hs'
  have g0 := hG.trans (congrArg graphF hp')
  have p1 := (k0 (.of main_v4 : TRef sig ⟨S2x256x384, .f32⟩) (by decide)).trans p0
  have s1 := (k0 (.of main_v3 : TRef sig ⟨S2x16x384, .f32⟩) (by decide)).trans s0
  have g1 := (k0 (.of main_v16 : TRef sig ⟨S2x256x256, .f32⟩) (by decide)).trans g0
  have p2 := (k1 (.of main_v4 : TRef sig ⟨S2x256x384, .f32⟩) (by decide)).trans p1
  have s2 := (k1 (.of main_v3 : TRef sig ⟨S2x16x384, .f32⟩) (by decide)).trans s1
  have g2 := (k1 (.of main_v16 : TRef sig ⟨S2x256x256, .f32⟩) (by decide)).trans g1
  have p3 := (k2 (.of main_v4 : TRef sig ⟨S2x256x384, .f32⟩) (by decide)).trans p2
  have s3 := (k2 (.of main_v3 : TRef sig ⟨S2x16x384, .f32⟩) (by decide)).trans s2
  have g3 := (k2 (.of main_v16 : TRef sig ⟨S2x256x256, .f32⟩) (by decide)).trans g2
  have ea : get (at0 m c) (.of main_arg2 : TRef sig ⟨S2x256x16, .f32⟩) = m (c, Proc.devRef .tc main_arg2) := ka _ (by decide)
  have r0 : get (at0 m c) (.of main_v17 : TRef sig ⟨S2x256x16, .f32⟩) = kmeanF (pointsF w) (shotsF w) (m (c, Proc.devRef .tc main_arg2)) (graphF (pointsF w)) := by
    refine Eq.trans km0 ?_
    rw [p0, s0, g0, ea]
  have r1 : get (at1 m c) (.of main_v19 : TRef sig ⟨S2x256x16, .f32⟩) = kmeanF (pointsF w) (shotsF w) (hotF (get (at0 m c) (.of main_v17 : TRef sig ⟨S2x256x16, .f32⟩))) (graphF (pointsF w)) := by
    refine Eq.trans km1 ?_
    rw [p1, s1, g1]
    exact congrArg (kmeanF _ _ · _) hot1
  have r2 : get (at2 m c) (.of main_v21 : TRef sig ⟨S2x256x16, .f32⟩) = kmeanF (pointsF w) (shotsF w) (hotF (get (at1 m c) (.of main_v19 : TRef sig ⟨S2x256x16, .f32⟩))) (graphF (pointsF w)) := by
    refine Eq.trans km2 ?_
    rw [p2, s2, g2]
    exact congrArg (kmeanF _ _ · _) hot2
  have r3 : get (at3 m c) (.of main_v23 : TRef sig ⟨S2x256x16, .f32⟩) = kmeanF (pointsF w) (shotsF w) (hotF (get (at2 m c) (.of main_v21 : TRef sig ⟨S2x256x16, .f32⟩))) (graphF (pointsF w)) := by
    refine Eq.trans km3 ?_
    rw [p3, s3, g3]
    exact congrArg (kmeanF _ _ · _) hot3
  rw [hr, r3, k2 (.of main_v21) (by decide), r2, k2 (.of main_v19) (by decide), k1 (.of main_v19) (by decide), r1,
    k2 (.of main_v17) (by decide), k1 (.of main_v17) (by decide), k0 (.of main_v17) (by decide), r0]
  rfl

/-- THE REFERENCE'S RUN: its result is `refF` of its arguments, which it keeps. -/
theorem run_value [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem (c, Proc.devRef .tc main_v31) = refF (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5)) (m (c, Proc.devRef .tc main_arg6))
        (m (c, Proc.devRef .tc main_arg7)) (m (c, Proc.devRef .tc main_arg8)) (m (c, Proc.devRef .tc main_arg9)) (m (c, Proc.devRef .tc main_arg10))
      ∧ ∀ b : Ref sig .tc, rk b < 11 → (Proc.devRef .tc b : DevRef τ sig).isScoped = false → r.2.mem (c, Proc.devRef .tc b) = m (c, Proc.devRef .tc b)) ∧ r.2.sem = fun _ => 0) :=
  (θ_run _ _ _).mono (fun r h => ⟨fun c =>
    ⟨(h.1 c _ (StableHlo.devRef_mem_ucRefs main_v31 (by decide))).trans (result_val m c),
     fun b hb hs => (h.1 c _ (StableHlo.devRef_mem_ucRefs b hs)).trans (args_kept m c _ hb)⟩, h.2⟩) (run_all m ρ)

end Cert.ReferenceIdeal.Line

end
-- ==== Proof.Value.Kth.lean ====
/-
  The sixteenth greatest of 256 extended reals: what makes a number that one, and that both a descending sort and the
  kernel's sixteen steps of taking the greatest find it.
-/
module

public import Idealize.ShloMosaic.Lib.SortFacts
public import Idealize.ShloMosaic.PureOps.Ideal.Laws
public import Idealize.ShloMosaic.Lib.IdealHost

@[expose] public section

noncomputable section

namespace Cert.Value

open Idealize.ShloMosaic

/-! ## The constants -/

/-- The literal 2. -/
theorem c_two : Ideal.ofBits .f32 0x40000000#32 = ((2 : ℝ) : EReal) := by
  simp [Ideal.ofBits, Ideal.ieee]; norm_num [zpow_ofNat, zpow_neg]; rw [← EReal.coe_mul]; norm_num
/-- The literal 1/2. -/
theorem c_half : Ideal.ofBits .f32 0x3F000000#32 = ((1 / 2 : ℝ) : EReal) := by
  simp [Ideal.ofBits, Ideal.ieee]; norm_num [zpow_ofNat, zpow_neg]; rw [← EReal.coe_mul]; norm_num
/-- The literal 1/4. -/
theorem c_quarter : Ideal.ofBits .f32 0x3E800000#32 = ((1 / 4 : ℝ) : EReal) := by
  simp [Ideal.ofBits, Ideal.ieee]; norm_num [zpow_ofNat, zpow_neg]; rw [← EReal.coe_mul]; norm_num
/-- The literal 4. -/
theorem c_four : Ideal.ofBits .f32 0x40800000#32 = ((4 : ℝ) : EReal) := by
  simp [Ideal.ofBits, Ideal.ieee]; norm_num [zpow_ofNat, zpow_neg]; rw [← EReal.coe_mul]; norm_num
/-- The literal 15.5. -/
theorem c_fifteen : Ideal.ofBits .f32 0x41780000#32 = ((31 / 2 : ℝ) : EReal) := by
  simp [Ideal.ofBits, Ideal.ieee]; norm_num [zpow_ofNat, zpow_neg]; rw [← EReal.coe_mul]; norm_num
/-- The literal −10⁶ is the negative of the literal 10⁶. -/
theorem c_neg : Ideal.ofBits .f32 0xC9742400#32 = - Ideal.ofBits .f32 0x49742400#32 := by
  simp [Ideal.ofBits, Ideal.ieee]
/-- The word of +∞. -/
theorem c_top : Ideal.ofBits .f32 0x7F800000#32 = ⊤ := by
  simp [Ideal.ofBits, Ideal.ieee]
/-- The word of −∞. -/
theorem c_bot : Ideal.ofBits .f32 0xFF800000#32 = ⊥ := by
  simp [Ideal.ofBits, Ideal.ieee]

/-! ## The sixteenth greatest -/

/-- At most fifteen are greater, at least sixteen as great. -/
def Kth (x : Fin 256 → EReal) (τ : EReal) : Prop :=
  (Finset.univ.filter fun k => τ < x k).card ≤ 15 ∧ 16 ≤ (Finset.univ.filter fun k => τ ≤ x k).card

/-- There is only one such number. -/
theorem Kth.unique {x : Fin 256 → EReal} {τ τ' : EReal} (h : Kth x τ) (h' : Kth x τ') : τ = τ' := by
  by_contra hne
  rcases lt_or_gt_of_ne hne with hl | hl
  · have := Finset.card_le_card (Finset.monotone_filter_right Finset.univ (p := fun k => τ' ≤ x k) (q := fun k => τ < x k) fun k _ hk => hl.trans_le hk)
    exact absurd (h'.2.trans (this.trans h.1)) (by decide)
  · have := Finset.card_le_card (Finset.monotone_filter_right Finset.univ (p := fun k => τ ≤ x k) (q := fun k => τ' < x k) fun k _ hk => hl.trans_le hk)
    exact absurd (h.2.trans (this.trans h'.1)) (by decide)

/-- A descending sort puts it at position fifteen. -/
theorem kth_sorted (x : Fin 256 → EReal) (before : Fin 256 → Fin 256 → Bool) (hb : ∀ a b, before a b = true ↔ x b < x a) :
    Kth x (x (sortedFrom before 15)) := by
  have hno : ∀ i j : Fin 256, i < j → x (sortedFrom before j) ≤ x (sortedFrom before i) := fun i j hij => by
    have := sortedFrom_noInversion before before (fun a b h => by
      by_contra hc; exact absurd ((hb a b).mp h) (not_lt.mpr ((hb b a).mp (by simpa using hc)).le)) (fun _ _ h => h)
      (fun a b c h₁ h₂ => by
        by_contra hc
        have h3 := (hb a c).mp (by simpa using hc)
        have h4 : ¬ x b < x a := fun h => by rw [(hb a b).mpr h] at h₁; exact absurd h₁ (by decide)
        have h5 : ¬ x c < x b := fun h => by rw [(hb b c).mpr h] at h₂; exact absurd h₂ (by decide)
        exact absurd h3 (not_lt.mpr ((not_lt.mp h4).trans (not_lt.mp h5)))) i j hij
    exact not_lt.mp fun h => by rw [(hb _ _).mpr h] at this; exact absurd this (by decide)
  have hinj := sortedFrom_injective before
  constructor
  · refine (Finset.card_le_card (t := (Finset.univ.filter fun j : Fin 256 => j < 15).image (sortedFrom before)) fun k hk => ?_).trans
      (Finset.card_image_le.trans (by decide))
    obtain ⟨j, rfl⟩ := sortedFrom_surjective before k
    refine Finset.mem_image_of_mem _ (Finset.mem_filter.mpr ⟨Finset.mem_univ _, not_le.mp fun hj => ?_⟩)
    have hlt := (Finset.mem_filter.mp hk).2
    rcases hj.lt_or_eq with hj | hj
    · exact absurd hlt (not_lt.mpr (hno _ _ hj))
    · rw [hj] at hlt; exact lt_irrefl _ hlt
  · refine le_trans ?_ (Finset.card_le_card (s := (Finset.univ.filter fun j : Fin 256 => j ≤ 15).image (sortedFrom before)) fun k hk => ?_)
    · rw [Finset.card_image_of_injective _ hinj]; decide
    · obtain ⟨j, hj, rfl⟩ := Finset.mem_image.mp hk
      refine Finset.mem_filter.mpr ⟨Finset.mem_univ _, ?_⟩
      rcases (Finset.mem_filter.mp hj).2.lt_or_eq with hj | hj
      · exact hno _ _ hj
      · rw [hj]

/-! ## The kernel's search on one row -/

/-- One row's state: the scores not taken, how many are taken, the threshold. -/
structure Row where
  (m : Fin 256 → EReal) (cum : EReal) (t : EReal)

/-- The greatest remaining score. -/
def cur (m : Fin 256 → EReal) : EReal := Finset.univ.fold max ⊥ m

/-- One step on one row. -/
def rowStep (s : Row) : Row where
  m k := if s.m k = cur s.m then ⊥ else s.m k
  cum := s.cum + ∑ k, if s.m k = cur s.m then 1 else 0
  t := if s.cum < ((31 / 2 : ℝ) : EReal) then cur s.m else s.t

/-- No remaining score is above the greatest. -/
theorem le_cur (m : Fin 256 → EReal) (k : Fin 256) : m k ≤ cur m :=
  (Finset.le_fold_max (m k)).mpr (.inr ⟨k, Finset.mem_univ k, le_rfl⟩)

/-- The greatest remaining score is one of them. -/
theorem cur_mem (m : Fin 256 → EReal) : ∃ k, m k = cur m := by
  have h : cur m ≤ Finset.univ.sup' ⟨0, Finset.mem_univ 0⟩ m :=
    (Finset.fold_max_le _).mpr ⟨bot_le, fun k hk => Finset.le_sup' m hk⟩
  obtain ⟨k, -, hk⟩ := Finset.exists_mem_eq_sup' ⟨0, Finset.mem_univ 0⟩ m
  exact ⟨k, le_antisymm (le_cur m k) (hk ▸ h)⟩

/-- Ones and zeros sum to the number of ones. -/
theorem sum_ind (p : Fin 256 → Prop) [DecidablePred p] : (∑ k, if p k then (1 : EReal) else 0) = (((Finset.univ.filter p).card : ℝ) : EReal) := by
  rw [Finset.sum_ite, Finset.sum_const_zero, add_zero, Finset.sum_const]
  simp

/-- A count is below 15.5 exactly when it is at most fifteen. -/
theorem lt_fifteen (n : ℕ) : Iff ((((n : ℝ) : EReal)) < ((31 / 2 : ℝ) : EReal)) (n ≤ 15) := by
  rw [EReal.coe_lt_coe_iff]
  constructor
  · intro h
    by_contra hc
    have : (16 : ℝ) ≤ n := by exact_mod_cast not_le.mp hc
    linarith
  · intro h
    have : (n : ℝ) ≤ 15 := by exact_mod_cast h
    linarith

/-- What holds of a row after `n` steps: fewer than sixteen are taken, or the threshold is found. -/
def RowInv (x : Fin 256 → EReal) (n : ℕ) (s : Row) : Prop :=
  (∃ T : Finset (Fin 256), n ≤ T.card ∧ T.card ≤ 15 ∧ s.cum = ((T.card : ℝ) : EReal) ∧ (∀ k, s.m k = if k ∈ T then ⊥ else x k)
      ∧ ∀ k ∈ T, ∀ l, l ∉ T → x l < x k)
    ∨ ((∃ c : ℕ, 16 ≤ c ∧ s.cum = ((c : ℝ) : EReal)) ∧ Kth x s.t)

/-- One step keeps what holds of a row. -/
theorem RowInv.step {x : Fin 256 → EReal} {n : ℕ} {s : Row} (h : RowInv x n s) : RowInv x (n + 1) (rowStep s) := by
  rcases h with ⟨T, hn, h15, hc, hm, hT⟩ | ⟨⟨c, h16, hc⟩, hk⟩
  · obtain ⟨l, hl⟩ : ∃ l, l ∉ T := by
      by_contra hall
      have : T = Finset.univ := Finset.eq_univ_iff_forall.mpr fun l => by by_contra hl; exact hall ⟨l, hl⟩
      rw [this] at h15; exact absurd h15 (by decide)
    have hle : ∀ l, l ∉ T → x l ≤ cur s.m := fun l hl => by have := le_cur s.m l; rwa [hm, if_neg hl] at this
    have hcard : (rowStep s).cum = (((T.card + (Finset.univ.filter fun k => s.m k = cur s.m).card : ℕ) : ℝ) : EReal) := by
      show s.cum + _ = _
      rw [sum_ind, hc]; push_cast; rfl
    have ht : (rowStep s).t = cur s.m := by
      show ite _ _ _ = _
      rw [hc, if_pos ((lt_fifteen _).mpr h15)]
    obtain ⟨k₀, hk₀⟩ := cur_mem s.m
    by_cases hb : cur s.m = ⊥
    · -- nothing but −∞ is left
      have hall : ∀ k, s.m k = cur s.m := fun k => le_antisymm (le_cur s.m k) (by rw [hb]; exact bot_le)
      refine .inr ⟨⟨_, ?_, hcard⟩, ?_⟩
      · rw [Finset.filter_true_of_mem fun k _ => hall k, Finset.card_univ, Fintype.card_fin]; omega
      · rw [ht, hb]
        constructor
        · refine (Finset.card_le_card fun k hk => ?_).trans h15
          by_contra hkT
          have := hle k hkT
          rw [hb] at this
          exact absurd ((Finset.mem_filter.mp hk).2.trans_le this) (lt_irrefl _)
        · rw [Finset.filter_true_of_mem fun k _ => bot_le]; decide
    · have hiff : ∀ k, Iff (s.m k = cur s.m) (k ∉ T ∧ x k = cur s.m) := fun k => by
        rw [hm]
        by_cases hkT : k ∈ T
        · rw [if_pos hkT]; exact ⟨fun h => absurd h.symm hb, fun h => absurd hkT h.1⟩
        · rw [if_neg hkT]; exact ⟨fun h => ⟨hkT, h⟩, fun h => h.2⟩
      set E := Finset.univ.filter fun k => s.m k = cur s.m with hE
      have hdisj : Disjoint T E := Finset.disjoint_left.mpr fun k hkT hkE => ((hiff k).mp (Finset.mem_filter.mp hkE).2).1 hkT
      have hcu : (T ∪ E).card = T.card + E.card := Finset.card_union_of_disjoint hdisj
      have hE1 : 1 ≤ E.card := Finset.card_pos.mpr ⟨k₀, Finset.mem_filter.mpr ⟨Finset.mem_univ _, hk₀⟩⟩
      have hcurT : ∀ k ∈ T, cur s.m < x k := fun k hkT => by
        obtain ⟨h1, h2⟩ := (hiff k₀).mp hk₀
        rw [← h2]; exact hT k hkT k₀ h1
      by_cases h16 : (T ∪ E).card ≤ 15
      · refine .inl ⟨T ∪ E, by omega, h16, by rw [hcard, hcu], fun k => ?_, fun k hk l hl => ?_⟩
        · show ite _ _ _ = _
          by_cases hkE : s.m k = cur s.m
          · have hkU : k ∈ T ∪ E := Finset.mem_union_right _ (Finset.mem_filter.mpr ⟨Finset.mem_univ _, hkE⟩)
            rw [if_pos hkE, if_pos hkU]
          · rw [if_neg hkE, hm]
            by_cases hkT : k ∈ T
            · rw [if_pos hkT, if_pos (Finset.mem_union_left _ hkT)]
            · rw [if_neg hkT, if_neg fun h => (Finset.mem_union.mp h).elim hkT fun h => hkE (Finset.mem_filter.mp h).2]
        · have hlT : l ∉ T := fun h => hl (Finset.mem_union_left _ h)
          rcases Finset.mem_union.mp hk with hkT | hkE
          · exact hT k hkT l hlT
          · have hke := ((hiff k).mp (Finset.mem_filter.mp hkE).2).2
            rw [hke]
            refine lt_of_le_of_ne (hle l hlT) fun h => hl (Finset.mem_union_right _ (Finset.mem_filter.mpr ⟨Finset.mem_univ _, (hiff l).mpr ⟨hlT, h⟩⟩))
      · refine .inr ⟨⟨_, by omega, hcard⟩, ?_⟩
        rw [ht]
        constructor
        · refine (Finset.card_le_card fun k hk => ?_).trans h15
          by_contra hkT
          exact absurd ((Finset.mem_filter.mp hk).2.trans_le (hle k hkT)) (lt_irrefl _)
        · refine le_trans (by omega : 16 ≤ (T ∪ E).card) (Finset.card_le_card fun k hk => Finset.mem_filter.mpr ⟨Finset.mem_univ _, ?_⟩)
          rcases Finset.mem_union.mp hk with hkT | hkE
          · exact (hcurT k hkT).le
          · exact ((hiff k).mp (Finset.mem_filter.mp hkE).2).2.ge
  · refine .inr ⟨⟨c + (Finset.univ.filter fun k => s.m k = cur s.m).card, by omega, ?_⟩, ?_⟩
    · show s.cum + _ = _
      rw [sum_ind, hc]; push_cast; rfl
    · have : (rowStep s).t = s.t := by
        show ite _ _ _ = _
        rw [hc, if_neg fun h => absurd ((lt_fifteen _).mp h) (by omega)]
      rw [this]; exact hk

/-- After `n` steps from the start the invariant holds for `n`. -/
theorem RowInv.iterate {x : Fin 256 → EReal} : ∀ n : ℕ, RowInv x n (rowStep^[n] ⟨x, 0, ⊥⟩)
  | 0 => .inl ⟨∅, by simp, by simp, by simp, fun k => by simp, fun k hk => absurd hk (Finset.notMem_empty k)⟩
  | n + 1 => by rw [Function.iterate_succ_apply']; exact (RowInv.iterate n).step

/-- Sixteen steps find the sixteenth greatest. -/
theorem kth_steps (x : Fin 256 → EReal) : Kth x (rowStep^[16] ⟨x, 0, ⊥⟩).t := by
  rcases RowInv.iterate (x := x) 16 with ⟨T, h1, h2, -⟩ | ⟨-, h⟩
  · exact absurd (h1.trans h2) (by decide)
  · exact h

end Cert.Value

end
-- ==== Proof.Value.Mask.lean ====
/-
  The kept positions: the kernel's threshold search on the two batches stacked keeps what the reference's sixteenth
  greatest score keeps.
-/
module

public import proofs.«01_k».proof.Proof.Value.Kth
public import proofs.«01_k».proof.Proof.KernelIdeal.Steps
public import proofs.«01_k».proof.Proof.Reference.Value
public import Idealize.ShloMosaic.Lib.Pointwise

@[expose] public section

set_option maxRecDepth 65536

noncomputable section

namespace Cert.Value

open Idealize.ShloMosaic Idealize.ShloMosaic.TcCoe Idealize.SL.Sem
open Cert.KernelIdeal Cert.KernelIdeal.Blocks

/-- A stacked array's row of a batch. -/
abbrev row (b : Fin 2) (i : Fin 16) : Fin 32 := ⟨16 * b.val + i.val, by omega⟩

/-- The two batches stacked hold a tensor's two batches. -/
def Stacks (p : FVec Ideal S32x256 .f32) (s : FVec Ideal Cert.ReferenceIdeal.S2x16x256 .f32) : Prop :=
  ∀ (b : Fin 2) (i : Fin 16) (j : Fin 256), p (ix2 (row b i) j) = s (ix3 b i j)

/-- One row of the search. -/
def rowOf (s : Thr Ideal) (r : Fin 32) : Row := ⟨fun k => s.m (ix2 r k), s.cum (ix2 r 0), s.t (ix2 r 0)⟩

/-- A truth value as a number, the kernel's way and the reference's. -/
theorem num_bool (p : Prop) [Decidable p] : FloatOps.sitofp (F := Ideal) .f32 (BitVec.setWidth 32 (BitVec.ofBool (decide p))) = if p then (1 : EReal) else 0 := by
  by_cases h : p <;> simp [h, FloatOps.sitofp]
@[inherit_doc num_bool]
theorem unum_bool (p : Prop) [Decidable p] : FloatOps.uitofp (F := Ideal) .f32 (BitVec.ofBool (decide p)) = if p then (1 : EReal) else 0 := by
  by_cases h : p <;> simp [h, FloatOps.uitofp]

/-- The named constant is −∞. -/
theorem floor_bot : (Named.named κ "floor" 0xFF61B1E6#32 : Ideal .f32) = (⊥ : EReal) := rfl

/-- A step of the kernel's search is a step on each row. -/
theorem rowOf_step (s : Thr Ideal) (r : Fin 32) : rowOf (thrStep s) r = rowStep (rowOf s r) := by
  unfold rowOf rowStep thrStep cur
  congr 1
  · funext k
    pointwise [eqOf, curOf, floorC, c_bot, floor_bot]
  · pointwise [eqOf, curOf, floorC, c_bot, num_bool]
  · pointwise [eqOf, curOf, floorC, c_bot, c_fifteen]

/-- The kernel's threshold is its row's sixteenth greatest score. -/
theorem thr_kth (p : FVec Ideal S32x256 .f32) (r : Fin 32) : Kth (fun k => p (ix2 r k)) (thr p (ix2 r 0)) := by
  have h : ∀ n, rowOf (thrStep^[n] (thrInit p)) r = rowStep^[n] ⟨fun k => p (ix2 r k), 0, ⊥⟩ := fun n => by
    induction n with
    | zero =>
      show Row.mk _ _ _ = _
      congr 1
      exact Ideal.ofBits_zero_f32
    | succ n ih => rw [Function.iterate_succ_apply', Function.iterate_succ_apply', rowOf_step, ih]
  have := kth_steps fun k => p (ix2 r k)
  rw [← h] at this
  exact this

/-- The kernel's mask at a place: 1 where the score reaches its row's threshold, else 0. -/
theorem keep_at (p : FVec Ideal S32x256 .f32) (r : Fin 32) (j : Fin 256) :
    keepOf p (ix2 r j) = if (thr p) (ix2 r 0) ≤ p (ix2 r j) then (1 : EReal) else 0 := by
  pointwise [keepOf, num_bool]

/-- The reference's mask at a place: 1 where the score reaches the sixteenth of its row in falling order, else 0. -/
theorem mask_at (s : Cert.ReferenceIdeal.Line.Ten Ideal Cert.ReferenceIdeal.S2x16x256) (b : Fin 2) (i : Fin 16) (j : Fin 256) :
    ∃ before : Fin 256 → Fin 256 → Bool, (∀ a c, Iff (before a c = true) (s (ix3 b i c) < s (ix3 b i a)))
      ∧ Cert.ReferenceIdeal.Line.maskF s (ix3 b i j) = if s (ix3 b i (sortedFrom before 15)) ≤ s (ix3 b i j) then (1 : EReal) else 0 := by
  have ha : ∀ k : Fin 256, (ix3 b i (15 : Fin 256) : Cert.ReferenceIdeal.S2x16x256.Idx).along 2 k = ix3 b i k := fun k => by
    funext a; fin_cases a <;> rfl
  refine ⟨fun k k' => FloatOps.cmpfTotal (F := Ideal) (φ := .f32) CmpDirection.gt (s (ix3 b i k)) (s (ix3 b i k')) == 1#1, fun a c => ?_, ?_⟩
  · show Iff ((BitVec.ofBool (decide (s (ix3 b i c) < s (ix3 b i a))) == 1#1) = true) _
    by_cases h : s (ix3 b i c) < s (ix3 b i a) <;> simp [h]
  · pointwise [Cert.ReferenceIdeal.Line.maskF, Host.topK, Host.sort2, unum_bool, ha]

/-- THE KEPT POSITIONS AGREE. -/
theorem keep_mask {p : FVec Ideal S32x256 .f32} {s : Cert.ReferenceIdeal.Line.Ten Ideal Cert.ReferenceIdeal.S2x16x256} (h : Stacks p s) :
    Stacks (keepOf p) (Cert.ReferenceIdeal.Line.maskF s) := fun b i j => by
  obtain ⟨before, hb, hm⟩ := mask_at s b i j
  have hk := thr_kth p (row b i)
  have hs := kth_sorted (fun k => s (ix3 b i k)) before hb
  have e : (fun k => p (ix2 (row b i) k)) = fun k => s (ix3 b i k) := funext fun k => h b i k
  rw [e] at hk
  rw [keep_at, hm, hk.unique hs, h b i j]

/-- The kept positions are ones and zeros. -/
theorem keep_bit (p : FVec Ideal S32x256 .f32) (r : Fin 32) (j : Fin 256) : keepOf p (ix2 r j) = (0 : EReal) ∨ keepOf p (ix2 r j) = (1 : EReal) := by
  rw [keep_at]; split
  · exact .inr rfl
  · exact .inl rfl

end Cert.Value

end
-- ==== Proof.Value.Push.lean ====
/-
  One trip of the assignment: the kernel's settled test and its new scores on the two batches stacked are the reference's.
-/
module

public import proofs.«01_k».proof.Proof.Value.Mask

@[expose] public section

set_option maxRecDepth 65536

noncomputable section

namespace Cert.Value

open Idealize.ShloMosaic Idealize.ShloMosaic.TcCoe Idealize.SL.Sem
open Cert.KernelIdeal Cert.KernelIdeal.Blocks

/-- Adding a number times the negative of another is taking their product away. -/
theorem less_eq (a b c : EReal) : a + b * -c = a - b * c := by rw [mul_neg, sub_eq_add_neg]

/-- The first batch's new scores. -/
theorem low0 {p k : FVec Ideal S32x256 .f32} {s t : Cert.ReferenceIdeal.Line.Ten Ideal Cert.ReferenceIdeal.S2x16x256}
    (hp : ∀ (i : Fin 16) (j : Fin 256), p (ix2 (⟨i.val, by omega⟩ : Fin 32) j) = s (ix3 0 i j))
    (hk : ∀ (i : Fin 16) (j : Fin 256), k (ix2 (⟨i.val, by omega⟩ : Fin 32) j) = t (ix3 0 i j)) (i : Fin 16) (j : Fin 256) :
    lowered p k (ix2 (⟨i.val, by omega⟩ : Fin 32) j) = Cert.ReferenceIdeal.Line.pushF s t (ix3 0 i j) := by
  pointwise [lowered, best, above, argTop, pushed, colSum, num_bool, unum_bool, Cert.ReferenceIdeal.Line.pushF, hp, hk, c_neg]
  exact congrArg (HAdd.hAdd _) (congrArg (HMul.hMul _) (less_eq _ _ _))

/-- The second batch's new scores. -/
theorem low1 {p k : FVec Ideal S32x256 .f32} {s t : Cert.ReferenceIdeal.Line.Ten Ideal Cert.ReferenceIdeal.S2x16x256}
    (hp : ∀ (i : Fin 16) (j : Fin 256), p (ix2 (⟨16 + i.val, by omega⟩ : Fin 32) j) = s (ix3 1 i j))
    (hk : ∀ (i : Fin 16) (j : Fin 256), k (ix2 (⟨16 + i.val, by omega⟩ : Fin 32) j) = t (ix3 1 i j)) (i : Fin 16) (j : Fin 256) :
    lowered p k (ix2 (⟨16 + i.val, by omega⟩ : Fin 32) j) = Cert.ReferenceIdeal.Line.pushF s t (ix3 1 i j) := by
  pointwise [lowered, best, above, argTop, pushed, colSum, num_bool, unum_bool, Cert.ReferenceIdeal.Line.pushF, hp, hk, c_neg]
  exact congrArg (HAdd.hAdd _) (congrArg (HMul.hMul _) (less_eq _ _ _))

/-- The new scores are the reference's. -/
theorem low_push {p k : FVec Ideal S32x256 .f32} {s t : Cert.ReferenceIdeal.Line.Ten Ideal Cert.ReferenceIdeal.S2x16x256}
    (hp : Stacks p s) (hk : Stacks k t) : Stacks (lowered p k) (Cert.ReferenceIdeal.Line.pushF s t) := fun b i j => by
  have e0 : ∀ i : Fin 16, row 0 i = (⟨i.val, by omega⟩ : Fin 32) := fun i => Fin.ext (by simp [row])
  have e1 : ∀ i : Fin 16, row 1 i = (⟨16 + i.val, by omega⟩ : Fin 32) := fun i => Fin.ext (by simp [row])
  fin_cases b
  · have := low0 (p := p) (k := k) (fun i j => by rw [← e0]; exact hp 0 i j) (fun i j => by rw [← e0]; exact hk 0 i j) i j
    rw [← e0] at this; exact this
  · have := low1 (p := p) (k := k) (fun i j => by rw [← e1]; exact hp 1 i j) (fun i j => by rw [← e1]; exact hk 1 i j) i j
    rw [← e1] at this; exact this

/-- A bitwise conjunction of truth values. -/
theorem fold_and {ι : Type} [DecidableEq ι] (s : Finset ι) (f : ι → Prop) [DecidablePred f] :
    Iff (Finset.fold IntOp.andi (1#1) (fun x => BitVec.ofBool (decide (f x))) s = 1#1) (∀ x ∈ s, f x) := by
  induction s using Finset.induction_on with
  | empty => simp
  | insert a s ha ih =>
    rw [Finset.fold_insert ha, Finset.forall_mem_insert, ← ih]
    generalize Finset.fold IntOp.andi (1#1) (fun x => BitVec.ofBool (decide (f x))) s = z
    by_cases h : f a <;> simp only [h, IntOp.andi, decide_true, decide_false, true_and, false_and] <;> revert z <;> decide

/-- The least of ones and zeros is positive just when all are ones. -/
theorem min_pos {ι : Type} (s : Finset ι) (f : ι → Prop) [DecidablePred f] :
    Iff ((0 : EReal) < Finset.fold min (⊤ : EReal) (fun x => if f x then (1 : EReal) else 0) s) (∀ x ∈ s, f x) := by
  rw [Finset.lt_fold_min]
  constructor
  · rintro ⟨-, h⟩ x hx
    by_contra hc
    have := h x hx
    rw [if_neg hc] at this
    exact lt_irrefl _ this
  · intro h
    refine ⟨EReal.zero_lt_top, fun x hx => ?_⟩
    rw [if_pos (h x hx)]; exact zero_lt_one

/-- When the kernel's test says yes. -/
theorem settled_iff (m : FVec Ideal S32x256 .f32) :
    Iff (settled m = 1#1) (∀ (b : Fin 2) (j : Fin 256), ∑ i : Fin 16, m (ix2 (row b i) j) < Ideal.ofBits FTy.f32 1073741824#32) := by
  have h : settled m = Scalar.andi
      (BitVec.ofBool (decide ((0 : EReal) < Finset.fold min (⊤ : EReal)
        (fun x : Fin 1 × Fin 256 => if ∑ i : Fin 16, m (ix2 (⟨i.val, by omega⟩ : Fin 32) x.2) < Ideal.ofBits FTy.f32 1073741824#32 then (1 : EReal) else 0) Finset.univ)))
      (BitVec.ofBool (decide ((0 : EReal) < Finset.fold min (⊤ : EReal)
        (fun x : Fin 1 × Fin 256 => if ∑ i : Fin 16, m (ix2 (⟨16 + i.val, by omega⟩ : Fin 32) x.2) < Ideal.ofBits FTy.f32 1073741824#32 then (1 : EReal) else 0) Finset.univ))) := by
    pointwise [settled, allBelow, colSum, c_top]
  have e0 : ∀ i : Fin 16, row 0 i = (⟨i.val, by omega⟩ : Fin 32) := fun i => Fin.ext (by simp [row])
  have e1 : ∀ i : Fin 16, row 1 i = (⟨16 + i.val, by omega⟩ : Fin 32) := fun i => Fin.ext (by simp [row])
  rw [h]
  have and2 : ∀ p q : Prop, ∀ [Decidable p] [Decidable q], Iff (Scalar.andi (BitVec.ofBool (decide p)) (BitVec.ofBool (decide q)) = 1#1) (p ∧ q) := by
    intro p q _ _
    by_cases h : p <;> by_cases h' : q <;> simp [h, h', Scalar.andi, IntOp.andi]
  rw [and2]
  simp only [min_pos, Finset.mem_univ, true_implies, Prod.forall]
  rw [Fin.forall_fin_two]
  simp only [e0, e1, Fin.forall_fin_one]

/-- When the reference's test says yes. -/
theorem done_iff (m : Cert.ReferenceIdeal.Line.Ten Ideal Cert.ReferenceIdeal.S2x16x256) (i) :
    Iff (Cert.ReferenceIdeal.Line.doneF m i = 1#1) (∀ (b : Fin 2) (j : Fin 256), ∑ i : Fin 16, m (ix3 b i j) < Ideal.ofBits FTy.f32 1073741824#32) := by
  have h : Cert.ReferenceIdeal.Line.doneF m i = Finset.fold IntOp.andi (1#1)
      (fun x : Fin 2 × Fin 256 => BitVec.ofBool (decide (∑ i : Fin 16, m (ix3 x.1 i x.2) < Ideal.ofBits FTy.f32 1073741824#32))) Finset.univ := by
    pointwise [Cert.ReferenceIdeal.Line.doneF]
  rw [h, fold_and]
  simp only [Finset.mem_univ, true_implies, Prod.forall]

/-- A bit is set or not. -/
theorem bit_eq {x y : BitVec 1} (h : Iff (x = 1#1) (y = 1#1)) : x = y := by
  revert x y; decide

/-- The two tests agree. -/
theorem settled_done {k : FVec Ideal S32x256 .f32} {t : Cert.ReferenceIdeal.Line.Ten Ideal Cert.ReferenceIdeal.S2x16x256} (hk : Stacks k t) (i) :
    Cert.ReferenceIdeal.Line.doneF t i = settled k := by
  refine bit_eq ((done_iff t i).trans (Iff.trans ?_ (settled_iff k).symm))
  have e : ∀ b j, ∑ i : Fin 16, k (ix2 (row b i) j) = ∑ i : Fin 16, t (ix3 b i j) := fun b j => Finset.sum_congr rfl fun i _ => hk b i j
  simp only [e]

open Cert.ReferenceIdeal.Line in
/-- The kernel's loop is the reference's iterate. -/
theorem loop_step (n : ℕ) : ∀ {p k : FVec Ideal S32x256 .f32} {d : BitVec 1} {s : St Ideal}, Stacks p s.1 → Stacks k s.2.1 → (∀ i, s.2.2 i = d) →
    Stacks (runLoop n p k d) (stepF^[n] s).2.1 := by
  induction n with
  | zero => intro p k d s _ hk _; exact hk
  | succ n ih =>
    intro p k d s hp hk hd
    rw [Function.iterate_succ_apply]
    by_cases h : d = 1#1
    · have key : ∀ (n : ℕ) (s : St Ideal), Stacks k s.2.1 → (∀ i, s.2.2 i = 1#1) → Stacks k (stepF^[n] s).2.1 := by
        intro n
        induction n with
        | zero => intro s h _; exact h
        | succ n ih =>
          intro s hs hd
          rw [Function.iterate_succ_apply]
          refine ih _ (fun b i j => ?_) (fun i => ?_)
          · rw [hs b i j]; unfold stepF; pointwise [whereF, hd]
          · unfold stepF; pointwise [hd]
            generalize doneF (F := Ideal) _ _ = z
            revert z; decide
      rw [runLoop, if_pos h]
      subst h
      exact key (n + 1) s hk hd
    · have h0 : d = 0#1 := by
        have : ∀ x : BitVec 1, ¬x = 1#1 → x = 0#1 := by decide
        exact this d h
      rw [runLoop, if_neg h]
      have hm := keep_mask hp
      have hdone := settled_done hm
      have hor : ∀ i, (stepF s).2.2 i = settled (keepOf p) := fun i => by
        rw [← hdone i]; unfold stepF; pointwise [hd, h0]
        generalize doneF (F := Ideal) _ _ = z
        revert z; decide
      refine ih (fun b i j => ?_) (fun b i j => ?_) hor
      · have := low_push hp hm b i j
        have h1 : ori s.2.2 (doneF (maskF s.1)) ix0 = settled (keepOf p) := hor ix0
        unfold stepF
        pointwise [whereF, nextPt] at h1 ⊢
        rw [h1, this, hp b i j]
      · rw [hm b i j]; unfold stepF; pointwise [whereF, hd, h0]

end Cert.Value

end
-- ==== Proof.Value.Graph.lean ====
/-
  The points' graph of one batch: the kernel's lower triangle in sixteen chunks, mirrored, is the reference's symmetric matrix of distances.
-/
module

public import proofs.«01_k».proof.Proof.Value.Mask

@[expose] public section

set_option maxRecDepth 65536

noncomputable section

namespace Cert.Value

open Idealize.ShloMosaic Idealize.ShloMosaic.TcCoe Idealize.SL.Sem
open Cert.KernelIdeal Cert.KernelIdeal.Blocks
open Cert.ReferenceIdeal.Line (Ten graphF sqrtF eyeF)

/-- Minus the distance of two rows. -/
def dist (x y : Fin 384 → EReal) : EReal := -Ideal.sqrt (∑ k, (x k - y k) * (x k - y k) + Ideal.ofBits FTy.f32 0x358637BD#32)

/-- Minus a distance, either way round. -/
theorem dist_comm (x y : Fin 384 → EReal) : dist x y = dist y x := by
  have e : ∀ a b : EReal, (a - b) * (a - b) = (b - a) * (b - a) := fun a b => by
    induction a <;> induction b <;> try simp
    norm_cast
    ring
  unfold dist
  simp only [e]

/-- Whether two small words are equal, as a number: the reference's way and the kernel's. -/
theorem eye_ref (i j : Fin 256) : FloatOps.uitofp (F := Ideal) FTy.f32 (IntOp.cmpi CmpIPredicate.eq (IntOp.addi (BitVec.ofNat 32 i.val) 0#32) (BitVec.ofNat 32 j.val))
    = if i = j then (1 : EReal) else 0 := by
  have e : IntOp.cmpi CmpIPredicate.eq (IntOp.addi (BitVec.ofNat 32 i.val) 0#32) (BitVec.ofNat 32 j.val) = BitVec.ofBool (decide (i = j)) := by
    have : Iff (BitVec.ofNat 32 i.val = BitVec.ofNat 32 j.val) (i = j) := by
      rw [← BitVec.toNat_inj]; simp only [BitVec.toNat_ofNat]; omega
    have h2 : (BitVec.ofNat 32 i.val == BitVec.ofNat 32 j.val) = decide (i = j) := by rw [← decide_eq_decide.mpr this]; rfl
    simp only [IntOp.cmpi, IntOp.addi, BitVec.add_zero, h2]
  rw [e, unum_bool]
@[inherit_doc eye_ref]
theorem eye_kernel (i j : Fin 256) : FloatOps.sitofp (F := Ideal) FTy.f32 (BitVec.setWidth 32 (IntOp.cmpi CmpIPredicate.eq (BitVec.ofNat 32 i.val) (BitVec.ofNat 32 j.val)))
    = if i = j then (1 : EReal) else 0 := by
  have e : IntOp.cmpi CmpIPredicate.eq (BitVec.ofNat 32 i.val) (BitVec.ofNat 32 j.val) = BitVec.ofBool (decide (i = j)) := by
    have : Iff (BitVec.ofNat 32 i.val = BitVec.ofNat 32 j.val) (i = j) := by
      rw [← BitVec.toNat_inj]; simp only [BitVec.toNat_ofNat]; omega
    have h2 : (BitVec.ofNat 32 i.val == BitVec.ofNat 32 j.val) = decide (i = j) := by rw [← decide_eq_decide.mpr this]; rfl
    simp only [IntOp.cmpi, h2]
  rw [e, num_bool]

/-- Whether an index is on or below the diagonal. -/
theorem sge_bit (i j : Fin 256) : IntOp.cmpi CmpIPredicate.sge (BitVec.ofNat 32 i.val) (BitVec.ofNat 32 j.val) = BitVec.ofBool (decide (j ≤ i)) := by
  have h : ∀ k : Fin 256, (BitVec.ofNat 32 k.val).toInt = k.val := by decide
  simp only [IntOp.cmpi, BitVec.sle, h, Nat.cast_le, Fin.val_fin_le]

/-- The reference's graph. -/
theorem graph_ref (P : Ten Ideal Cert.ReferenceIdeal.S2x256x384) (b : Fin 2) (i j : Fin 256) :
    graphF P (ix3 b i j) = dist (fun k => P (ix3 b i k)) (fun k => P (ix3 b j k)) + (if i = j then 1 else 0) * Ideal.ofBits FTy.f32 0xC9742400#32 := by
  pointwise [graphF, sqrtF, eyeF, dist, eye_ref]

/-- The first chunk. -/
theorem col0_at (sd : FVec Ideal S256x384 .f32) (i : Fin 256) (c : Fin 16) :
    col0 sd (ix2 i c) = dist (fun k => sd (ix2 i k)) (fun k => sd (ix2 (⟨c.val, by omega⟩ : Fin 256) k)) := by
  pointwise [col0, negDist, dist]
  rw [zero_sub]

/-- A sum over the last axis at any number of rows. -/
theorem red_at (n : ℕ) (v : FVec Ideal ⟨3, ![n, 16, 384]⟩ .f32) (h) (i : Fin n) (c : Fin 16) :
    multiReduction .add [2] ⟨2, ![n, 16]⟩ v 0x00000000#32 h (.inl rfl) rfl (ix2 i c) = ∑ k : Fin 384, v (ix3 i c k) := by
  pointwise []

/-- Rows repeated along the middle axis. -/
theorem bc_at (n : ℕ) (v : FVec Ideal ⟨3, ![n, 1, 384]⟩ .f32) (h) (i : Fin n) (c : Fin 16) (k : Fin 384) :
    broadcastTo ⟨3, ![n, 16, 384]⟩ v h (ix3 i c k) = v (ix3 i 0 k) := by
  pointwise []
  refine congrArg v (funext fun a => Fin.ext ?_)
  match a with
  | 0 =>
    by_cases hn : n = 1
    · subst hn
      have := i.isLt
      show _ = i.val
      simp [Shape.Idx.norm]
    · simp [Shape.Idx.norm, hn, ix3]; rfl
  | 1 => simp [Shape.Idx.norm, ix3]; rfl
  | 2 => simp [Shape.Idx.norm, ix3]; rfl

/-- Sixteen rows repeated along the first axis. -/
theorem bd_at (n : ℕ) (v : FVec Ideal S1x16x384 .f32) (h) (i : Fin n) (c : Fin 16) (k : Fin 384) :
    broadcastTo ⟨3, ![n, 16, 384]⟩ v h (ix3 i c k) = v (ix3 0 c k) := by
  pointwise []

/-- A middle axis of extent one. -/
theorem sc_at (n : ℕ) (v : FVec Ideal ⟨2, ![n, 384]⟩ .f32) (h) (i : Fin n) (k : Fin 384) :
    shapeCast ⟨3, ![n, 1, 384]⟩ v h (ix3 i 0 k) = v (ix2 i k) := by
  refine shapeCast_apply v h _ _ ?_
  rw [Shape.rowMajor_val_three, Shape.rowMajor_val_two]
  show i.val * 384 + k.val = (i.val * 1 + 0) * 384 + k.val
  omega

/-- Minus the distances at an index. -/
theorem neg_at (n : ℕ) (a : FVec Ideal ⟨3, ![n, 1, 384]⟩ .f32) (b : FVec Ideal S16x384 .f32) (h₁) (h₂) (h₃) (i : Fin n) (c : Fin 16) :
    negDist n a b h₁ h₂ h₃ (ix2 i c) = dist (fun k => a (ix3 i 0 k)) (fun k => b (ix2 c k)) := by
  unfold negDist dist
  pointwise [red_at, bc_at, bd_at]
  rw [zero_sub]

/-- A chunk, from its first row on. -/
theorem col_at (o : ℕ) (hf : ColFacts o) (sd : FVec Ideal S256x384 .f32) (i : Fin 256) (c : Fin 16) (h : o ≤ i.val) (ho : o + c.val < 256) :
    colAt o hf sd (ix2 i c) = dist (fun k => sd (ix2 i k)) (fun k => sd (ix2 (⟨o + c.val, ho⟩ : Fin 256) k)) := by
  have e : colAt o hf sd (ix2 i c) = negDist (256 - o) (shapeCast ⟨3, ![256 - o, 1, 384]⟩ (extractStridedSlice ⟨2, ![256 - o, 384]⟩ ![o, 0] sd hf.1) hf.2.1)
      (extractStridedSlice S16x384 ![o, 0] sd hf.2.2.1) hf.2.2.2.1 hf.2.2.2.2.1 hf.2.2.2.2.2.1 (ix2 ⟨i.val - o, by omega⟩ c) := by
    pointwise [colAt]
    rw [dif_neg (by omega)]
    refine congrArg (negDist _ _ _ _ _ _) (funext fun a => ?_)
    match a with
    | 0 => rfl
    | 1 => rfl
  rw [e, neg_at]
  have h0 : ∀ k, shapeCast ⟨3, ![256 - o, 1, 384]⟩ (extractStridedSlice ⟨2, ![256 - o, 384]⟩ ![o, 0] sd hf.1) hf.2.1 (ix3 (⟨i.val - o, by omega⟩ : Fin (256 - o)) 0 k)
      = sd (ix2 i k) := fun k => by
    rw [sc_at]
    pointwise []
    exact congrArg (fun x => sd (ix2 x k)) (Fin.ext (by show o + (i.val - o) = i.val; omega))
  have h1 : ∀ k, extractStridedSlice S16x384 ![o, 0] sd hf.2.2.1 (ix2 c k) = sd (ix2 (⟨o + c.val, ho⟩ : Fin 256) k) := fun k => by
    pointwise []
  simp only [h0, h1]

/-- Sixteen pieces side by side. -/
theorem cat16 (p : Fin 16 → FVec Ideal S256x16 .f32) (h) (i j : Fin 256) :
    concatenate S256x256 1 [⟨S256x16, p 0⟩, ⟨S256x16, p 1⟩, ⟨S256x16, p 2⟩, ⟨S256x16, p 3⟩, ⟨S256x16, p 4⟩, ⟨S256x16, p 5⟩, ⟨S256x16, p 6⟩, ⟨S256x16, p 7⟩,
      ⟨S256x16, p 8⟩, ⟨S256x16, p 9⟩, ⟨S256x16, p 10⟩, ⟨S256x16, p 11⟩, ⟨S256x16, p 12⟩, ⟨S256x16, p 13⟩, ⟨S256x16, p 14⟩, ⟨S256x16, p 15⟩] h (ix2 i j)
      = p ⟨j.val / 16, by omega⟩ (ix2 i ⟨j.val % 16, by omega⟩) := by
  have e := concatenate_ofFn_apply (t := S256x256) (s₁ := S256x16) 1 p h rfl 16 rfl (ix2 i j) ⟨j.val / 16, by omega⟩ (by show j.val / 16 = j.val / 16; rfl)
    (ix2 i ⟨j.val % 16, by omega⟩) (by show j.val % 16 = j.val % 16; rfl) (fun c hc => by
      match c with
      | 0 => rfl
      | 1 => exact absurd rfl hc)
  exact e

/-- The lower triangle. -/
theorem lower_at (sd : FVec Ideal S256x384 .f32) (i j : Fin 256) (h : j ≤ i) :
    lower sd (ix2 i j) = dist (fun k => sd (ix2 i k)) (fun k => sd (ix2 j k)) := by
  let p : Fin 16 → FVec Ideal S256x16 .f32 := fun q => if hq : q.val = 0 then col0 sd else col ⟨q.val - 1, by omega⟩ sd
  have e : lower sd (ix2 i j) = p ⟨j.val / 16, by omega⟩ (ix2 i ⟨j.val % 16, by omega⟩) := cat16 p _ i j
  rw [e]
  show (if hq : j.val / 16 = 0 then col0 sd else col ⟨j.val / 16 - 1, by omega⟩ sd) _ = _
  have hj : j.val ≤ i.val := h
  split
  · rename_i hq
    rw [col0_at]
    have : (⟨j.val % 16, by omega⟩ : Fin 256) = j := Fin.ext (by show j.val % 16 = j.val; omega)
    have e2 : (⟨(⟨j.val % 16, by omega⟩ : Fin 16).val, by omega⟩ : Fin 256) = j := this
    rw [e2]
  · rename_i hq
    refine (col_at _ _ sd i (⟨j.val % 16, by omega⟩ : Fin 16) (by show 16 * (j.val / 16 - 1 + 1) ≤ i.val; omega) (by show 16 * (j.val / 16 - 1 + 1) + j.val % 16 < 256; omega)).trans ?_
    have : (⟨16 * (j.val / 16 - 1 + 1) + j.val % 16, by omega⟩ : Fin 256) = j := Fin.ext (by show 16 * (j.val / 16 - 1 + 1) + j.val % 16 = j.val; omega)
    exact congrArg (dist _) (funext fun k => congrArg (fun x => sd (ix2 x k)) this)

/-- The graph at an index. -/
theorem graph_at (sd : FVec Ideal S256x384 .f32) (i j : Fin 256) :
    graph sd (ix2 i j) = dist (fun k => sd (ix2 i k)) (fun k => sd (ix2 j k)) + (if i = j then 1 else 0) * Ideal.ofBits FTy.f32 0xC9742400#32 := by
  pointwise [graph, eye_kernel, sge_bit]
  by_cases h : j ≤ i
  · pointwise [h, lower_at sd i j h]
  · pointwise [h, lower_at sd j i (by omega)]
    rw [dist_comm]

variable {sd : FVec Ideal S256x384 .f32} {P : Ten Ideal Cert.ReferenceIdeal.S2x256x384} {b : Fin 2}

/-- THE GRAPHS AGREE. -/
theorem graph_eq (hp : ∀ i k, sd (ix2 i k) = P (ix3 b i k)) (i j : Fin 256) : graph sd (ix2 i j) = graphF P (ix3 b i j) := by
  rw [graph_at, graph_ref]
  simp only [hp]

/-- The reference's graph is symmetric. -/
theorem graph_symm (i j : Fin 256) : graphF P (ix3 b i j) = graphF P (ix3 b j i) := by
  rw [graph_ref, graph_ref, dist_comm]
  simp only [eq_comm]

end Cert.Value

end
-- ==== Proof.Value.Kmean.lean ====
/-
  One clustering step on one batch: the kernel's is the reference's, where the graph and the labels are.
-/
module

public import proofs.«01_k».proof.Proof.Value.Mask

@[expose] public section

set_option maxRecDepth 65536

noncomputable section

namespace Cert.Value

open Idealize.ShloMosaic Idealize.ShloMosaic.TcCoe Idealize.SL.Sem
open Cert.KernelIdeal Cert.KernelIdeal.Blocks
open Cert.ReferenceIdeal.Line (Ten lowF logitF softF centF sqF kmeanF)

variable {b : Fin 2}

/-- The rows' weights. -/
theorem row_low {g : FVec Ideal S256x256 .f32} {lab : FVec Ideal S256x16 .f32} {G : Ten Ideal Cert.ReferenceIdeal.S2x256x256}
    {L : Ten Ideal Cert.ReferenceIdeal.S2x256x16} (hg : ∀ i j, g (ix2 i j) = G (ix3 b i j)) (hs : ∀ i j, G (ix3 b i j) = G (ix3 b j i))
    (hl : ∀ i c, lab (ix2 i c) = L (ix3 b i c)) (j : Fin 256) : rowMax g lab (ix1 j) = lowF L G (ix2 b j) := by
  pointwise [rowMax, lowF, hg, hl]
  refine congrArg (fun f => Finset.fold max _ f Finset.univ) (funext fun x => ?_)
  rw [hs x j]
  have e : ∑ c : Fin 16, L (ix3 b x c) * L (ix3 b j c) = ∑ c : Fin 16, L (ix3 b j c) * L (ix3 b x c) := Finset.sum_congr rfl fun c _ => mul_comm _ _
  rw [e]

/-- The softmax weights. -/
theorem weights_soft {r : FVec Ideal S256 .f32} {lt : FVec Ideal S16x256 .f32} {R : Ten Ideal Cert.ReferenceIdeal.S2x256}
    {L : Ten Ideal Cert.ReferenceIdeal.S2x256x16} (hr : ∀ j, r (ix1 j) = R (ix2 b j)) (hl : ∀ c i, lt (ix2 c i) = L (ix3 b i c))
    (c : Fin 16) (i : Fin 256) : weights r lt (ix2 c i) = softF (logitF L R) (ix3 b c i) := by
  pointwise [weights, softF, logitF, hr, hl, c_bot, bot_sup_eq]

/-- The centres. -/
theorem centres_cent {w : FVec Ideal S16x256 .f32} {sd : FVec Ideal S256x384 .f32} {rd : FVec Ideal S16x384 .f32} {W : Ten Ideal Cert.ReferenceIdeal.S2x16x256}
    {P : Ten Ideal Cert.ReferenceIdeal.S2x256x384} {R : Ten Ideal Cert.ReferenceIdeal.S2x16x384} (hw : ∀ c i, w (ix2 c i) = W (ix3 b c i))
    (hp : ∀ i k, sd (ix2 i k) = P (ix3 b i k)) (hr : ∀ c k, rd (ix2 c k) = R (ix3 b c k)) (c : Fin 16) (k : Fin 384) :
    centres w sd rd (ix2 c k) = centF W P R (ix3 b c k) := by
  pointwise [centres, centF, hw, hp, hr]

/-- Minus the squared distances to the centres. -/
theorem dist_sq {sd : FVec Ideal S256x384 .f32} {ce : FVec Ideal S16x384 .f32} {P : Ten Ideal Cert.ReferenceIdeal.S2x256x384}
    {C : Ten Ideal Cert.ReferenceIdeal.S2x16x384} (hp : ∀ i k, sd (ix2 i k) = P (ix3 b i k)) (hc : ∀ c k, ce (ix2 c k) = C (ix3 b c k))
    (i : Fin 256) (c : Fin 16) : subf (broadcast S256x16 (k32 0x00000000#32)) (sqDist sd ce) (ix2 i c) = sqF P C (ix3 b i c) := by
  pointwise [sqDist, sqF, hp, hc]
  rw [zero_sub]

/-- The clustering step. -/
theorem kmean_ref {sd : FVec Ideal S256x384 .f32} {rd : FVec Ideal S16x384 .f32} {g : FVec Ideal S256x256 .f32} {lab : FVec Ideal S256x16 .f32}
    {lt : FVec Ideal S16x256 .f32} {P : Ten Ideal Cert.ReferenceIdeal.S2x256x384} {R : Ten Ideal Cert.ReferenceIdeal.S2x16x384}
    {G : Ten Ideal Cert.ReferenceIdeal.S2x256x256} {L : Ten Ideal Cert.ReferenceIdeal.S2x256x16} (hp : ∀ i k, sd (ix2 i k) = P (ix3 b i k))
    (hr : ∀ c k, rd (ix2 c k) = R (ix3 b c k)) (hg : ∀ i j, g (ix2 i j) = G (ix3 b i j)) (hs : ∀ i j, G (ix3 b i j) = G (ix3 b j i))
    (hl : ∀ i c, lab (ix2 i c) = L (ix3 b i c)) (ht : ∀ c i, lt (ix2 c i) = L (ix3 b i c)) (i : Fin 256) (c : Fin 16) :
    kmean sd rd g lab lt (ix2 i c) = kmeanF P R L G (ix3 b i c) :=
  dist_sq hp (centres_cent (weights_soft (row_low hg hs hl) ht) hp hr) i c

end Cert.Value

end
-- ==== Proof.Value.Gat.lean ====
/-
  The attention on one batch: the kernel's four heads side by side are the reference's, head by head.
-/
module

public import proofs.«01_k».proof.Proof.Value.Mask

@[expose] public section

set_option maxRecDepth 65536

noncomputable section

namespace Cert.Value

open Idealize.ShloMosaic Idealize.ShloMosaic.TcCoe Idealize.SL.Sem
open Cert.KernelIdeal Cert.KernelIdeal.Blocks
open Cert.ReferenceIdeal.Line (Ten gatQF gatSF gatEF gatOF gatF)

variable {b : Fin 2}

/-- A linear layer, its columns split into heads. -/
theorem lin_at {x : FVec Ideal S272x256 .f32} {w : FVec Ideal S256x128 .f32} {c : FVec Ideal S1x128 .f32} {X : Ten Ideal Cert.ReferenceIdeal.S2x272x256}
    {C : Ten Ideal Cert.ReferenceIdeal.S128} (hx : ∀ i k, x (ix2 i k) = X (ix3 b i k)) (hc : ∀ k, c (ix2 0 k) = C (ix1 k)) (h : Fin 4) (i : Fin 272) (d : Fin 32) :
    lin x w c (ix2 i (⟨h.val * 32 + d.val, by omega⟩ : Fin 128)) = gatQF X w C (ix4 b h i d) := by
  pointwise [lin, gatQF, hx, hc]

/-- One head. -/
theorem head_at {q k v : FVec Ideal S272x32 .f32} {Q K V : Ten Ideal Cert.ReferenceIdeal.S2x4x272x32} {h : Fin 4}
    (hq : ∀ i d, q (ix2 i d) = Q (ix4 b h i d)) (hk : ∀ i d, k (ix2 i d) = K (ix4 b h i d)) (hv : ∀ i d, v (ix2 i d) = V (ix4 b h i d))
    (i : Fin 272) (d : Fin 32) : headOf q k v (ix2 i d) = ∑ j, gatEF (gatSF Q K) (ix4 b h i j) * V (ix4 b h j d) := by
  pointwise [headOf, normed, expo, scores, gatEF, gatSF, hq, hk, hv, c_bot, bot_sup_eq]

/-- The heads joined and projected, in the reference. -/
theorem out_at {E : Ten Ideal Cert.ReferenceIdeal.S2x4x272x272} {V : Ten Ideal Cert.ReferenceIdeal.S2x4x272x32} (w : Ten Ideal Cert.ReferenceIdeal.S128x128)
    (C : Ten Ideal Cert.ReferenceIdeal.S128) (i : Fin 272) (c : Fin 128) : gatOF E V w C (ix3 b i c)
      = ∑ x : Fin 128, (∑ j, E (ix4 b (⟨x.val / 32, by omega⟩ : Fin 4) i j) * V (ix4 b (⟨x.val / 32, by omega⟩ : Fin 4) j (⟨x.val % 32, by omega⟩ : Fin 32))) * w (ix2 x c)
        + C (ix1 c) := by
  pointwise [gatOF]

/-- Four heads side by side. -/
theorem cat4 (p : Fin 4 → FVec Ideal S272x32 .f32) (h) (i : Fin 272) (x : Fin 128) :
    concatenate S272x128 1 [⟨S272x32, p 0⟩, ⟨S272x32, p 1⟩, ⟨S272x32, p 2⟩, ⟨S272x32, p 3⟩] h (ix2 i x)
      = p ⟨x.val / 32, by omega⟩ (ix2 i ⟨x.val % 32, by omega⟩) :=
  concatenate_ofFn_apply (t := S272x128) (s₁ := S272x32) 1 p h rfl 32 rfl (ix2 i x) ⟨x.val / 32, by omega⟩ rfl
    (ix2 i ⟨x.val % 32, by omega⟩) rfl (fun c hc => by
      match c with
      | 0 => rfl
      | 1 => exact absurd rfl hc)

/-- The heads' slices of an array of 128 columns. -/
theorem slices_at (h : Fin 4) : S272x128.Slices ![0, 32 * h.val] S272x32 := by
  revert h; decide
@[inherit_doc slices_at]
theorem slice_at {q : FVec Ideal S272x128 .f32} {Q : Ten Ideal Cert.ReferenceIdeal.S2x4x272x32}
    (hq : ∀ (h : Fin 4) i (d : Fin 32), q (ix2 i (⟨h.val * 32 + d.val, by omega⟩ : Fin 128)) = Q (ix4 b h i d)) (h : Fin 4) (i : Fin 272) (d : Fin 32) :
    extractStridedSlice S272x32 ![0, 32 * h.val] q (slices_at h) (ix2 i d) = Q (ix4 b h i d) := by
  rw [← hq h i d]
  pointwise []
  exact congrArg (fun x => q (ix2 i x)) (Fin.ext (by show 32 * h.val + d.val = h.val * 32 + d.val; omega))

/-- The heads' join and the output projection. -/
theorem attn_at {q k v : FVec Ideal S272x128 .f32} {Q K V : Ten Ideal Cert.ReferenceIdeal.S2x4x272x32} {w : FVec Ideal S128x128 .f32} {c : FVec Ideal S1x128 .f32}
    {C : Ten Ideal Cert.ReferenceIdeal.S128}
    (hq : ∀ (h : Fin 4) i (d : Fin 32), q (ix2 i (⟨h.val * 32 + d.val, by omega⟩ : Fin 128)) = Q (ix4 b h i d))
    (hk : ∀ (h : Fin 4) i (d : Fin 32), k (ix2 i (⟨h.val * 32 + d.val, by omega⟩ : Fin 128)) = K (ix4 b h i d))
    (hv : ∀ (h : Fin 4) i (d : Fin 32), v (ix2 i (⟨h.val * 32 + d.val, by omega⟩ : Fin 128)) = V (ix4 b h i d))
    (hc : ∀ j, c (ix2 0 j) = C (ix1 j)) (i : Fin 272) (j : Fin 128) :
    attn q k v w c (ix2 i j) = gatOF (gatEF (gatSF Q K)) V w C (ix3 b i j) := by
  have e : ∀ x : Fin 128, concatenate S272x128 1 [⟨S272x32, head 0 Gen.slices_S272x128_o0_0_S272x32 q k v⟩,
      ⟨S272x32, head 32 Gen.slices_S272x128_o0_32_S272x32 q k v⟩, ⟨S272x32, head 64 Gen.slices_S272x128_o0_64_S272x32 q k v⟩,
      ⟨S272x32, head 96 Gen.slices_S272x128_o0_96_S272x32 q k v⟩] Gen.concatenates_S272x32_S272x32_S272x32_S272x32_S272x128_d1 (ix2 i x)
      = ∑ j, gatEF (gatSF Q K) (ix4 b (⟨x.val / 32, by omega⟩ : Fin 4) i j) * V (ix4 b (⟨x.val / 32, by omega⟩ : Fin 4) j (⟨x.val % 32, by omega⟩ : Fin 32)) := fun x => by
    refine (cat4 (fun h => head (32 * h.val) (slices_at h) q k v) _ i x).trans ?_
    exact head_at (slice_at hq _) (slice_at hk _) (slice_at hv _) _ _
  rw [out_at]
  unfold attn
  generalize concatenate _ _ _ _ = z at e ⊢
  pointwise [e, hc]

/-- THE ATTENTION. -/
theorem gat_at {p : Params Ideal} {x : FVec Ideal S272x256 .f32} {X : Ten Ideal Cert.ReferenceIdeal.S2x272x256} {bq bk bv bo : Ten Ideal Cert.ReferenceIdeal.S128}
    (hx : ∀ i k, x (ix2 i k) = X (ix3 b i k)) (hq : ∀ k, p.bq (ix2 0 k) = bq (ix1 k)) (hk : ∀ k, p.bk (ix2 0 k) = bk (ix1 k))
    (hv : ∀ k, p.bv (ix2 0 k) = bv (ix1 k)) (ho : ∀ k, p.bo (ix2 0 k) = bo (ix1 k)) (i : Fin 272) (j : Fin 128) :
    attnOf p x (ix2 i j) = gatF X p.wq bq p.wk bk p.wv bv p.wo bo (ix3 b i j) :=
  attn_at (lin_at hx hq) (lin_at hx hk) (lin_at hx hv) ho i j

end Cert.Value

end
-- ==== Proof.Value.Rounds.lean ====
/-
  The four rounds: from the attended rows on, the kernel's two batches follow the reference's.
-/
module

public import proofs.«01_k».proof.Proof.Value.Push
public import proofs.«01_k».proof.Proof.Value.Graph
public import proofs.«01_k».proof.Proof.Value.Kmean
public import proofs.«01_k».proof.Proof.Value.Gat

@[expose] public section

set_option maxRecDepth 65536

noncomputable section

namespace Cert.Value

open Idealize.ShloMosaic Idealize.ShloMosaic.TcCoe Idealize.SL.Sem
open Cert.KernelIdeal Cert.KernelIdeal.Blocks
open Cert.ReferenceIdeal.Line (Ten wideF shotsF pointsF graphF kmeanF startF hotF meanF)

variable {b : Fin 2}

/-- The points' rows. -/
theorem points_at {a : FVec Ideal S272x128 .f32} {x : FVec Ideal S272x256 .f32} {Y : Ten Ideal Cert.ReferenceIdeal.S2x272x128} {X : Ten Ideal Cert.ReferenceIdeal.S2x272x256}
    (ha : ∀ i j, a (ix2 i j) = Y (ix3 b i j)) (hx : ∀ i j, x (ix2 i j) = X (ix3 b i j)) (i : Fin 256) (k : Fin 384) :
    sdOf a x (ix2 i k) = pointsF (wideF Y X) (ix3 b i k) := by
  pointwise [sdOf, pointsF, wideF, ha, hx]

/-- The shots' rows. -/
theorem shots_at {a : FVec Ideal S272x128 .f32} {x : FVec Ideal S272x256 .f32} {Y : Ten Ideal Cert.ReferenceIdeal.S2x272x128} {X : Ten Ideal Cert.ReferenceIdeal.S2x272x256}
    (ha : ∀ i j, a (ix2 i j) = Y (ix3 b i j)) (hx : ∀ i j, x (ix2 i j) = X (ix3 b i j)) (i : Fin 16) (k : Fin 384) :
    rdOf a x (ix2 i k) = shotsF (wideF Y X) (ix3 b i k) := by
  pointwise [rdOf, shotsF, wideF, ha, hx]

/-- What a batch's blocks are in the reference's terms. -/
structure Fits (b : Fin 2) (B : Batch Ideal) (w : Ten Ideal Cert.ReferenceIdeal.S2x272x384) : Prop where
  points : ∀ i k, B.sd (ix2 i k) = pointsF w (ix3 b i k)
  shots : ∀ i k, B.rd (ix2 i k) = shotsF w (ix3 b i k)
  graph : ∀ i j, B.g (ix2 i j) = graphF (pointsF w) (ix3 b i j)

/-- A batch's blocks from its attention fit. -/
theorem fits_of {p : Params Ideal} {x : FVec Ideal S272x256 .f32} {Y : Ten Ideal Cert.ReferenceIdeal.S2x272x128} {X : Ten Ideal Cert.ReferenceIdeal.S2x272x256}
    (ha : ∀ i j, attnOf p x (ix2 i j) = Y (ix3 b i j)) (hx : ∀ i j, x (ix2 i j) = X (ix3 b i j)) : Fits b (batchOf p x) (wideF Y X) :=
  ⟨points_at ha hx, shots_at ha hx, graph_eq (points_at ha hx)⟩

/-- The reference's prediction from labels. -/
abbrev kOf (w : Ten Ideal Cert.ReferenceIdeal.S2x272x384) (l : Ten Ideal Cert.ReferenceIdeal.S2x256x16) : Ten Ideal Cert.ReferenceIdeal.S2x256x16 :=
  kmeanF (pointsF w) (shotsF w) l (graphF (pointsF w))

/-- A prediction. -/
theorem Fits.pred {B : Batch Ideal} {w : Ten Ideal Cert.ReferenceIdeal.S2x272x384} (f : Fits b B w) {lab : FVec Ideal S256x16 .f32} {lt : FVec Ideal S16x256 .f32}
    {L : Ten Ideal Cert.ReferenceIdeal.S2x256x16} (hl : ∀ i c, lab (ix2 i c) = L (ix3 b i c)) (ht : ∀ c i, lt (ix2 c i) = L (ix3 b i c)) (i : Fin 256) (c : Fin 16) :
    kmean B.sd B.rd B.g lab lt (ix2 i c) = kOf w L (ix3 b i c) :=
  kmean_ref f.points f.shots f.graph graph_symm hl ht i c

/-- A prediction from kept rows. -/
theorem Fits.kept {B : Batch Ideal} {w : Ten Ideal Cert.ReferenceIdeal.S2x272x384} (f : Fits b B w) {keep : FVec Ideal S16x256 .f32}
    {L : Ten Ideal Cert.ReferenceIdeal.S2x256x16} (ht : ∀ c i, keep (ix2 c i) = L (ix3 b i c)) (i : Fin 256) (c : Fin 16) :
    predKept B keep (ix2 i c) = kOf w L (ix3 b i c) :=
  f.pred (fun i c => by pointwise [ht]) ht i c

/-- Two batches' predictions, turned and stacked, are the reference's scores. -/
theorem stack_start {p q : FVec Ideal S256x16 .f32} {L : Ten Ideal Cert.ReferenceIdeal.S2x256x16} (hp : ∀ i c, p (ix2 i c) = L (ix3 0 i c))
    (hq : ∀ i c, q (ix2 i c) = L (ix3 1 i c)) : Stacks (stackT p q) (startF L).1 := fun b i j => by
  have e0 : row 0 i = (⟨i.val, by omega⟩ : Fin 32) := Fin.ext (by simp [row])
  have e1 : row 1 i = (⟨16 + i.val, by omega⟩ : Fin 32) := Fin.ext (by simp [row])
  fin_cases b
  · show stackT p q (ix2 (row 0 i) j) = _
    rw [e0]; unfold startF
    pointwise [stackT, hp, hq]
  · show stackT p q (ix2 (row 1 i) j) = _
    rw [e1]; unfold startF
    pointwise [stackT, hp, hq]

/-- What the assignment keeps is the reference's labels. -/
theorem assign_hot {p q : FVec Ideal S256x16 .f32} {L : Ten Ideal Cert.ReferenceIdeal.S2x256x16} (hp : ∀ i c, p (ix2 i c) = L (ix3 0 i c))
    (hq : ∀ i c, q (ix2 i c) = L (ix3 1 i c)) (b : Fin 2) (c : Fin 16) (i : Fin 256) : assign (stackT p q) (ix2 (row b c) i) = hotF L (ix3 b i c) := by
  have h := loop_step 11 (d := 0#1) (k := broadcast S32x256 (k32 0x00000000#32)) (s := startF L) (stack_start hp hq)
    (fun b i j => by unfold startF; pointwise []) (fun i => by unfold startF; pointwise []) b c i
  unfold assign hotF
  rw [h]
  pointwise []

/-- The two halves of the kept rows. -/
theorem halves {keep : FVec Ideal S32x256 .f32} {L : Ten Ideal Cert.ReferenceIdeal.S2x256x16}
    (h : ∀ (b : Fin 2) (c : Fin 16) (i : Fin 256), keep (ix2 (row b c) i) = L (ix3 b i c)) :
    (∀ (c : Fin 16) (i : Fin 256), top keep (ix2 c i) = L (ix3 0 i c)) ∧ (∀ (c : Fin 16) (i : Fin 256), bot keep (ix2 c i) = L (ix3 1 i c)) := by
  have e0 : ∀ i : Fin 16, row 0 i = (⟨i.val, by omega⟩ : Fin 32) := fun i => Fin.ext (by simp [row])
  have e1 : ∀ i : Fin 16, row 1 i = (⟨16 + i.val, by omega⟩ : Fin 32) := fun i => Fin.ext (by simp [row])
  refine ⟨fun c i => ?_, fun c i => ?_⟩
  · rw [← h 0 c i, e0]; pointwise [top]
  · rw [← h 1 c i, e1]; pointwise [bot]

/-- The mean of four predictions. -/
theorem quarter_mean {p q r s : FVec Ideal S256x16 .f32} {P Q R S : Ten Ideal Cert.ReferenceIdeal.S2x256x16} (hp : ∀ i c, p (ix2 i c) = P (ix3 b i c))
    (hq : ∀ i c, q (ix2 i c) = Q (ix3 b i c)) (hr : ∀ i c, r (ix2 i c) = R (ix3 b i c)) (hs : ∀ i c, s (ix2 i c) = S (ix3 b i c)) (i : Fin 256) (c : Fin 16) :
    quarter p q r s (ix3 0 i c) = meanF P Q R S (ix3 b i c) := by
  pointwise [quarter, meanF, hp, hq, hr, hs]
  rw [c_quarter, c_four, Ideal.div_coe (by norm_num), Fin.sum_univ_four]
  rfl

/-- What the kernel loads, in the reference's terms. -/
structure Loads (I : Ins Ideal) (w : Ten Ideal Cert.ReferenceIdeal.S2x272x384) (L : Ten Ideal Cert.ReferenceIdeal.S2x256x16) : Prop where
  fit0 : Fits 0 (batchOf I.p I.x0) w
  fit1 : Fits 1 (batchOf I.p I.x1) w
  lab0 : ∀ i c, I.lab0 (ix2 i c) = L (ix3 0 i c)
  lab1 : ∀ i c, I.lab1 (ix2 i c) = L (ix3 1 i c)
  lt0 : ∀ c i, I.lt0 (ix2 c i) = L (ix3 0 i c)
  lt1 : ∀ c i, I.lt1 (ix2 c i) = L (ix3 1 i c)

variable {I : Ins Ideal} {w : Ten Ideal Cert.ReferenceIdeal.S2x272x384} {L : Ten Ideal Cert.ReferenceIdeal.S2x256x16}

/-- A round after the first: what was kept from one round's labels gives the next predictions. -/
theorem Loads.next (l : Loads I w L) {keep : FVec Ideal S32x256 .f32} {M : Ten Ideal Cert.ReferenceIdeal.S2x256x16}
    (h : ∀ (b : Fin 2) (c : Fin 16) (i : Fin 256), keep (ix2 (row b c) i) = M (ix3 b i c)) :
    (∀ i c, nxt0 I keep (ix2 i c) = kOf w M (ix3 0 i c)) ∧ (∀ i c, nxt1 I keep (ix2 i c) = kOf w M (ix3 1 i c)) :=
  ⟨l.fit0.kept (halves h).1, l.fit1.kept (halves h).2⟩

/-- THE TWO ROWS: each is the reference's row of its batch. -/
theorem Loads.rows (l : Loads I w L) : (∀ i c, out0 I (ix3 0 i c) = Cert.ReferenceIdeal.Line.predsF w L (ix3 0 i c))
    ∧ (∀ i c, out1 I (ix3 0 i c) = Cert.ReferenceIdeal.Line.predsF w L (ix3 1 i c)) := by
  have p0 : ∀ i c, pred0 I (ix2 i c) = kOf w L (ix3 0 i c) := l.fit0.pred l.lab0 l.lt0
  have p1 : ∀ i c, pred1 I (ix2 i c) = kOf w L (ix3 1 i c) := l.fit1.pred l.lab1 l.lt1
  have k1 : ∀ (b : Fin 2) (c : Fin 16) (i : Fin 256), keep1 I (ix2 (row b c) i) = hotF (kOf w L) (ix3 b i c) := assign_hot p0 p1
  have n1 := l.next k1
  have k2 : ∀ (b : Fin 2) (c : Fin 16) (i : Fin 256), keep2 I (ix2 (row b c) i) = hotF (kOf w (hotF (kOf w L))) (ix3 b i c) := assign_hot n1.1 n1.2
  have n2 := l.next k2
  have k3 : ∀ (b : Fin 2) (c : Fin 16) (i : Fin 256), keep3 I (ix2 (row b c) i) = hotF (kOf w (hotF (kOf w (hotF (kOf w L))))) (ix3 b i c) := assign_hot n2.1 n2.2
  have n3 := l.next k3
  exact ⟨quarter_mean p0 n1.1 n2.1 n3.1, quarter_mean p1 n1.2 n2.2 n3.2⟩

end Cert.Value

end
-- ==== Proof.Value.Block.lean ====
/-
  The kernel's result block is the reference's result: the loads, the rounds, and the two stored rows.
-/
module

public import proofs.«01_k».proof.Proof.Value.Rounds
public import proofs.«01_k».proof.Proof.KernelIdeal.Run
public import Idealize.ShloMosaic.Lib.Claim
public import Idealize.ShloMosaic.Lib.Pipeline.ValueKit
public import Idealize.ShloMosaic.Lib.StableHlo.Run

@[expose] public section

set_option maxRecDepth 65536

noncomputable section

namespace Cert.Value

open Idealize.ShloMosaic Idealize.ShloMosaic.TcCoe Idealize.SL.Sem
open Cert.KernelIdeal Cert.KernelIdeal.Blocks
open Cert.ReferenceIdeal.Line (Ten wideF gatF predsF nodesF refF)

/-- A load of a whole array is the array. -/
theorem ld_whole1 (x : Vec Ideal S256x128 .f32) : (View.ld x rW1 : Vec Ideal S256x128 .f32) = x := by
  funext i; idx_vars i; pointwise []
@[inherit_doc ld_whole1]
theorem ld_whole2 (x : Vec Ideal S128x128 .f32) : (View.ld x rW2 : Vec Ideal S128x128 .f32) = x := by
  funext i; idx_vars i; pointwise []
@[inherit_doc ld_whole1]
theorem ld_whole3 (x : Vec Ideal S1x128 .f32) : (View.ld x rW3 : Vec Ideal S1x128 .f32) = x := by
  funext i; idx_vars i; pointwise []
  rw [Subsingleton.elim (0 : Fin 1)]

variable {x : Ten Ideal Cert.ReferenceIdeal.S2x272x256} {lab : Ten Ideal Cert.ReferenceIdeal.S2x256x16} {lt : Ten Ideal Cert.ReferenceIdeal.S2x16x256}
  {wq wk wv : Ten Ideal Cert.ReferenceIdeal.S256x128} {wo : Ten Ideal Cert.ReferenceIdeal.S128x128} {cq ck cv co : FVec Ideal S1x128 .f32}
  {bq bk bv bo : Ten Ideal Cert.ReferenceIdeal.S128}

/-- The loads give what the rounds need. -/
theorem loads_at (ht : ∀ b c i, lt (ix3 b c i) = lab (ix3 b i c)) (hq : ∀ k, cq (ix2 0 k) = bq (ix1 k)) (hk : ∀ k, ck (ix2 0 k) = bk (ix1 k))
    (hv : ∀ k, cv (ix2 0 k) = bv (ix1 k)) (ho : ∀ k, co (ix2 0 k) = bo (ix1 k)) :
    Loads (insAt x lab lt wq cq wk ck wv cv wo co) (wideF (gatF x wq bq wk bk wv bv wo bo) x) lab := by
  have e : insAt x lab lt wq cq wk ck wv cv wo co = insOf wq wk wv wo cq ck cv co
      (View.ld x rX0) (View.ld lab rL0) (View.ld lt rT0) (View.ld x rX1) (View.ld lab rL1) (View.ld lt rT1) := by
    unfold insAt
    rw [ld_whole1, ld_whole1, ld_whole1, ld_whole2, ld_whole3, ld_whole3, ld_whole3, ld_whole3]
  rw [e]
  have x0 : ∀ i k, (insOf wq wk wv wo cq ck cv co (View.ld x rX0) (View.ld lab rL0) (View.ld lt rT0) (View.ld x rX1) (View.ld lab rL1) (View.ld lt rT1)).x0 (ix2 i k)
      = x (ix3 0 i k) := fun i k => by pointwise [insOf]
  have x1 : ∀ i k, (insOf wq wk wv wo cq ck cv co (View.ld x rX0) (View.ld lab rL0) (View.ld lt rT0) (View.ld x rX1) (View.ld lab rL1) (View.ld lt rT1)).x1 (ix2 i k)
      = x (ix3 1 i k) := fun i k => by pointwise [insOf]
  exact ⟨fits_of (gat_at x0 hq hk hv ho) x0, fits_of (gat_at x1 hq hk hv ho) x1, fun i c => by pointwise [insOf], fun i c => by pointwise [insOf],
    fun c i => by pointwise [insOf, ht], fun c i => by pointwise [insOf, ht]⟩

/-- An index of rank three from its coordinates. -/
theorem ext3 {n₀ n₁ n₂ : ℕ} (y : (⟨3, ![n₀, n₁, n₂]⟩ : Shape).Idx) (a : Fin n₀) (b : Fin n₁) (c : Fin n₂) (h0 : (y 0).val = a.val) (h1 : (y 1).val = b.val)
    (h2 : (y 2).val = c.val) : y = ix3 a b c := funext fun d => match d with
  | 0 => Fin.ext h0
  | 1 => Fin.ext h1
  | 2 => Fin.ext h2

/-- THE BLOCK. -/
theorem block_eq (ht : ∀ b c i, lt (ix3 b c i) = lab (ix3 b i c)) (hq : ∀ k, cq (ix2 0 k) = bq (ix1 k)) (hk : ∀ k, ck (ix2 0 k) = bk (ix1 k))
    (hv : ∀ k, cv (ix2 0 k) = bv (ix1 k)) (ho : ∀ k, co (ix2 0 k) = bo (ix1 k)) :
    outBlock (insAt x lab lt wq cq wk ck wv cv wo co) = predsF (wideF (gatF x wq bq wk bk wv bv wo bo) x) lab := by
  have h := (loads_at (x := x) (wq := wq) (wk := wk) (wv := wv) (wo := wo) ht hq hk hv ho).rows
  generalize insAt x lab lt wq cq wk ck wv cv wo co = I at h ⊢
  generalize predsF (wideF (gatF x wq bq wk bk wv bv wo bo) x) lab = R at h ⊢
  funext y
  unfold outBlock
  canon_tiles z hz
  · have ez : z = ix3 (0 : Fin 1) (z 1 : Fin 256) (z 2 : Fin 16) := ext3 z _ _ _ (by show (z 0).val = 0; omega) rfl rfl
    have ey : y = ix3 (1 : Fin 2) (z 1 : Fin 256) (z 2 : Fin 16) := ext3 y _ _ _ (by show (y 0).val = 1; omega) hz1 hz2
    rw [ez, ey]; exact h.2 _ _
  · have ez : z = ix3 (0 : Fin 1) (z 1 : Fin 256) (z 2 : Fin 16) := ext3 z _ _ _ (by show (z 0).val = 0; omega) rfl rfl
    have ey : y = ix3 (0 : Fin 2) (z 1 : Fin 256) (z 2 : Fin 16) := ext3 y _ _ _ (by show (y 0).val = 0; omega) hz1 hz2
    rw [ez, ey]; exact h.1 _ _

variable (m : (ℓ : Loc nD τ sig) → Buf (Elt Ideal) ℓ) (c : Dev nD)

/-- THE KERNEL'S RESULT AT THE LAUNCH is the reference's function of the arguments. -/
theorem launch_eq : outBlock (insAt (V m c main_call0_v0) (V m c main_arg2) (V m c main_call0_v1) (V m c main_arg3) (V m c main_call0_v2) (V m c main_arg5)
      (V m c main_call0_v3) (V m c main_arg7) (V m c main_call0_v4) (V m c main_arg9) (V m c main_call0_v5))
    = refF (m (c, Proc.devRef .tc main_arg0)) (m (c, Proc.devRef .tc main_arg1)) (m (c, Proc.devRef .tc main_arg2)) (m (c, Proc.devRef .tc main_arg3))
        (m (c, Proc.devRef .tc main_arg4)) (m (c, Proc.devRef .tc main_arg5)) (m (c, Proc.devRef .tc main_arg6)) (m (c, Proc.devRef .tc main_arg7))
        (m (c, Proc.devRef .tc main_arg8)) (m (c, Proc.devRef .tc main_arg9)) (m (c, Proc.devRef .tc main_arg10)) := by
  have e0 : V m c main_call0_v0 = nodesF (m (c, Proc.devRef .tc main_arg0)) (m (c, Proc.devRef .tc main_arg1)) := by
    unfold_abbrev_sides
    after_results
    rfl
  have e1 : V m c main_call0_v1 = transpose S2x16x256 [0, 2, 1] (m (c, Proc.devRef .tc main_arg2) : FVec Ideal S2x256x16 .f32) Gen.transposes_S2x256x16_S2x16x256_0_2_1 := by
    unfold_abbrev_sides
    after_results
    rfl
  have e2 : V m c main_call0_v2 = shapeCast S1x128 (m (c, Proc.devRef .tc main_arg4) : FVec Ideal S128 .f32) Gen.shapeCasts_S128_S1x128 := by
    unfold_abbrev_sides
    after_results
    rfl
  have e3 : V m c main_call0_v3 = shapeCast S1x128 (m (c, Proc.devRef .tc main_arg6) : FVec Ideal S128 .f32) Gen.shapeCasts_S128_S1x128 := by
    unfold_abbrev_sides
    after_results
    rfl
  have e4 : V m c main_call0_v4 = shapeCast S1x128 (m (c, Proc.devRef .tc main_arg8) : FVec Ideal S128 .f32) Gen.shapeCasts_S128_S1x128 := by
    unfold_abbrev_sides
    after_results
    rfl
  have e5 : V m c main_call0_v5 = shapeCast S1x128 (m (c, Proc.devRef .tc main_arg10) : FVec Ideal S128 .f32) Gen.shapeCasts_S128_S1x128 := by
    unfold_abbrev_sides
    after_results
    rfl
  rw [e0, e1, e2, e3, e4, e5, V_arg m c main_arg2 (by decide), V_arg m c main_arg3 (by decide), V_arg m c main_arg5 (by decide),
    V_arg m c main_arg7 (by decide), V_arg m c main_arg9 (by decide)]
  have cast : ∀ (x : FVec Ideal S128 .f32) (k : Fin 128), shapeCast S1x128 x Gen.shapeCasts_S128_S1x128 (ix2 0 k) = x (ix1 k) := fun x k => by pointwise []
  exact block_eq (fun b c i => by pointwise []) (cast _) (cast _) (cast _) (cast _)

end Cert.Value

end
-- ==== Proof.Frames.lean ====
/-
  The claims: both printings of the kernel and the reference run to the end, leave their arguments as they were and every counter
  at zero; the one named constant of the idealized printing is the one the claim lists; and the idealized kernel's result is the
  reference's.
-/
module

public import proofs.«01_k».proof.Defs
public import proofs.«01_k».proof.Proof.Gen.Kernel
public import proofs.«01_k».proof.Proof.Gen.KernelIdeal
public import proofs.«01_k».proof.Proof.Kernel.Run
public import proofs.«01_k».proof.Proof.KernelIdeal.Run
public import proofs.«01_k».proof.Proof.Reference.Value
public import proofs.«01_k».proof.Proof.Value.Block

@[expose] public section

noncomputable section

namespace Cert.Proof

open Idealize.ShloMosaic Idealize.SL.Sem

/-- The kernel as printed ends, with its arguments unchanged and every counter at zero. -/
theorem frame_kernel : Cert.quiescent_Kernel (hKernel := Cert.Kernel.Gen.facts) := fun m g _ =>
  (θ_run _ _ _).mono (fun _ h => ⟨fun c => (h.1 c).2, h.2⟩) (Cert.Kernel.Blocks.run_value m g)

/-- The idealized kernel ends, with its arguments unchanged and every counter at zero. -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Blocks.run_value m g)

/-- The reference ends, with its arguments unchanged and every counter at zero. -/
theorem frame_referenceIdeal : Cert.quiescent_ReferenceIdeal (hReferenceIdeal := Cert.ReferenceIdeal.Line.facts) := fun m g _ =>
  (θ_run _ _ _).mono (fun _ h => ⟨fun c => ⟨(h.1 c).2 _ (by decide) rfl, (h.1 c).2 _ (by decide) rfl, (h.1 c).2 _ (by decide) rfl, (h.1 c).2 _ (by decide) rfl,
    (h.1 c).2 _ (by decide) rfl, (h.1 c).2 _ (by decide) rfl, (h.1 c).2 _ (by decide) rfl, (h.1 c).2 _ (by decide) rfl, (h.1 c).2 _ (by decide) rfl,
    (h.1 c).2 _ (by decide) rfl, (h.1 c).2 _ (by decide) rfl⟩, h.2⟩) (Cert.ReferenceIdeal.Line.run_value m g)

/-- The idealized kernel differs from the printed one in the constant named "floor" alone. -/
theorem preserved : Cert.preserves_Kernel_KernelIdeal :=
  IdealRules.named_const.statement Cert.KernelIdeal.κ "floor" .f32 0xFF61B1E6#32 ⊥ rfl

/-- THE VALUE: on equal arguments the idealized kernel and the reference leave the same result. -/
theorem algebraic : Cert.algebraic_KernelIdeal_ReferenceIdeal (hKernelIdeal := Cert.KernelIdeal.Gen.facts)
    (hReferenceIdeal := Cert.ReferenceIdeal.Line.facts) := fun m g m' g' _ hm =>
  ⟨fun c => Cert.ReferenceIdeal.Line.refF (m' (c, Proc.devRef .tc Cert.ReferenceIdeal.main_arg0)) (m' (c, Proc.devRef .tc Cert.ReferenceIdeal.main_arg1))
      (m' (c, Proc.devRef .tc Cert.ReferenceIdeal.main_arg2)) (m' (c, Proc.devRef .tc Cert.ReferenceIdeal.main_arg3))
      (m' (c, Proc.devRef .tc Cert.ReferenceIdeal.main_arg4)) (m' (c, Proc.devRef .tc Cert.ReferenceIdeal.main_arg5))
      (m' (c, Proc.devRef .tc Cert.ReferenceIdeal.main_arg6)) (m' (c, Proc.devRef .tc Cert.ReferenceIdeal.main_arg7))
      (m' (c, Proc.devRef .tc Cert.ReferenceIdeal.main_arg8)) (m' (c, Proc.devRef .tc Cert.ReferenceIdeal.main_arg9))
      (m' (c, Proc.devRef .tc Cert.ReferenceIdeal.main_arg10)),
    (θ_run _ _ _).mono (fun _ h c => ⟨(h.1 c).1.trans ((Cert.Value.launch_eq m c).trans (by
        obtain ⟨h0, h1, h2, h3, h4, h5, h6, h7, h8, h9, h10⟩ := hm c
        exact congr (congr (congr (congr (congr (congr (congr (congr (congr (congr (congrArg Cert.ReferenceIdeal.Line.refF h0.symm) h1.symm) h2.symm) h3.symm)
          h4.symm) h5.symm) h6.symm) h7.symm) h8.symm) h9.symm) h10.symm)), (h.1 c).2⟩) (Cert.KernelIdeal.Blocks.run_value m g),
    (θ_run _ _ _).mono (fun _ h c => ⟨(h.1 c).1, (h.1 c).2 _ (by decide) rfl, (h.1 c).2 _ (by decide) rfl, (h.1 c).2 _ (by decide) rfl, (h.1 c).2 _ (by decide) rfl,
      (h.1 c).2 _ (by decide) rfl, (h.1 c).2 _ (by decide) rfl, (h.1 c).2 _ (by decide) rfl, (h.1 c).2 _ (by decide) rfl, (h.1 c).2 _ (by decide) rfl,
      (h.1 c).2 _ (by decide) rfl, (h.1 c).2 _ (by decide) rfl⟩) (Cert.ReferenceIdeal.Line.run_value m' g')⟩

end Cert.Proof

end
-- ==== Proof.lean ====
module

public import proofs.«01_k».proof.Defs
public import proofs.«01_k».proof.Proof.Frames

@[expose] public section

noncomputable section

namespace Cert.Proof

/-- Every claim of the certificate. -/
theorem claim : Cert.Claim := ⟨Cert.Kernel.Gen.facts, Cert.KernelIdeal.Gen.facts, Cert.ReferenceIdeal.Line.facts,
  frame_kernel, frame_kernelIdeal, frame_referenceIdeal, preserved, algebraic⟩

end Cert.Proof

end
